-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v71_0)) (v1 : (c : Dev Cert.Kernel2Ideal.nD) → Buf (Elt Ideal) ((c.tc : Thread Cert.Kernel2Ideal.nD Cert.Kernel2Ideal.τ).loc Cert.Kernel2Ideal.main_v71_1)) (v2 : (c : Dev Cert.Kernel2Ideal.nD) → Buf (Elt Ideal) ((c.tc : Thread Cert.Kernel2Ideal.nD Cert.Kernel2Ideal.τ).loc Cert.Kernel2Ideal.main_v71_2)) (v3 : (c : Dev Cert.Kernel2Ideal.nD) → Buf (Elt Ideal) ((c.tc : Thread Cert.Kernel2Ideal.nD Cert.Kernel2Ideal.τ).loc Cert.Kernel2Ideal.main_v71_3)) (v4 : (c : Dev Cert.Kernel2Ideal.nD) → Buf (Elt Ideal) ((c.tc : Thread Cert.Kernel2Ideal.nD Cert.Kernel2Ideal.τ).loc Cert.Kernel2Ideal.main_v71_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v71_0) = v0 c
          ∧ r.2.mem ((c.tc : Thread Cert.Kernel2Ideal.nD Cert.Kernel2Ideal.τ).loc Cert.Kernel2Ideal.main_v71_1) = v1 c
          ∧ r.2.mem ((c.tc : Thread Cert.Kernel2Ideal.nD Cert.Kernel2Ideal.τ).loc Cert.Kernel2Ideal.main_v71_2) = v2 c
          ∧ r.2.mem ((c.tc : Thread Cert.Kernel2Ideal.nD Cert.Kernel2Ideal.τ).loc Cert.Kernel2Ideal.main_v71_3) = v3 c
          ∧ r.2.mem ((c.tc : Thread Cert.Kernel2Ideal.nD Cert.Kernel2Ideal.τ).loc Cert.Kernel2Ideal.main_v71_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v66) = v0 c
          ∧ r.2.mem ((c.tc : Thread Cert.Reference2Ideal.nD Cert.Reference2Ideal.τ).loc Cert.Reference2Ideal.main_v24) = v1 c
          ∧ r.2.mem ((c.tc : Thread Cert.Reference2Ideal.nD Cert.Reference2Ideal.τ).loc Cert.Reference2Ideal.main_v26) = v2 c
          ∧ r.2.mem ((c.tc : Thread Cert.Reference2Ideal.nD Cert.Reference2Ideal.τ).loc Cert.Reference2Ideal.main_v27) = v3 c
          ∧ r.2.mem ((c.tc : Thread Cert.Reference2Ideal.nD Cert.Reference2Ideal.τ).loc Cert.Reference2Ideal.main_v67) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S2x8192x8x64 : Shape := ⟨4, ![2, 8192, 8, 64]⟩
abbrev S2x8192x8 : Shape := ⟨3, ![2, 8192, 8]⟩
abbrev S_ : Shape := ⟨0, ![]⟩

class Facts : Prop where
  bcast_S_S2x8192x8x64 : S_.BroadcastsInDim S2x8192x8x64 (![] : Fin 0 → Fin S2x8192x8x64.rank)
  bcast_S_S2x8192x8 : S_.BroadcastsInDim S2x8192x8 (![] : Fin 0 → Fin S2x8192x8.rank)

variable [Facts]

def fn {F : FTy → Type} [FloatOps F] (main_arg0 : FVec F S2x8192x8x64 .f32) (main_arg1 : FVec F S2x8192x8x64 .f32) (main_arg2 : FVec F S2x8192x8x64 .f32) (main_arg3 : FVec F S2x8192x8 .f32) : IVec S2x8192x8x64 1 × IVec S2x8192x8x64 1 × IVec S2x8192x8 1 :=
  let main_v0 : FVec F S2x8192x8x64 .f32 := Host.absf main_arg0
  let main_cst : FVec F S_ .f32 := constant S_ .f32 0x7F800000#32
  let main_v1 : FVec F S2x8192x8x64 .f32 := broadcastInDim S2x8192x8x64 ![] bcast_S_S2x8192x8x64 main_cst
  let main_v2 : IVec S2x8192x8x64 1 := cmpf .olt main_v0 main_v1
  let main_v3 : FVec F S2x8192x8x64 .f32 := Host.absf main_arg1
  let main_cst_0 : FVec F S_ .f32 := constant S_ .f32 0x7F800000#32
  let main_v4 : FVec F S2x8192x8x64 .f32 := broadcastInDim S2x8192x8x64 ![] bcast_S_S2x8192x8x64 main_cst_0
  let main_v5 : IVec S2x8192x8x64 1 := cmpf .olt main_v3 main_v4
  let main_v6 : FVec F S2x8192x8 .f32 := Host.absf main_arg3
  let main_cst_1 : FVec F S_ .f32 := constant S_ .f32 0x7F800000#32
  let main_v7 : FVec F S2x8192x8 .f32 := broadcastInDim S2x8192x8 ![] bcast_S_S2x8192x8 main_cst_1
  let main_v8 : IVec S2x8192x8 1 := cmpf .olt main_v6 main_v7
  (main_v2, main_v5, main_v8)
-- ==== Kernel.lean ====
abbrev S2x8192x8x64 : Shape := ⟨4, ![2, 8192, 8, 64]⟩
abbrev S2x8192x8 : Shape := ⟨3, ![2, 8192, 8]⟩
abbrev S_ : Shape := ⟨0, ![]⟩
abbrev S2x8x64x8192 : Shape := ⟨4, ![2, 8, 64, 8192]⟩
abbrev S2x512x8192 : Shape := ⟨3, ![2, 512, 8192]⟩
abbrev S2x8192x8x1 : Shape := ⟨4, ![2, 8192, 8, 1]⟩
abbrev S2x8192x8x3 : Shape := ⟨4, ![2, 8192, 8, 3]⟩
abbrev S2x8192x8x10 : Shape := ⟨4, ![2, 8192, 8, 10]⟩
abbrev S2x8192x8x16 : Shape := ⟨4, ![2, 8192, 8, 16]⟩
abbrev S2x8x16x8192 : Shape := ⟨4, ![2, 8, 16, 8192]⟩
abbrev S2x128x8192 : Shape := ⟨3, ![2, 128, 8192]⟩
abbrev S2x8192x8x58 : Shape := ⟨4, ![2, 8192, 8, 58]⟩
abbrev S2x8192x8x128 : Shape := ⟨4, ![2, 8192, 8, 128]⟩
abbrev S2x32x256x8x64 : Shape := ⟨5, ![2, 32, 256, 8, 64]⟩
abbrev S2x8x32x64x256 : Shape := ⟨5, ![2, 8, 32, 64, 256]⟩
abbrev S2x8192x1024 : Shape := ⟨3, ![2, 8192, 1024]⟩
abbrev S1x256x256 : Shape := ⟨3, ![1, 256, 256]⟩
abbrev S1x64x256 : Shape := ⟨3, ![1, 64, 256]⟩
abbrev S1x8192x512 : Shape := ⟨3, ![1, 8192, 512]⟩
abbrev S1x4x32x64x256 : Shape := ⟨5, ![1, 4, 32, 64, 256]⟩
abbrev S4x128x256 : Shape := ⟨3, ![4, 128, 256]⟩
abbrev S64x256 : Shape := ⟨2, ![64, 256]⟩
abbrev S16x256 : Shape := ⟨2, ![16, 256]⟩
abbrev S1x16x256 : Shape := ⟨3, ![1, 16, 256]⟩
abbrev S48x256 : Shape := ⟨2, ![48, 256]⟩
abbrev S1x48x256 : Shape := ⟨3, ![1, 48, 256]⟩
abbrev S1x128x256 : Shape := ⟨3, ![1, 128, 256]⟩
abbrev S128x256 : Shape := ⟨2, ![128, 256]⟩
abbrev S256x256 : Shape := ⟨2, ![256, 256]⟩
abbrev S1x256 : Shape := ⟨2, ![1, 256]⟩
abbrev S1x256x512 : Shape := ⟨3, ![1, 256, 512]⟩
abbrev S256x512 : Shape := ⟨2, ![256, 512]⟩
abbrev S256x128 : Shape := ⟨2, ![256, 128]⟩
abbrev S256 : Shape := ⟨1, ![256]⟩
abbrev S1x1x1x64x256 : Shape := ⟨5, ![1, 1, 1, 64, 256]⟩

abbrev nBuf : Space → Nat
  | .hbm => 48
  | .vmem => 11
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x8x64, .f32⟩
  | .hbm, ⟨2, _⟩ => ⟨S2x8192x8x64, .f32⟩
  | .hbm, ⟨3, _⟩ => ⟨S2x8192x8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2x8192x8, .f32⟩
  | .hbm, ⟨13, _⟩ => ⟨S2x8192x8, .f32⟩
  | .hbm, ⟨14, _⟩ => ⟨S2x8192x8, .f32⟩
  | .hbm, ⟨15, _⟩ => ⟨S2x8192x8, .bf16⟩
  | .hbm, ⟨16, _⟩ => ⟨S2x8192x8, .f32⟩
  | .hbm, ⟨17, _⟩ => ⟨S2x8192x8, .f32⟩
  | .hbm, ⟨18, _⟩ => ⟨S2x8192x8, .bf16⟩
  | .hbm, ⟨19, _⟩ => ⟨S2x8192x8, .f32⟩
  | .hbm, ⟨20, _⟩ => ⟨S2x8192x8, .f32⟩
  | .hbm, ⟨21, _⟩ => ⟨S2x8192x8, .bf16⟩
  | .hbm, ⟨22, _⟩ => ⟨S2x8192x8x64, .f32⟩
  | .hbm, ⟨23, _⟩ => ⟨S2x8192x8x64, .f32⟩
  | .hbm, ⟨24, _⟩ => ⟨S2x8x64x8192, .f32⟩
  | .hbm, ⟨25, _⟩ => ⟨S2x512x8192, .f32⟩
  | .hbm, ⟨26, _⟩ => ⟨S2x512x8192, .bf16⟩
  | .hbm, ⟨27, _⟩ => ⟨S2x8192x8x1, .bf16⟩
  | .hbm, ⟨28, _⟩ => ⟨S2x8192x8x1, .bf16⟩
  | .hbm, ⟨29, _⟩ => ⟨S2x8192x8x1, .bf16⟩
  | .hbm, ⟨30, _⟩ => ⟨S2x8192x8x3, .bf16⟩
  | .hbm, ⟨31, _⟩ => ⟨S_, .bf16⟩
  | .hbm, ⟨32, _⟩ => ⟨S2x8192x8x3, .bf16⟩
  | .hbm, ⟨33, _⟩ => ⟨S_, .bf16⟩
  | .hbm, ⟨34, _⟩ => ⟨S2x8192x8x10, .bf16⟩
  | .hbm, ⟨35, _⟩ => ⟨S2x8192x8x16, .bf16⟩
  | .hbm, ⟨36, _⟩ => ⟨S2x8x16x8192, .bf16⟩
  | .hbm, ⟨37, _⟩ => ⟨S2x128x8192, .bf16⟩
  | .hbm, ⟨38, _⟩ => ⟨S2x8192x8x64, .bf16⟩
  | .hbm, ⟨39, _⟩ => ⟨S2x8192x8x3, .bf16⟩
  | .hbm, ⟨40, _⟩ => ⟨S_, .bf16⟩
  | .hbm, ⟨41, _⟩ => ⟨S2x8192x8x58, .bf16⟩
  | .hbm, ⟨42, _⟩ => ⟨S2x8192x8x128, .bf16⟩
  | .hbm, ⟨43, _⟩ => ⟨S2x32x256x8x64, .f32⟩
  | .hbm, ⟨44, _⟩ => ⟨S2x8x32x64x256, .f32⟩
  | .hbm, ⟨45, _⟩ => ⟨S2x8x32x64x256, .bf16⟩
  | .hbm, ⟨46, _⟩ => ⟨S2x8192x1024, .bf16⟩
  | .hbm, ⟨47, _⟩ => ⟨S2x512x8192, .f32⟩
  | .local _ .vmem, ⟨0, _⟩ => ⟨S1x256x256, .bf16⟩
  | .local _ .vmem, ⟨1, _⟩ => ⟨S1x256x256, .bf16⟩
  | .local _ .vmem, ⟨2, _⟩ => ⟨S1x64x256, .bf16⟩
  | .local _ .vmem, ⟨3, _⟩ => ⟨S1x64x256, .bf16⟩
  | .local _ .vmem, ⟨4, _⟩ => ⟨S1x8192x512, .bf16⟩
  | .local _ .vmem, ⟨5, _⟩ => ⟨S1x8192x512, .bf16⟩
  | .local _ .vmem, ⟨6, _⟩ => ⟨S1x4x32x64x256, .bf16⟩
  | .local _ .vmem, ⟨7, _⟩ => ⟨S1x4x32x64x256, .bf16⟩
  | .local _ .vmem, ⟨8, _⟩ => ⟨S1x256x256, .f32⟩
  | .local _ .vmem, ⟨9, _⟩ => ⟨S1x256x256, .f32⟩
  | .local _ .vmem, ⟨10, _⟩ => ⟨S4x128x256, .bf16⟩
  | _, _ => ⟨S2x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_call0_call0_cst : Ref sig .tc := ⟨.hbm, 10, rfl⟩
abbrev main_call0_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 2, 32], ![false, false, false]⟩

def k0_mult1 (i : grid0.Coords) : BitVec 32 :=
  let arg2 : BitVec 32 := BitVec.ofNat 32 (i 2).val
  let c256_i32 : BitVec 32 := 256#32
  let v86 : BitVec 32 := Scalar.muli arg2 c256_i32
  v86
def k0_off1 (i : grid0.Coords) : Fin 3 → Nat :=
  let c0_73 : Index := 0#32
  let arg2 : BitVec 32 := BitVec.ofNat 32 (i 2).val
  let c256_i32 : BitVec 32 := 256#32
  let v86 : BitVec 32 := Scalar.muli arg2 c256_i32
  let v87 : BitVec 32 := v86
  let v88 : Index := Scalar.indexCast v87
  let c0_74 : Index := 0#32
  ![0, v88.toNat, 0]
def k0_mult2 : BitVec 32 :=
  let c0_i32_75 : BitVec 32 := 0#32
  c0_i32_75
def k0_off2 (i : grid0.Coords) : Fin 5 → Nat :=
  let c0_92 : Index := 0#32
  let c0_93 : Index := 0#32
  let arg2 : BitVec 32 := BitVec.ofNat 32 (i 2).val
  let v136 : Index := Scalar.indexCast arg2
  let c0_94 : Index := 0#32
  let c0_95 : Index := 0#32
  ![0, 0, v136.toNat, 0, 0]
def k0_off3 (i : grid0.Coords) : Fin 5 → Nat :=
  let c0_109 : Index := 0#32
  let c1_110 : Index := 1#32
  let arg2 : BitVec 32 := BitVec.ofNat 32 (i 2).val
  let v174 : Index := Scalar.indexCast arg2
  let c0_111 : Index := 0#32
  let c0_112 : Index := 0#32
  ![0, 1, v174.toNat, 0, 0]
def k0_off4 (i : grid0.Coords) : Fin 5 → Nat :=
  let c0_126 : Index := 0#32
  let c2_127 : Index := 2#32
  let arg2 : BitVec 32 := BitVec.ofNat 32 (i 2).val
  let v212 : Index := Scalar.indexCast arg2
  let c0_128 : Index := 0#32
  let c0_129 : Index := 0#32
  ![0, 2, v212.toNat, 0, 0]
def k0_off5 (i : grid0.Coords) : Fin 5 → Nat :=
  let c0_143 : Index := 0#32
  let c3_144 : Index := 3#32
  let arg2 : BitVec 32 := BitVec.ofNat 32 (i 2).val
  let v250 : Index := Scalar.indexCast arg2
  let c0_145 : Index := 0#32
  let c0_146 : Index := 0#32
  ![0, 3, v250.toNat, 0, 0]
@[reducible] def k0_t1_loop (i : grid0.Coords) : Scf.Loop 32 :=
  let c0_i32_162 : BitVec 32 := 0#32
  let arg2 : BitVec 32 := BitVec.ofNat 32 (i 2).val
  let c0_i32_156 : BitVec 32 := 0#32
  let v268 : BitVec 1 := Scalar.cmpi .sgt arg2 c0_i32_156
  let v269 : BitVec 32 := Scalar.extui v268
  let c0_i32_157 : BitVec 32 := 0#32
  let v270 : BitVec 1 := Scalar.cmpi .slt arg2 c0_i32_157
  let v271 : BitVec 32 := Scalar.extui v270
  let v272 : BitVec 32 := Scalar.subi v269 v271
  let c2_i32_155 : BitVec 32 := 2#32
  let c0_i32_158 : BitVec 32 := 0#32
  let v273 : BitVec 1 := Scalar.cmpi .sgt c2_i32_155 c0_i32_158
  let v274 : BitVec 32 := Scalar.extui v273
  let c0_i32_159 : BitVec 32 := 0#32
  let v275 : BitVec 1 := Scalar.cmpi .slt c2_i32_155 c0_i32_159
  let v276 : BitVec 32 := Scalar.extui v275
  let v277 : BitVec 32 := Scalar.subi v274 v276
  let v278 : BitVec 1 := Scalar.cmpi .ne v272 v277
  let v279 : BitVec 32 := Scalar.remsi arg2 c2_i32_155
  let c0_i32_160 : BitVec 32 := 0#32
  let v280 : BitVec 1 := Scalar.cmpi .ne v279 c0_i32_160
  let v281 : BitVec 1 := Scalar.andi v278 v280
  let v267 : BitVec 32 := Scalar.divsi arg2 c2_i32_155
  let c1_i32_161 : BitVec 32 := 1#32
  let v282 : BitVec 32 := Scalar.subi v267 c1_i32_161
  let v283 : BitVec 32 := Scalar.select v281 v282 v267
  let v284 : BitVec 32 := Scalar.subi v283 c0_i32_162
  let c1_i32_163 : BitVec 32 := 1#32
  let v286 : BitVec 32 := Scalar.divsi v284 c1_i32_163
  let v287 : BitVec 32 := Scalar.muli v286 c1_i32_163
  let v288 : BitVec 32 := Scalar.addi c0_i32_162 v287
  let c1_i32_164 : BitVec 32 := 1#32
  ⟨c0_i32_162, v288, c1_i32_164⟩
def k0_mult3 (i : grid0.Coords) (k0_t1 : Fin (k0_t1_loop i).trips) : BitVec 32 :=
  let arg2 : BitVec 32 := BitVec.ofNat 32 (i 2).val
  let c2_i32 : BitVec 32 := 2#32
  let c0_i32 : BitVec 32 := 0#32
  let v64 : BitVec 1 := Scalar.cmpi .eq c2_i32 c0_i32
  let c1_i32 : BitVec 32 := 1#32
  let v65 : BitVec 32 := Scalar.select v64 c1_i32 c2_i32
  let v66 : BitVec 32 := Scalar.remsi arg2 v65
  let c0_i32_59 : BitVec 32 := 0#32
  let v68 : BitVec 1 := Scalar.cmpi .slt v66 c0_i32_59
  let c0_i32_60 : BitVec 32 := 0#32
  let v69 : BitVec 1 := Scalar.cmpi .slt v65 c0_i32_60
  let v70 : BitVec 1 := Scalar.xori v68 v69
  let c0_i32_58 : BitVec 32 := 0#32
  let v67 : BitVec 1 := Scalar.cmpi .ne v66 c0_i32_58
  let v71 : BitVec 1 := Scalar.andi v70 v67
  let v72 : BitVec 32 := Scalar.addi v66 v65
  let v73 : BitVec 32 := Scalar.select v71 v72 v66
  let c2_i32_178 : BitVec 32 := 2#32
  let c0_i32_162 : BitVec 32 := 0#32
  let c1_i32_164 : BitVec 32 := 1#32
  let arg9 : BitVec 32 := Scf.iv c0_i32_162 c1_i32_164 k0_t1
  let v311 : BitVec 32 := Scalar.muli c2_i32_178 arg9
  let v312 : BitVec 32 := Scalar.addi v73 v311
  let c256_i32_179 : BitVec 32 := 256#32
  let v313 : BitVec 32 := Scalar.muli v312 c256_i32_179
  v313
def k0_off6 (i : grid0.Coords) (k0_t1 : Fin (k0_t1_loop i).trips) : Fin 3 → Nat :=
  let c0_180 : Index := 0#32
  let arg2 : BitVec 32 := BitVec.ofNat 32 (i 2).val
  let c2_i32 : BitVec 32 := 2#32
  let c0_i32 : BitVec 32 := 0#32
  let v64 : BitVec 1 := Scalar.cmpi .eq c2_i32 c0_i32
  let c1_i32 : BitVec 32 := 1#32
  let v65 : BitVec 32 := Scalar.select v64 c1_i32 c2_i32
  let v66 : BitVec 32 := Scalar.remsi arg2 v65
  let c0_i32_59 : BitVec 32 := 0#32
  let v68 : BitVec 1 := Scalar.cmpi .slt v66 c0_i32_59
  let c0_i32_60 : BitVec 32 := 0#32
  let v69 : BitVec 1 := Scalar.cmpi .slt v65 c0_i32_60
  let v70 : BitVec 1 := Scalar.xori v68 v69
  let c0_i32_58 : BitVec 32 := 0#32
  let v67 : BitVec 1 := Scalar.cmpi .ne v66 c0_i32_58
  let v71 : BitVec 1 := Scalar.andi v70 v67
  let v72 : BitVec 32 := Scalar.addi v66 v65
  let v73 : BitVec 32 := Scalar.select v71 v72 v66
  let c2_i32_178 : BitVec 32 := 2#32
  let c0_i32_162 : BitVec 32 := 0#32
  let c1_i32_164 : BitVec 32 := 1#32
  let arg9 : BitVec 32 := Scf.iv c0_i32_162 c1_i32_164 k0_t1
  let v311 : BitVec 32 := Scalar.muli c2_i32_178 arg9
  let v312 : BitVec 32 := Scalar.addi v73 v311
  let c256_i32_179 : BitVec 32 := 256#32
  let v313 : BitVec 32 := Scalar.muli v312 c256_i32_179
  let v314 : BitVec 32 := v313
  let v315 : Index := Scalar.indexCast v314
  let c0_181 : Index := 0#32
  ![0, v315.toNat, 0]
def k0_mult4 (i : grid0.Coords) (k0_t1 : Fin (k0_t1_loop i).trips) : BitVec 32 :=
  let arg2 : BitVec 32 := BitVec.ofNat 32 (i 2).val
  let c2_i32 : BitVec 32 := 2#32
  let c0_i32 : BitVec 32 := 0#32
  let v64 : BitVec 1 := Scalar.cmpi .eq c2_i32 c0_i32
  let c1_i32 : BitVec 32 := 1#32
  let v65 : BitVec 32 := Scalar.select v64 c1_i32 c2_i32
  let v66 : BitVec 32 := Scalar.remsi arg2 v65
  let c0_i32_59 : BitVec 32 := 0#32
  let v68 : BitVec 1 := Scalar.cmpi .slt v66 c0_i32_59
  let c0_i32_60 : BitVec 32 := 0#32
  let v69 : BitVec 1 := Scalar.cmpi .slt v65 c0_i32_60
  let v70 : BitVec 1 := Scalar.xori v68 v69
  let c0_i32_58 : BitVec 32 := 0#32
  let v67 : BitVec 1 := Scalar.cmpi .ne v66 c0_i32_58
  let v71 : BitVec 1 := Scalar.andi v70 v67
  let v72 : BitVec 32 := Scalar.addi v66 v65
  let v73 : BitVec 32 := Scalar.select v71 v72 v66
  let c2_i32_178 : BitVec 32 := 2#32
  let c0_i32_162 : BitVec 32 := 0#32
  let c1_i32_164 : BitVec 32 := 1#32
  let arg9 : BitVec 32 := Scf.iv c0_i32_162 c1_i32_164 k0_t1
  let v311 : BitVec 32 := Scalar.muli c2_i32_178 arg9
  let v312 : BitVec 32 := Scalar.addi v73 v311
  let c1_i32_182 : BitVec 32 := 1#32
  let v318 : BitVec 32 := Scalar.addi v312 c1_i32_182
  let c256_i32_183 : BitVec 32 := 256#32
  let v319 : BitVec 32 := Scalar.muli v318 c256_i32_183
  v319
def k0_off7 (i : grid0.Coords) (k0_t1 : Fin (k0_t1_loop i).trips) : Fin 3 → Nat :=
  let c0_184 : Index := 0#32
  let arg2 : BitVec 32 := BitVec.ofNat 32 (i 2).val
  let c2_i32 : BitVec 32 := 2#32
  let c0_i32 : BitVec 32 := 0#32
  let v64 : BitVec 1 := Scalar.cmpi .eq c2_i32 c0_i32
  let c1_i32 : BitVec 32 := 1#32
  let v65 : BitVec 32 := Scalar.select v64 c1_i32 c2_i32
  let v66 : BitVec 32 := Scalar.remsi arg2 v65
  let c0_i32_59 : BitVec 32 := 0#32
  let v68 : BitVec 1 := Scalar.cmpi .slt v66 c0_i32_59
  let c0_i32_60 : BitVec 32 := 0#32
  let v69 : BitVec 1 := Scalar.cmpi .slt v65 c0_i32_60
  let v70 : BitVec 1 := Scalar.xori v68 v69
  let c0_i32_58 : BitVec 32 := 0#32
  let v67 : BitVec 1 := Scalar.cmpi .ne v66 c0_i32_58
  let v71 : BitVec 1 := Scalar.andi v70 v67
  let v72 : BitVec 32 := Scalar.addi v66 v65
  let v73 : BitVec 32 := Scalar.select v71 v72 v66
  let c2_i32_178 : BitVec 32 := 2#32
  let c0_i32_162 : BitVec 32 := 0#32
  let c1_i32_164 : BitVec 32 := 1#32
  let arg9 : BitVec 32 := Scf.iv c0_i32_162 c1_i32_164 k0_t1
  let v311 : BitVec 32 := Scalar.muli c2_i32_178 arg9
  let v312 : BitVec 32 := Scalar.addi v73 v311
  let c1_i32_182 : BitVec 32 := 1#32
  let v318 : BitVec 32 := Scalar.addi v312 c1_i32_182
  let c256_i32_183 : BitVec 32 := 256#32
  let v319 : BitVec 32 := Scalar.muli v318 c256_i32_183
  let v320 : BitVec 32 := v319
  let v321 : Index := Scalar.indexCast v320
  let c0_185 : Index := 0#32
  ![0, v321.toNat, 0]
def k0_off8 (i : grid0.Coords) (k0_t1 : Fin (k0_t1_loop i).trips) : Fin 5 → Nat :=
  let c0_198 : Index := 0#32
  let c0_199 : Index := 0#32
  let arg2 : BitVec 32 := BitVec.ofNat 32 (i 2).val
  let c2_i32 : BitVec 32 := 2#32
  let c0_i32 : BitVec 32 := 0#32
  let v64 : BitVec 1 := Scalar.cmpi .eq c2_i32 c0_i32
  let c1_i32 : BitVec 32 := 1#32
  let v65 : BitVec 32 := Scalar.select v64 c1_i32 c2_i32
  let v66 : BitVec 32 := Scalar.remsi arg2 v65
  let c0_i32_59 : BitVec 32 := 0#32
  let v68 : BitVec 1 := Scalar.cmpi .slt v66 c0_i32_59
  let c0_i32_60 : BitVec 32 := 0#32
  let v69 : BitVec 1 := Scalar.cmpi .slt v65 c0_i32_60
  let v70 : BitVec 1 := Scalar.xori v68 v69
  let c0_i32_58 : BitVec 32 := 0#32
  let v67 : BitVec 1 := Scalar.cmpi .ne v66 c0_i32_58
  let v71 : BitVec 1 := Scalar.andi v70 v67
  let v72 : BitVec 32 := Scalar.addi v66 v65
  let v73 : BitVec 32 := Scalar.select v71 v72 v66
  let c2_i32_178 : BitVec 32 := 2#32
  let c0_i32_162 : BitVec 32 := 0#32
  let c1_i32_164 : BitVec 32 := 1#32
  let arg9 : BitVec 32 := Scf.iv c0_i32_162 c1_i32_164 k0_t1
  let v311 : BitVec 32 := Scalar.muli c2_i32_178 arg9
  let v312 : BitVec 32 := Scalar.addi v73 v311
  let v358 : Index := Scalar.indexCast v312
  let c0_200 : Index := 0#32
  let c0_201 : Index := 0#32
  ![0, 0, v358.toNat, 0, 0]
def k0_off9 (i : grid0.Coords) (k0_t1 : Fin (k0_t1_loop i).trips) : Fin 5 → Nat :=
  let c0_204 : Index := 0#32
  let c0_205 : Index := 0#32
  let arg2 : BitVec 32 := BitVec.ofNat 32 (i 2).val
  let c2_i32 : BitVec 32 := 2#32
  let c0_i32 : BitVec 32 := 0#32
  let v64 : BitVec 1 := Scalar.cmpi .eq c2_i32 c0_i32
  let c1_i32 : BitVec 32 := 1#32
  let v65 : BitVec 32 := Scalar.select v64 c1_i32 c2_i32
  let v66 : BitVec 32 := Scalar.remsi arg2 v65
  let c0_i32_59 : BitVec 32 := 0#32
  let v68 : BitVec 1 := Scalar.cmpi .slt v66 c0_i32_59
  let c0_i32_60 : BitVec 32 := 0#32
  let v69 : BitVec 1 := Scalar.cmpi .slt v65 c0_i32_60
  let v70 : BitVec 1 := Scalar.xori v68 v69
  let c0_i32_58 : BitVec 32 := 0#32
  let v67 : BitVec 1 := Scalar.cmpi .ne v66 c0_i32_58
  let v71 : BitVec 1 := Scalar.andi v70 v67
  let v72 : BitVec 32 := Scalar.addi v66 v65
  let v73 : BitVec 32 := Scalar.select v71 v72 v66
  let c2_i32_178 : BitVec 32 := 2#32
  let c0_i32_162 : BitVec 32 := 0#32
  let c1_i32_164 : BitVec 32 := 1#32
  let arg9 : BitVec 32 := Scf.iv c0_i32_162 c1_i32_164 k0_t1
  let v311 : BitVec 32 := Scalar.muli c2_i32_178 arg9
  let v312 : BitVec 32 := Scalar.addi v73 v311
  let c1_i32_186 : BitVec 32 := 1#32
  let v324 : BitVec 32 := Scalar.addi v312 c1_i32_186
  let v370 : Index := Scalar.indexCast v324
  let c0_206 : Index := 0#32
  let c0_207 : Index := 0#32
  ![0, 0, v370.toNat, 0, 0]
def k0_off10 (i : grid0.Coords) (k0_t1 : Fin (k0_t1_loop i).trips) : Fin 5 → Nat :=
  let c0_212 : Index := 0#32
  let c1_213 : Index := 1#32
  let arg2 : BitVec 32 := BitVec.ofNat 32 (i 2).val
  let c2_i32 : BitVec 32 := 2#32
  let c0_i32 : BitVec 32 := 0#32
  let v64 : BitVec 1 := Scalar.cmpi .eq c2_i32 c0_i32
  let c1_i32 : BitVec 32 := 1#32
  let v65 : BitVec 32 := Scalar.select v64 c1_i32 c2_i32
  let v66 : BitVec 32 := Scalar.remsi arg2 v65
  let c0_i32_59 : BitVec 32 := 0#32
  let v68 : BitVec 1 := Scalar.cmpi .slt v66 c0_i32_59
  let c0_i32_60 : BitVec 32 := 0#32
  let v69 : BitVec 1 := Scalar.cmpi .slt v65 c0_i32_60
  let v70 : BitVec 1 := Scalar.xori v68 v69
  let c0_i32_58 : BitVec 32 := 0#32
  let v67 : BitVec 1 := Scalar.cmpi .ne v66 c0_i32_58
  let v71 : BitVec 1 := Scalar.andi v70 v67
  let v72 : BitVec 32 := Scalar.addi v66 v65
  let v73 : BitVec 32 := Scalar.select v71 v72 v66
  let c2_i32_178 : BitVec 32 := 2#32
  let c0_i32_162 : BitVec 32 := 0#32
  let c1_i32_164 : BitVec 32 := 1#32
  let arg9 : BitVec 32 := Scf.iv c0_i32_162 c1_i32_164 k0_t1
  let v311 : BitVec 32 := Scalar.muli c2_i32_178 arg9
  let v312 : BitVec 32 := Scalar.addi v73 v311
  let v393 : Index := Scalar.indexCast v312
  let c0_214 : Index := 0#32
  let c0_215 : Index := 0#32
  ![0, 1, v393.toNat, 0, 0]
def k0_off11 (i : grid0.Coords) (k0_t1 : Fin (k0_t1_loop i).trips) : Fin 5 → Nat :=
  let c0_218 : Index := 0#32
  let c1_219 : Index := 1#32
  let arg2 : BitVec 32 := BitVec.ofNat 32 (i 2).val
  let c2_i32 : BitVec 32 := 2#32
  let c0_i32 : BitVec 32 := 0#32
  let v64 : BitVec 1 := Scalar.cmpi .eq c2_i32 c0_i32
  let c1_i32 : BitVec 32 := 1#32
  let v65 : BitVec 32 := Scalar.select v64 c1_i32 c2_i32
  let v66 : BitVec 32 := Scalar.remsi arg2 v65
  let c0_i32_59 : BitVec 32 := 0#32
  let v68 : BitVec 1 := Scalar.cmpi .slt v66 c0_i32_59
  let c0_i32_60 : BitVec 32 := 0#32
  let v69 : BitVec 1 := Scalar.cmpi .slt v65 c0_i32_60
  let v70 : BitVec 1 := Scalar.xori v68 v69
  let c0_i32_58 : BitVec 32 := 0#32
  let v67 : BitVec 1 := Scalar.cmpi .ne v66 c0_i32_58
  let v71 : BitVec 1 := Scalar.andi v70 v67
  let v72 : BitVec 32 := Scalar.addi v66 v65
  let v73 : BitVec 32 := Scalar.select v71 v72 v66
  let c2_i32_178 : BitVec 32 := 2#32
  let c0_i32_162 : BitVec 32 := 0#32
  let c1_i32_164 : BitVec 32 := 1#32
  let arg9 : BitVec 32 := Scf.iv c0_i32_162 c1_i32_164 k0_t1
  let v311 : BitVec 32 := Scalar.muli c2_i32_178 arg9
  let v312 : BitVec 32 := Scalar.addi v73 v311
  let c1_i32_186 : BitVec 32 := 1#32
  let v324 : BitVec 32 := Scalar.addi v312 c1_i32_186
  let v405 : Index := Scalar.indexCast v324
  let c0_220 : Index := 0#32
  let c0_221 : Index := 0#32
  ![0, 1, v405.toNat, 0, 0]
def k0_off12 (i : grid0.Coords) (k0_t1 : Fin (k0_t1_loop i).trips) : Fin 5 → Nat :=
  let c0_226 : Index := 0#32
  let c2_227 : Index := 2#32
  let arg2 : BitVec 32 := BitVec.ofNat 32 (i 2).val
  let c2_i32 : BitVec 32 := 2#32
  let c0_i32 : BitVec 32 := 0#32
  let v64 : BitVec 1 := Scalar.cmpi .eq c2_i32 c0_i32
  let c1_i32 : BitVec 32 := 1#32
  let v65 : BitVec 32 := Scalar.select v64 c1_i32 c2_i32
  let v66 : BitVec 32 := Scalar.remsi arg2 v65
  let c0_i32_59 : BitVec 32 := 0#32
  let v68 : BitVec 1 := Scalar.cmpi .slt v66 c0_i32_59
  let c0_i32_60 : BitVec 32 := 0#32
  let v69 : BitVec 1 := Scalar.cmpi .slt v65 c0_i32_60
  let v70 : BitVec 1 := Scalar.xori v68 v69
  let c0_i32_58 : BitVec 32 := 0#32
  let v67 : BitVec 1 := Scalar.cmpi .ne v66 c0_i32_58
  let v71 : BitVec 1 := Scalar.andi v70 v67
  let v72 : BitVec 32 := Scalar.addi v66 v65
  let v73 : BitVec 32 := Scalar.select v71 v72 v66
  let c2_i32_178 : BitVec 32 := 2#32
  let c0_i32_162 : BitVec 32 := 0#32
  let c1_i32_164 : BitVec 32 := 1#32
  let arg9 : BitVec 32 := Scf.iv c0_i32_162 c1_i32_164 k0_t1
  let v311 : BitVec 32 := Scalar.muli c2_i32_178 arg9
  let v312 : BitVec 32 := Scalar.addi v73 v311
  let v428 : Index := Scalar.indexCast v312
  let c0_228 : Index := 0#32
  let c0_229 : Index := 0#32
  ![0, 2, v428.toNat, 0, 0]
def k0_off13 (i : grid0.Coords) (k0_t1 : Fin (k0_t1_loop i).trips) : Fin 5 → Nat :=
  let c0_232 : Index := 0#32
  let c2_233 : Index := 2#32
  let arg2 : BitVec 32 := BitVec.ofNat 32 (i 2).val
  let c2_i32 : BitVec 32 := 2#32
  let c0_i32 : BitVec 32 := 0#32
  let v64 : BitVec 1 := Scalar.cmpi .eq c2_i32 c0_i32
  let c1_i32 : BitVec 32 := 1#32
  let v65 : BitVec 32 := Scalar.select v64 c1_i32 c2_i32
  let v66 : BitVec 32 := Scalar.remsi arg2 v65
  let c0_i32_59 : BitVec 32 := 0#32
  let v68 : BitVec 1 := Scalar.cmpi .slt v66 c0_i32_59
  let c0_i32_60 : BitVec 32 := 0#32
  let v69 : BitVec 1 := Scalar.cmpi .slt v65 c0_i32_60
  let v70 : BitVec 1 := Scalar.xori v68 v69
  let c0_i32_58 : BitVec 32 := 0#32
  let v67 : BitVec 1 := Scalar.cmpi .ne v66 c0_i32_58
  let v71 : BitVec 1 := Scalar.andi v70 v67
  let v72 : BitVec 32 := Scalar.addi v66 v65
  let v73 : BitVec 32 := Scalar.select v71 v72 v66
  let c2_i32_178 : BitVec 32 := 2#32
  let c0_i32_162 : BitVec 32 := 0#32
  let c1_i32_164 : BitVec 32 := 1#32
  let arg9 : BitVec 32 := Scf.iv c0_i32_162 c1_i32_164 k0_t1
  let v311 : BitVec 32 := Scalar.muli c2_i32_178 arg9
  let v312 : BitVec 32 := Scalar.addi v73 v311
  let c1_i32_186 : BitVec 32 := 1#32
  let v324 : BitVec 32 := Scalar.addi v312 c1_i32_186
  let v440 : Index := Scalar.indexCast v324
  let c0_234 : Index := 0#32
  let c0_235 : Index := 0#32
  ![0, 2, v440.toNat, 0, 0]
def k0_off14 (i : grid0.Coords) (k0_t1 : Fin (k0_t1_loop i).trips) : Fin 5 → Nat :=
  let c0_240 : Index := 0#32
  let c3_241 : Index := 3#32
  let arg2 : BitVec 32 := BitVec.ofNat 32 (i 2).val
  let c2_i32 : BitVec 32 := 2#32
  let c0_i32 : BitVec 32 := 0#32
  let v64 : BitVec 1 := Scalar.cmpi .eq c2_i32 c0_i32
  let c1_i32 : BitVec 32 := 1#32
  let v65 : BitVec 32 := Scalar.select v64 c1_i32 c2_i32
  let v66 : BitVec 32 := Scalar.remsi arg2 v65
  let c0_i32_59 : BitVec 32 := 0#32
  let v68 : BitVec 1 := Scalar.cmpi .slt v66 c0_i32_59
  let c0_i32_60 : BitVec 32 := 0#32
  let v69 : BitVec 1 := Scalar.cmpi .slt v65 c0_i32_60
  let v70 : BitVec 1 := Scalar.xori v68 v69
  let c0_i32_58 : BitVec 32 := 0#32
  let v67 : BitVec 1 := Scalar.cmpi .ne v66 c0_i32_58
  let v71 : BitVec 1 := Scalar.andi v70 v67
  let v72 : BitVec 32 := Scalar.addi v66 v65
  let v73 : BitVec 32 := Scalar.select v71 v72 v66
  let c2_i32_178 : BitVec 32 := 2#32
  let c0_i32_162 : BitVec 32 := 0#32
  let c1_i32_164 : BitVec 32 := 1#32
  let arg9 : BitVec 32 := Scf.iv c0_i32_162 c1_i32_164 k0_t1
  let v311 : BitVec 32 := Scalar.muli c2_i32_178 arg9
  let v312 : BitVec 32 := Scalar.addi v73 v311
  let v463 : Index := Scalar.indexCast v312
  let c0_242 : Index := 0#32
  let c0_243 : Index := 0#32
  ![0, 3, v463.toNat, 0, 0]
def k0_off15 (i : grid0.Coords) (k0_t1 : Fin (k0_t1_loop i).trips) : Fin 5 → Nat :=
  let c0_246 : Index := 0#32
  let c3_247 : Index := 3#32
  let arg2 : BitVec 32 := BitVec.ofNat 32 (i 2).val
  let c2_i32 : BitVec 32 := 2#32
  let c0_i32 : BitVec 32 := 0#32
  let v64 : BitVec 1 := Scalar.cmpi .eq c2_i32 c0_i32
  let c1_i32 : BitVec 32 := 1#32
  let v65 : BitVec 32 := Scalar.select v64 c1_i32 c2_i32
  let v66 : BitVec 32 := Scalar.remsi arg2 v65
  let c0_i32_59 : BitVec 32 := 0#32
  let v68 : BitVec 1 := Scalar.cmpi .slt v66 c0_i32_59
  let c0_i32_60 : BitVec 32 := 0#32
  let v69 : BitVec 1 := Scalar.cmpi .slt v65 c0_i32_60
  let v70 : BitVec 1 := Scalar.xori v68 v69
  let c0_i32_58 : BitVec 32 := 0#32
  let v67 : BitVec 1 := Scalar.cmpi .ne v66 c0_i32_58
  let v71 : BitVec 1 := Scalar.andi v70 v67
  let v72 : BitVec 32 := Scalar.addi v66 v65
  let v73 : BitVec 32 := Scalar.select v71 v72 v66
  let c2_i32_178 : BitVec 32 := 2#32
  let c0_i32_162 : BitVec 32 := 0#32
  let c1_i32_164 : BitVec 32 := 1#32
  let arg9 : BitVec 32 := Scf.iv c0_i32_162 c1_i32_164 k0_t1
  let v311 : BitVec 32 := Scalar.muli c2_i32_178 arg9
  let v312 : BitVec 32 := Scalar.addi v73 v311
  let c1_i32_186 : BitVec 32 := 1#32
  let v324 : BitVec 32 := Scalar.addi v312 c1_i32_186
  let v475 : Index := Scalar.indexCast v324
  let c0_248 : Index := 0#32
  let c0_249 : Index := 0#32
  ![0, 3, v475.toNat, 0, 0]
@[reducible] def k0_t2_loop (i : grid0.Coords) : Scf.Loop 32 :=
  let c0_i32_162 : BitVec 32 := 0#32
  let arg2 : BitVec 32 := BitVec.ofNat 32 (i 2).val
  let c0_i32_156 : BitVec 32 := 0#32
  let v268 : BitVec 1 := Scalar.cmpi .sgt arg2 c0_i32_156
  let v269 : BitVec 32 := Scalar.extui v268
  let c0_i32_157 : BitVec 32 := 0#32
  let v270 : BitVec 1 := Scalar.cmpi .slt arg2 c0_i32_157
  let v271 : BitVec 32 := Scalar.extui v270
  let v272 : BitVec 32 := Scalar.subi v269 v271
  let c2_i32_155 : BitVec 32 := 2#32
  let c0_i32_158 : BitVec 32 := 0#32
  let v273 : BitVec 1 := Scalar.cmpi .sgt c2_i32_155 c0_i32_158
  let v274 : BitVec 32 := Scalar.extui v273
  let c0_i32_159 : BitVec 32 := 0#32
  let v275 : BitVec 1 := Scalar.cmpi .slt c2_i32_155 c0_i32_159
  let v276 : BitVec 32 := Scalar.extui v275
  let v277 : BitVec 32 := Scalar.subi v274 v276
  let v278 : BitVec 1 := Scalar.cmpi .ne v272 v277
  let v279 : BitVec 32 := Scalar.remsi arg2 c2_i32_155
  let c0_i32_160 : BitVec 32 := 0#32
  let v280 : BitVec 1 := Scalar.cmpi .ne v279 c0_i32_160
  let v281 : BitVec 1 := Scalar.andi v278 v280
  let v267 : BitVec 32 := Scalar.divsi arg2 c2_i32_155
  let c1_i32_161 : BitVec 32 := 1#32
  let v282 : BitVec 32 := Scalar.subi v267 c1_i32_161
  let v283 : BitVec 32 := Scalar.select v281 v282 v267
  let v284 : BitVec 32 := Scalar.subi v283 c0_i32_162
  let c1_i32_163 : BitVec 32 := 1#32
  let v286 : BitVec 32 := Scalar.divsi v284 c1_i32_163
  let v287 : BitVec 32 := Scalar.muli v286 c1_i32_163
  let v288 : BitVec 32 := Scalar.addi c0_i32_162 v287
  let v285 : BitVec 32 := Scalar.addi c0_i32_162 v284
  let c1_i32_165 : BitVec 32 := 1#32
  ⟨v288, v285, c1_i32_165⟩
def k0_mult5 (i : grid0.Coords) (k0_t2 : Fin (k0_t2_loop i).trips) : BitVec 32 :=
  let arg2 : BitVec 32 := BitVec.ofNat 32 (i 2).val
  let c2_i32 : BitVec 32 := 2#32
  let c0_i32 : BitVec 32 := 0#32
  let v64 : BitVec 1 := Scalar.cmpi .eq c2_i32 c0_i32
  let c1_i32 : BitVec 32 := 1#32
  let v65 : BitVec 32 := Scalar.select v64 c1_i32 c2_i32
  let v66 : BitVec 32 := Scalar.remsi arg2 v65
  let c0_i32_59 : BitVec 32 := 0#32
  let v68 : BitVec 1 := Scalar.cmpi .slt v66 c0_i32_59
  let c0_i32_60 : BitVec 32 := 0#32
  let v69 : BitVec 1 := Scalar.cmpi .slt v65 c0_i32_60
  let v70 : BitVec 1 := Scalar.xori v68 v69
  let c0_i32_58 : BitVec 32 := 0#32
  let v67 : BitVec 1 := Scalar.cmpi .ne v66 c0_i32_58
  let v71 : BitVec 1 := Scalar.andi v70 v67
  let v72 : BitVec 32 := Scalar.addi v66 v65
  let v73 : BitVec 32 := Scalar.select v71 v72 v66
  let c2_i32_178 : BitVec 32 := 2#32
  let c0_i32_162 : BitVec 32 := 0#32
  let c0_i32_156 : BitVec 32 := 0#32
  let v268 : BitVec 1 := Scalar.cmpi .sgt arg2 c0_i32_156
  let v269 : BitVec 32 := Scalar.extui v268
  let c0_i32_157 : BitVec 32 := 0#32
  let v270 : BitVec 1 := Scalar.cmpi .slt arg2 c0_i32_157
  let v271 : BitVec 32 := Scalar.extui v270
  let v272 : BitVec 32 := Scalar.subi v269 v271
  let c2_i32_155 : BitVec 32 := 2#32
  let c0_i32_158 : BitVec 32 := 0#32
  let v273 : BitVec 1 := Scalar.cmpi .sgt c2_i32_155 c0_i32_158
  let v274 : BitVec 32 := Scalar.extui v273
  let c0_i32_159 : BitVec 32 := 0#32
  let v275 : BitVec 1 := Scalar.cmpi .slt c2_i32_155 c0_i32_159
  let v276 : BitVec 32 := Scalar.extui v275
  let v277 : BitVec 32 := Scalar.subi v274 v276
  let v278 : BitVec 1 := Scalar.cmpi .ne v272 v277
  let v279 : BitVec 32 := Scalar.remsi arg2 c2_i32_155
  let c0_i32_160 : BitVec 32 := 0#32
  let v280 : BitVec 1 := Scalar.cmpi .ne v279 c0_i32_160
  let v281 : BitVec 1 := Scalar.andi v278 v280
  let v267 : BitVec 32 := Scalar.divsi arg2 c2_i32_155
  let c1_i32_161 : BitVec 32 := 1#32
  let v282 : BitVec 32 := Scalar.subi v267 c1_i32_161
  let v283 : BitVec 32 := Scalar.select v281 v282 v267
  let v284 : BitVec 32 := Scalar.subi v283 c0_i32_162
  let c1_i32_163 : BitVec 32 := 1#32
  let v286 : BitVec 32 := Scalar.divsi v284 c1_i32_163
  let v287 : BitVec 32 := Scalar.muli v286 c1_i32_163
  let v288 : BitVec 32 := Scalar.addi c0_i32_162 v287
  let c1_i32_165 : BitVec 32 := 1#32
  let arg9 : BitVec 32 := Scf.iv v288 c1_i32_165 k0_t2
  let v311 : BitVec 32 := Scalar.muli c2_i32_178 arg9
  let v312 : BitVec 32 := Scalar.addi v73 v311
  let c256_i32_179 : BitVec 32 := 256#32
  let v313 : BitVec 32 := Scalar.muli v312 c256_i32_179
  v313
def k0_off16 (i : grid0.Coords) (k0_t2 : Fin (k0_t2_loop i).trips) : Fin 3 → Nat :=
  let c0_180 : Index := 0#32
  let arg2 : BitVec 32 := BitVec.ofNat 32 (i 2).val
  let c2_i32 : BitVec 32 := 2#32
  let c0_i32 : BitVec 32 := 0#32
  let v64 : BitVec 1 := Scalar.cmpi .eq c2_i32 c0_i32
  let c1_i32 : BitVec 32 := 1#32
  let v65 : BitVec 32 := Scalar.select v64 c1_i32 c2_i32
  let v66 : BitVec 32 := Scalar.remsi arg2 v65
  let c0_i32_59 : BitVec 32 := 0#32
  let v68 : BitVec 1 := Scalar.cmpi .slt v66 c0_i32_59
  let c0_i32_60 : BitVec 32 := 0#32
  let v69 : BitVec 1 := Scalar.cmpi .slt v65 c0_i32_60
  let v70 : BitVec 1 := Scalar.xori v68 v69
  let c0_i32_58 : BitVec 32 := 0#32
  let v67 : BitVec 1 := Scalar.cmpi .ne v66 c0_i32_58
  let v71 : BitVec 1 := Scalar.andi v70 v67
  let v72 : BitVec 32 := Scalar.addi v66 v65
  let v73 : BitVec 32 := Scalar.select v71 v72 v66
  let c2_i32_178 : BitVec 32 := 2#32
  let c0_i32_162 : BitVec 32 := 0#32
  let c0_i32_156 : BitVec 32 := 0#32
  let v268 : BitVec 1 := Scalar.cmpi .sgt arg2 c0_i32_156
  let v269 : BitVec 32 := Scalar.extui v268
  let c0_i32_157 : BitVec 32 := 0#32
  let v270 : BitVec 1 := Scalar.cmpi .slt arg2 c0_i32_157
  let v271 : BitVec 32 := Scalar.extui v270
  let v272 : BitVec 32 := Scalar.subi v269 v271
  let c2_i32_155 : BitVec 32 := 2#32
  let c0_i32_158 : BitVec 32 := 0#32
  let v273 : BitVec 1 := Scalar.cmpi .sgt c2_i32_155 c0_i32_158
  let v274 : BitVec 32 := Scalar.extui v273
  let c0_i32_159 : BitVec 32 := 0#32
  let v275 : BitVec 1 := Scalar.cmpi .slt c2_i32_155 c0_i32_159
  let v276 : BitVec 32 := Scalar.extui v275
  let v277 : BitVec 32 := Scalar.subi v274 v276
  let v278 : BitVec 1 := Scalar.cmpi .ne v272 v277
  let v279 : BitVec 32 := Scalar.remsi arg2 c2_i32_155
  let c0_i32_160 : BitVec 32 := 0#32
  let v280 : BitVec 1 := Scalar.cmpi .ne v279 c0_i32_160
  let v281 : BitVec 1 := Scalar.andi v278 v280
  let v267 : BitVec 32 := Scalar.divsi arg2 c2_i32_155
  let c1_i32_161 : BitVec 32 := 1#32
  let v282 : BitVec 32 := Scalar.subi v267 c1_i32_161
  let v283 : BitVec 32 := Scalar.select v281 v282 v267
  let v284 : BitVec 32 := Scalar.subi v283 c0_i32_162
  let c1_i32_163 : BitVec 32 := 1#32
  let v286 : BitVec 32 := Scalar.divsi v284 c1_i32_163
  let v287 : BitVec 32 := Scalar.muli v286 c1_i32_163
  let v288 : BitVec 32 := Scalar.addi c0_i32_162 v287
  let c1_i32_165 : BitVec 32 := 1#32
  let arg9 : BitVec 32 := Scf.iv v288 c1_i32_165 k0_t2
  let v311 : BitVec 32 := Scalar.muli c2_i32_178 arg9
  let v312 : BitVec 32 := Scalar.addi v73 v311
  let c256_i32_179 : BitVec 32 := 256#32
  let v313 : BitVec 32 := Scalar.muli v312 c256_i32_179
  let v314 : BitVec 32 := v313
  let v315 : Index := Scalar.indexCast v314
  let c0_181 : Index := 0#32
  ![0, v315.toNat, 0]
def k0_mult6 (i : grid0.Coords) (k0_t2 : Fin (k0_t2_loop i).trips) : BitVec 32 :=
  let arg2 : BitVec 32 := BitVec.ofNat 32 (i 2).val
  let c2_i32 : BitVec 32 := 2#32
  let c0_i32 : BitVec 32 := 0#32
  let v64 : BitVec 1 := Scalar.cmpi .eq c2_i32 c0_i32
  let c1_i32 : BitVec 32 := 1#32
  let v65 : BitVec 32 := Scalar.select v64 c1_i32 c2_i32
  let v66 : BitVec 32 := Scalar.remsi arg2 v65
  let c0_i32_59 : BitVec 32 := 0#32
  let v68 : BitVec 1 := Scalar.cmpi .slt v66 c0_i32_59
  let c0_i32_60 : BitVec 32 := 0#32
  let v69 : BitVec 1 := Scalar.cmpi .slt v65 c0_i32_60
  let v70 : BitVec 1 := Scalar.xori v68 v69
  let c0_i32_58 : BitVec 32 := 0#32
  let v67 : BitVec 1 := Scalar.cmpi .ne v66 c0_i32_58
  let v71 : BitVec 1 := Scalar.andi v70 v67
  let v72 : BitVec 32 := Scalar.addi v66 v65
  let v73 : BitVec 32 := Scalar.select v71 v72 v66
  let c2_i32_178 : BitVec 32 := 2#32
  let c0_i32_162 : BitVec 32 := 0#32
  let c0_i32_156 : BitVec 32 := 0#32
  let v268 : BitVec 1 := Scalar.cmpi .sgt arg2 c0_i32_156
  let v269 : BitVec 32 := Scalar.extui v268
  let c0_i32_157 : BitVec 32 := 0#32
  let v270 : BitVec 1 := Scalar.cmpi .slt arg2 c0_i32_157
  let v271 : BitVec 32 := Scalar.extui v270
  let v272 : BitVec 32 := Scalar.subi v269 v271
  let c2_i32_155 : BitVec 32 := 2#32
  let c0_i32_158 : BitVec 32 := 0#32
  let v273 : BitVec 1 := Scalar.cmpi .sgt c2_i32_155 c0_i32_158
  let v274 : BitVec 32 := Scalar.extui v273
  let c0_i32_159 : BitVec 32 := 0#32
  let v275 : BitVec 1 := Scalar.cmpi .slt c2_i32_155 c0_i32_159
  let v276 : BitVec 32 := Scalar.extui v275
  let v277 : BitVec 32 := Scalar.subi v274 v276
  let v278 : BitVec 1 := Scalar.cmpi .ne v272 v277
  let v279 : BitVec 32 := Scalar.remsi arg2 c2_i32_155
  let c0_i32_160 : BitVec 32 := 0#32
  let v280 : BitVec 1 := Scalar.cmpi .ne v279 c0_i32_160
  let v281 : BitVec 1 := Scalar.andi v278 v280
  let v267 : BitVec 32 := Scalar.divsi arg2 c2_i32_155
  let c1_i32_161 : BitVec 32 := 1#32
  let v282 : BitVec 32 := Scalar.subi v267 c1_i32_161
  let v283 : BitVec 32 := Scalar.select v281 v282 v267
  let v284 : BitVec 32 := Scalar.subi v283 c0_i32_162
  let c1_i32_163 : BitVec 32 := 1#32
  let v286 : BitVec 32 := Scalar.divsi v284 c1_i32_163
  let v287 : BitVec 32 := Scalar.muli v286 c1_i32_163
  let v288 : BitVec 32 := Scalar.addi c0_i32_162 v287
  let c1_i32_165 : BitVec 32 := 1#32
  let arg9 : BitVec 32 := Scf.iv v288 c1_i32_165 k0_t2
  let v311 : BitVec 32 := Scalar.muli c2_i32_178 arg9
  let v312 : BitVec 32 := Scalar.addi v73 v311
  let c1_i32_182 : BitVec 32 := 1#32
  let v318 : BitVec 32 := Scalar.addi v312 c1_i32_182
  let c256_i32_183 : BitVec 32 := 256#32
  let v319 : BitVec 32 := Scalar.muli v318 c256_i32_183
  v319
def k0_off17 (i : grid0.Coords) (k0_t2 : Fin (k0_t2_loop i).trips) : Fin 3 → Nat :=
  let c0_184 : Index := 0#32
  let arg2 : BitVec 32 := BitVec.ofNat 32 (i 2).val
  let c2_i32 : BitVec 32 := 2#32
  let c0_i32 : BitVec 32 := 0#32
  let v64 : BitVec 1 := Scalar.cmpi .eq c2_i32 c0_i32
  let c1_i32 : BitVec 32 := 1#32
  let v65 : BitVec 32 := Scalar.select v64 c1_i32 c2_i32
  let v66 : BitVec 32 := Scalar.remsi arg2 v65
  let c0_i32_59 : BitVec 32 := 0#32
  let v68 : BitVec 1 := Scalar.cmpi .slt v66 c0_i32_59
  let c0_i32_60 : BitVec 32 := 0#32
  let v69 : BitVec 1 := Scalar.cmpi .slt v65 c0_i32_60
  let v70 : BitVec 1 := Scalar.xori v68 v69
  let c0_i32_58 : BitVec 32 := 0#32
  let v67 : BitVec 1 := Scalar.cmpi .ne v66 c0_i32_58
  let v71 : BitVec 1 := Scalar.andi v70 v67
  let v72 : BitVec 32 := Scalar.addi v66 v65
  let v73 : BitVec 32 := Scalar.select v71 v72 v66
  let c2_i32_178 : BitVec 32 := 2#32
  let c0_i32_162 : BitVec 32 := 0#32
  let c0_i32_156 : BitVec 32 := 0#32
  let v268 : BitVec 1 := Scalar.cmpi .sgt arg2 c0_i32_156
  let v269 : BitVec 32 := Scalar.extui v268
  let c0_i32_157 : BitVec 32 := 0#32
  let v270 : BitVec 1 := Scalar.cmpi .slt arg2 c0_i32_157
  let v271 : BitVec 32 := Scalar.extui v270
  let v272 : BitVec 32 := Scalar.subi v269 v271
  let c2_i32_155 : BitVec 32 := 2#32
  let c0_i32_158 : BitVec 32 := 0#32
  let v273 : BitVec 1 := Scalar.cmpi .sgt c2_i32_155 c0_i32_158
  let v274 : BitVec 32 := Scalar.extui v273
  let c0_i32_159 : BitVec 32 := 0#32
  let v275 : BitVec 1 := Scalar.cmpi .slt c2_i32_155 c0_i32_159
  let v276 : BitVec 32 := Scalar.extui v275
  let v277 : BitVec 32 := Scalar.subi v274 v276
  let v278 : BitVec 1 := Scalar.cmpi .ne v272 v277
  let v279 : BitVec 32 := Scalar.remsi arg2 c2_i32_155
  let c0_i32_160 : BitVec 32 := 0#32
  let v280 : BitVec 1 := Scalar.cmpi .ne v279 c0_i32_160
  let v281 : BitVec 1 := Scalar.andi v278 v280
  let v267 : BitVec 32 := Scalar.divsi arg2 c2_i32_155
  let c1_i32_161 : BitVec 32 := 1#32
  let v282 : BitVec 32 := Scalar.subi v267 c1_i32_161
  let v283 : BitVec 32 := Scalar.select v281 v282 v267
  let v284 : BitVec 32 := Scalar.subi v283 c0_i32_162
  let c1_i32_163 : BitVec 32 := 1#32
  let v286 : BitVec 32 := Scalar.divsi v284 c1_i32_163
  let v287 : BitVec 32 := Scalar.muli v286 c1_i32_163
  let v288 : BitVec 32 := Scalar.addi c0_i32_162 v287
  let c1_i32_165 : BitVec 32 := 1#32
  let arg9 : BitVec 32 := Scf.iv v288 c1_i32_165 k0_t2
  let v311 : BitVec 32 := Scalar.muli c2_i32_178 arg9
  let v312 : BitVec 32 := Scalar.addi v73 v311
  let c1_i32_182 : BitVec 32 := 1#32
  let v318 : BitVec 32 := Scalar.addi v312 c1_i32_182
  let c256_i32_183 : BitVec 32 := 256#32
  let v319 : BitVec 32 := Scalar.muli v318 c256_i32_183
  let v320 : BitVec 32 := v319
  let v321 : Index := Scalar.indexCast v320
  let c0_185 : Index := 0#32
  ![0, v321.toNat, 0]
def k0_off18 (i : grid0.Coords) (k0_t2 : Fin (k0_t2_loop i).trips) : Fin 5 → Nat :=
  let c0_198 : Index := 0#32
  let c0_199 : Index := 0#32
  let arg2 : BitVec 32 := BitVec.ofNat 32 (i 2).val
  let c2_i32 : BitVec 32 := 2#32
  let c0_i32 : BitVec 32 := 0#32
  let v64 : BitVec 1 := Scalar.cmpi .eq c2_i32 c0_i32
  let c1_i32 : BitVec 32 := 1#32
  let v65 : BitVec 32 := Scalar.select v64 c1_i32 c2_i32
  let v66 : BitVec 32 := Scalar.remsi arg2 v65
  let c0_i32_59 : BitVec 32 := 0#32
  let v68 : BitVec 1 := Scalar.cmpi .slt v66 c0_i32_59
  let c0_i32_60 : BitVec 32 := 0#32
  let v69 : BitVec 1 := Scalar.cmpi .slt v65 c0_i32_60
  let v70 : BitVec 1 := Scalar.xori v68 v69
  let c0_i32_58 : BitVec 32 := 0#32
  let v67 : BitVec 1 := Scalar.cmpi .ne v66 c0_i32_58
  let v71 : BitVec 1 := Scalar.andi v70 v67
  let v72 : BitVec 32 := Scalar.addi v66 v65
  let v73 : BitVec 32 := Scalar.select v71 v72 v66
  let c2_i32_178 : BitVec 32 := 2#32
  let c0_i32_162 : BitVec 32 := 0#32
  let c0_i32_156 : BitVec 32 := 0#32
  let v268 : BitVec 1 := Scalar.cmpi .sgt arg2 c0_i32_156
  let v269 : BitVec 32 := Scalar.extui v268
  let c0_i32_157 : BitVec 32 := 0#32
  let v270 : BitVec 1 := Scalar.cmpi .slt arg2 c0_i32_157
  let v271 : BitVec 32 := Scalar.extui v270
  let v272 : BitVec 32 := Scalar.subi v269 v271
  let c2_i32_155 : BitVec 32 := 2#32
  let c0_i32_158 : BitVec 32 := 0#32
  let v273 : BitVec 1 := Scalar.cmpi .sgt c2_i32_155 c0_i32_158
  let v274 : BitVec 32 := Scalar.extui v273
  let c0_i32_159 : BitVec 32 := 0#32
  let v275 : BitVec 1 := Scalar.cmpi .slt c2_i32_155 c0_i32_159
  let v276 : BitVec 32 := Scalar.extui v275
  let v277 : BitVec 32 := Scalar.subi v274 v276
  let v278 : BitVec 1 := Scalar.cmpi .ne v272 v277
  let v279 : BitVec 32 := Scalar.remsi arg2 c2_i32_155
  let c0_i32_160 : BitVec 32 := 0#32
  let v280 : BitVec 1 := Scalar.cmpi .ne v279 c0_i32_160
  let v281 : BitVec 1 := Scalar.andi v278 v280
  let v267 : BitVec 32 := Scalar.divsi arg2 c2_i32_155
  let c1_i32_161 : BitVec 32 := 1#32
  let v282 : BitVec 32 := Scalar.subi v267 c1_i32_161
  let v283 : BitVec 32 := Scalar.select v281 v282 v267
  let v284 : BitVec 32 := Scalar.subi v283 c0_i32_162
  let c1_i32_163 : BitVec 32 := 1#32
  let v286 : BitVec 32 := Scalar.divsi v284 c1_i32_163
  let v287 : BitVec 32 := Scalar.muli v286 c1_i32_163
  let v288 : BitVec 32 := Scalar.addi c0_i32_162 v287
  let c1_i32_165 : BitVec 32 := 1#32
  let arg9 : BitVec 32 := Scf.iv v288 c1_i32_165 k0_t2
  let v311 : BitVec 32 := Scalar.muli c2_i32_178 arg9
  let v312 : BitVec 32 := Scalar.addi v73 v311
  let v358 : Index := Scalar.indexCast v312
  let c0_200 : Index := 0#32
  let c0_201 : Index := 0#32
  ![0, 0, v358.toNat, 0, 0]
def k0_off19 (i : grid0.Coords) (k0_t2 : Fin (k0_t2_loop i).trips) : Fin 5 → Nat :=
  let c0_204 : Index := 0#32
  let c0_205 : Index := 0#32
  let arg2 : BitVec 32 := BitVec.ofNat 32 (i 2).val
  let c2_i32 : BitVec 32 := 2#32
  let c0_i32 : BitVec 32 := 0#32
  let v64 : BitVec 1 := Scalar.cmpi .eq c2_i32 c0_i32
  let c1_i32 : BitVec 32 := 1#32
  let v65 : BitVec 32 := Scalar.select v64 c1_i32 c2_i32
  let v66 : BitVec 32 := Scalar.remsi arg2 v65
  let c0_i32_59 : BitVec 32 := 0#32
  let v68 : BitVec 1 := Scalar.cmpi .slt v66 c0_i32_59
  let c0_i32_60 : BitVec 32 := 0#32
  let v69 : BitVec 1 := Scalar.cmpi .slt v65 c0_i32_60
  let v70 : BitVec 1 := Scalar.xori v68 v69
  let c0_i32_58 : BitVec 32 := 0#32
  let v67 : BitVec 1 := Scalar.cmpi .ne v66 c0_i32_58
  let v71 : BitVec 1 := Scalar.andi v70 v67
  let v72 : BitVec 32 := Scalar.addi v66 v65
  let v73 : BitVec 32 := Scalar.select v71 v72 v66
  let c2_i32_178 : BitVec 32 := 2#32
  let c0_i32_162 : BitVec 32 := 0#32
  let c0_i32_156 : BitVec 32 := 0#32
  let v268 : BitVec 1 := Scalar.cmpi .sgt arg2 c0_i32_156
  let v269 : BitVec 32 := Scalar.extui v268
  let c0_i32_157 : BitVec 32 := 0#32
  let v270 : BitVec 1 := Scalar.cmpi .slt arg2 c0_i32_157
  let v271 : BitVec 32 := Scalar.extui v270
  let v272 : BitVec 32 := Scalar.subi v269 v271
  let c2_i32_155 : BitVec 32 := 2#32
  let c0_i32_158 : BitVec 32 := 0#32
  let v273 : BitVec 1 := Scalar.cmpi .sgt c2_i32_155 c0_i32_158
  let v274 : BitVec 32 := Scalar.extui v273
  let c0_i32_159 : BitVec 32 := 0#32
  let v275 : BitVec 1 := Scalar.cmpi .slt c2_i32_155 c0_i32_159
  let v276 : BitVec 32 := Scalar.extui v275
  let v277 : BitVec 32 := Scalar.subi v274 v276
  let v278 : BitVec 1 := Scalar.cmpi .ne v272 v277
  let v279 : BitVec 32 := Scalar.remsi arg2 c2_i32_155
  let c0_i32_160 : BitVec 32 := 0#32
  let v280 : BitVec 1 := Scalar.cmpi .ne v279 c0_i32_160
  let v281 : BitVec 1 := Scalar.andi v278 v280
  let v267 : BitVec 32 := Scalar.divsi arg2 c2_i32_155
  let c1_i32_161 : BitVec 32 := 1#32
  let v282 : BitVec 32 := Scalar.subi v267 c1_i32_161
  let v283 : BitVec 32 := Scalar.select v281 v282 v267
  let v284 : BitVec 32 := Scalar.subi v283 c0_i32_162
  let c1_i32_163 : BitVec 32 := 1#32
  let v286 : BitVec 32 := Scalar.divsi v284 c1_i32_163
  let v287 : BitVec 32 := Scalar.muli v286 c1_i32_163
  let v288 : BitVec 32 := Scalar.addi c0_i32_162 v287
  let c1_i32_165 : BitVec 32 := 1#32
  let arg9 : BitVec 32 := Scf.iv v288 c1_i32_165 k0_t2
  let v311 : BitVec 32 := Scalar.muli c2_i32_178 arg9
  let v312 : BitVec 32 := Scalar.addi v73 v311
  let c1_i32_186 : BitVec 32 := 1#32
  let v324 : BitVec 32 := Scalar.addi v312 c1_i32_186
  let v370 : Index := Scalar.indexCast v324
  let c0_206 : Index := 0#32
  let c0_207 : Index := 0#32
  ![0, 0, v370.toNat, 0, 0]
def k0_off20 (i : grid0.Coords) (k0_t2 : Fin (k0_t2_loop i).trips) : Fin 5 → Nat :=
  let c0_212 : Index := 0#32
  let c1_213 : Index := 1#32
  let arg2 : BitVec 32 := BitVec.ofNat 32 (i 2).val
  let c2_i32 : BitVec 32 := 2#32
  let c0_i32 : BitVec 32 := 0#32
  let v64 : BitVec 1 := Scalar.cmpi .eq c2_i32 c0_i32
  let c1_i32 : BitVec 32 := 1#32
  let v65 : BitVec 32 := Scalar.select v64 c1_i32 c2_i32
  let v66 : BitVec 32 := Scalar.remsi arg2 v65
  let c0_i32_59 : BitVec 32 := 0#32
  let v68 : BitVec 1 := Scalar.cmpi .slt v66 c0_i32_59
  let c0_i32_60 : BitVec 32 := 0#32
  let v69 : BitVec 1 := Scalar.cmpi .slt v65 c0_i32_60
  let v70 : BitVec 1 := Scalar.xori v68 v69
  let c0_i32_58 : BitVec 32 := 0#32
  let v67 : BitVec 1 := Scalar.cmpi .ne v66 c0_i32_58
  let v71 : BitVec 1 := Scalar.andi v70 v67
  let v72 : BitVec 32 := Scalar.addi v66 v65
  let v73 : BitVec 32 := Scalar.select v71 v72 v66
  let c2_i32_178 : BitVec 32 := 2#32
  let c0_i32_162 : BitVec 32 := 0#32
  let c0_i32_156 : BitVec 32 := 0#32
  let v268 : BitVec 1 := Scalar.cmpi .sgt arg2 c0_i32_156
  let v269 : BitVec 32 := Scalar.extui v268
  let c0_i32_157 : BitVec 32 := 0#32
  let v270 : BitVec 1 := Scalar.cmpi .slt arg2 c0_i32_157
  let v271 : BitVec 32 := Scalar.extui v270
  let v272 : BitVec 32 := Scalar.subi v269 v271
  let c2_i32_155 : BitVec 32 := 2#32
  let c0_i32_158 : BitVec 32 := 0#32
  let v273 : BitVec 1 := Scalar.cmpi .sgt c2_i32_155 c0_i32_158
  let v274 : BitVec 32 := Scalar.extui v273
  let c0_i32_159 : BitVec 32 := 0#32
  let v275 : BitVec 1 := Scalar.cmpi .slt c2_i32_155 c0_i32_159
  let v276 : BitVec 32 := Scalar.extui v275
  let v277 : BitVec 32 := Scalar.subi v274 v276
  let v278 : BitVec 1 := Scalar.cmpi .ne v272 v277
  let v279 : BitVec 32 := Scalar.remsi arg2 c2_i32_155
  let c0_i32_160 : BitVec 32 := 0#32
  let v280 : BitVec 1 := Scalar.cmpi .ne v279 c0_i32_160
  let v281 : BitVec 1 := Scalar.andi v278 v280
  let v267 : BitVec 32 := Scalar.divsi arg2 c2_i32_155
  let c1_i32_161 : BitVec 32 := 1#32
  let v282 : BitVec 32 := Scalar.subi v267 c1_i32_161
  let v283 : BitVec 32 := Scalar.select v281 v282 v267
  let v284 : BitVec 32 := Scalar.subi v283 c0_i32_162
  let c1_i32_163 : BitVec 32 := 1#32
  let v286 : BitVec 32 := Scalar.divsi v284 c1_i32_163
  let v287 : BitVec 32 := Scalar.muli v286 c1_i32_163
  let v288 : BitVec 32 := Scalar.addi c0_i32_162 v287
  let c1_i32_165 : BitVec 32 := 1#32
  let arg9 : BitVec 32 := Scf.iv v288 c1_i32_165 k0_t2
  let v311 : BitVec 32 := Scalar.muli c2_i32_178 arg9
  let v312 : BitVec 32 := Scalar.addi v73 v311
  let v393 : Index := Scalar.indexCast v312
  let c0_214 : Index := 0#32
  let c0_215 : Index := 0#32
  ![0, 1, v393.toNat, 0, 0]
def k0_off21 (i : grid0.Coords) (k0_t2 : Fin (k0_t2_loop i).trips) : Fin 5 → Nat :=
  let c0_218 : Index := 0#32
  let c1_219 : Index := 1#32
  let arg2 : BitVec 32 := BitVec.ofNat 32 (i 2).val
  let c2_i32 : BitVec 32 := 2#32
  let c0_i32 : BitVec 32 := 0#32
  let v64 : BitVec 1 := Scalar.cmpi .eq c2_i32 c0_i32
  let c1_i32 : BitVec 32 := 1#32
  let v65 : BitVec 32 := Scalar.select v64 c1_i32 c2_i32
  let v66 : BitVec 32 := Scalar.remsi arg2 v65
  let c0_i32_59 : BitVec 32 := 0#32
  let v68 : BitVec 1 := Scalar.cmpi .slt v66 c0_i32_59
  let c0_i32_60 : BitVec 32 := 0#32
  let v69 : BitVec 1 := Scalar.cmpi .slt v65 c0_i32_60
  let v70 : BitVec 1 := Scalar.xori v68 v69
  let c0_i32_58 : BitVec 32 := 0#32
  let v67 : BitVec 1 := Scalar.cmpi .ne v66 c0_i32_58
  let v71 : BitVec 1 := Scalar.andi v70 v67
  let v72 : BitVec 32 := Scalar.addi v66 v65
  let v73 : BitVec 32 := Scalar.select v71 v72 v66
  let c2_i32_178 : BitVec 32 := 2#32
  let c0_i32_162 : BitVec 32 := 0#32
  let c0_i32_156 : BitVec 32 := 0#32
  let v268 : BitVec 1 := Scalar.cmpi .sgt arg2 c0_i32_156
  let v269 : BitVec 32 := Scalar.extui v268
  let c0_i32_157 : BitVec 32 := 0#32
  let v270 : BitVec 1 := Scalar.cmpi .slt arg2 c0_i32_157
  let v271 : BitVec 32 := Scalar.extui v270
  let v272 : BitVec 32 := Scalar.subi v269 v271
  let c2_i32_155 : BitVec 32 := 2#32
  let c0_i32_158 : BitVec 32 := 0#32
  let v273 : BitVec 1 := Scalar.cmpi .sgt c2_i32_155 c0_i32_158
  let v274 : BitVec 32 := Scalar.extui v273
  let c0_i32_159 : BitVec 32 := 0#32
  let v275 : BitVec 1 := Scalar.cmpi .slt c2_i32_155 c0_i32_159
  let v276 : BitVec 32 := Scalar.extui v275
  let v277 : BitVec 32 := Scalar.subi v274 v276
  let v278 : BitVec 1 := Scalar.cmpi .ne v272 v277
  let v279 : BitVec 32 := Scalar.remsi arg2 c2_i32_155
  let c0_i32_160 : BitVec 32 := 0#32
  let v280 : BitVec 1 := Scalar.cmpi .ne v279 c0_i32_160
  let v281 : BitVec 1 := Scalar.andi v278 v280
  let v267 : BitVec 32 := Scalar.divsi arg2 c2_i32_155
  let c1_i32_161 : BitVec 32 := 1#32
  let v282 : BitVec 32 := Scalar.subi v267 c1_i32_161
  let v283 : BitVec 32 := Scalar.select v281 v282 v267
  let v284 : BitVec 32 := Scalar.subi v283 c0_i32_162
  let c1_i32_163 : BitVec 32 := 1#32
  let v286 : BitVec 32 := Scalar.divsi v284 c1_i32_163
  let v287 : BitVec 32 := Scalar.muli v286 c1_i32_163
  let v288 : BitVec 32 := Scalar.addi c0_i32_162 v287
  let c1_i32_165 : BitVec 32 := 1#32
  let arg9 : BitVec 32 := Scf.iv v288 c1_i32_165 k0_t2
  let v311 : BitVec 32 := Scalar.muli c2_i32_178 arg9
  let v312 : BitVec 32 := Scalar.addi v73 v311
  let c1_i32_186 : BitVec 32 := 1#32
  let v324 : BitVec 32 := Scalar.addi v312 c1_i32_186
  let v405 : Index := Scalar.indexCast v324
  let c0_220 : Index := 0#32
  let c0_221 : Index := 0#32
  ![0, 1, v405.toNat, 0, 0]
def k0_off22 (i : grid0.Coords) (k0_t2 : Fin (k0_t2_loop i).trips) : Fin 5 → Nat :=
  let c0_226 : Index := 0#32
  let c2_227 : Index := 2#32
  let arg2 : BitVec 32 := BitVec.ofNat 32 (i 2).val
  let c2_i32 : BitVec 32 := 2#32
  let c0_i32 : BitVec 32 := 0#32
  let v64 : BitVec 1 := Scalar.cmpi .eq c2_i32 c0_i32
  let c1_i32 : BitVec 32 := 1#32
  let v65 : BitVec 32 := Scalar.select v64 c1_i32 c2_i32
  let v66 : BitVec 32 := Scalar.remsi arg2 v65
  let c0_i32_59 : BitVec 32 := 0#32
  let v68 : BitVec 1 := Scalar.cmpi .slt v66 c0_i32_59
  let c0_i32_60 : BitVec 32 := 0#32
  let v69 : BitVec 1 := Scalar.cmpi .slt v65 c0_i32_60
  let v70 : BitVec 1 := Scalar.xori v68 v69
  let c0_i32_58 : BitVec 32 := 0#32
  let v67 : BitVec 1 := Scalar.cmpi .ne v66 c0_i32_58
  let v71 : BitVec 1 := Scalar.andi v70 v67
  let v72 : BitVec 32 := Scalar.addi v66 v65
  let v73 : BitVec 32 := Scalar.select v71 v72 v66
  let c2_i32_178 : BitVec 32 := 2#32
  let c0_i32_162 : BitVec 32 := 0#32
  let c0_i32_156 : BitVec 32 := 0#32
  let v268 : BitVec 1 := Scalar.cmpi .sgt arg2 c0_i32_156
  let v269 : BitVec 32 := Scalar.extui v268
  let c0_i32_157 : BitVec 32 := 0#32
  let v270 : BitVec 1 := Scalar.cmpi .slt arg2 c0_i32_157
  let v271 : BitVec 32 := Scalar.extui v270
  let v272 : BitVec 32 := Scalar.subi v269 v271
  let c2_i32_155 : BitVec 32 := 2#32
  let c0_i32_158 : BitVec 32 := 0#32
  let v273 : BitVec 1 := Scalar.cmpi .sgt c2_i32_155 c0_i32_158
  let v274 : BitVec 32 := Scalar.extui v273
  let c0_i32_159 : BitVec 32 := 0#32
  let v275 : BitVec 1 := Scalar.cmpi .slt c2_i32_155 c0_i32_159
  let v276 : BitVec 32 := Scalar.extui v275
  let v277 : BitVec 32 := Scalar.subi v274 v276
  let v278 : BitVec 1 := Scalar.cmpi .ne v272 v277
  let v279 : BitVec 32 := Scalar.remsi arg2 c2_i32_155
  let c0_i32_160 : BitVec 32 := 0#32
  let v280 : BitVec 1 := Scalar.cmpi .ne v279 c0_i32_160
  let v281 : BitVec 1 := Scalar.andi v278 v280
  let v267 : BitVec 32 := Scalar.divsi arg2 c2_i32_155
  let c1_i32_161 : BitVec 32 := 1#32
  let v282 : BitVec 32 := Scalar.subi v267 c1_i32_161
  let v283 : BitVec 32 := Scalar.select v281 v282 v267
  let v284 : BitVec 32 := Scalar.subi v283 c0_i32_162
  let c1_i32_163 : BitVec 32 := 1#32
  let v286 : BitVec 32 := Scalar.divsi v284 c1_i32_163
  let v287 : BitVec 32 := Scalar.muli v286 c1_i32_163
  let v288 : BitVec 32 := Scalar.addi c0_i32_162 v287
  let c1_i32_165 : BitVec 32 := 1#32
  let arg9 : BitVec 32 := Scf.iv v288 c1_i32_165 k0_t2
  let v311 : BitVec 32 := Scalar.muli c2_i32_178 arg9
  let v312 : BitVec 32 := Scalar.addi v73 v311
  let v428 : Index := Scalar.indexCast v312
  let c0_228 : Index := 0#32
  let c0_229 : Index := 0#32
  ![0, 2, v428.toNat, 0, 0]
def k0_off23 (i : grid0.Coords) (k0_t2 : Fin (k0_t2_loop i).trips) : Fin 5 → Nat :=
  let c0_232 : Index := 0#32
  let c2_233 : Index := 2#32
  let arg2 : BitVec 32 := BitVec.ofNat 32 (i 2).val
  let c2_i32 : BitVec 32 := 2#32
  let c0_i32 : BitVec 32 := 0#32
  let v64 : BitVec 1 := Scalar.cmpi .eq c2_i32 c0_i32
  let c1_i32 : BitVec 32 := 1#32
  let v65 : BitVec 32 := Scalar.select v64 c1_i32 c2_i32
  let v66 : BitVec 32 := Scalar.remsi arg2 v65
  let c0_i32_59 : BitVec 32 := 0#32
  let v68 : BitVec 1 := Scalar.cmpi .slt v66 c0_i32_59
  let c0_i32_60 : BitVec 32 := 0#32
  let v69 : BitVec 1 := Scalar.cmpi .slt v65 c0_i32_60
  let v70 : BitVec 1 := Scalar.xori v68 v69
  let c0_i32_58 : BitVec 32 := 0#32
  let v67 : BitVec 1 := Scalar.cmpi .ne v66 c0_i32_58
  let v71 : BitVec 1 := Scalar.andi v70 v67
  let v72 : BitVec 32 := Scalar.addi v66 v65
  let v73 : BitVec 32 := Scalar.select v71 v72 v66
  let c2_i32_178 : BitVec 32 := 2#32
  let c0_i32_162 : BitVec 32 := 0#32
  let c0_i32_156 : BitVec 32 := 0#32
  let v268 : BitVec 1 := Scalar.cmpi .sgt arg2 c0_i32_156
  let v269 : BitVec 32 := Scalar.extui v268
  let c0_i32_157 : BitVec 32 := 0#32
  let v270 : BitVec 1 := Scalar.cmpi .slt arg2 c0_i32_157
  let v271 : BitVec 32 := Scalar.extui v270
  let v272 : BitVec 32 := Scalar.subi v269 v271
  let c2_i32_155 : BitVec 32 := 2#32
  let c0_i32_158 : BitVec 32 := 0#32
  let v273 : BitVec 1 := Scalar.cmpi .sgt c2_i32_155 c0_i32_158
  let v274 : BitVec 32 := Scalar.extui v273
  let c0_i32_159 : BitVec 32 := 0#32
  let v275 : BitVec 1 := Scalar.cmpi .slt c2_i32_155 c0_i32_159
  let v276 : BitVec 32 := Scalar.extui v275
  let v277 : BitVec 32 := Scalar.subi v274 v276
  let v278 : BitVec 1 := Scalar.cmpi .ne v272 v277
  let v279 : BitVec 32 := Scalar.remsi arg2 c2_i32_155
  let c0_i32_160 : BitVec 32 := 0#32
  let v280 : BitVec 1 := Scalar.cmpi .ne v279 c0_i32_160
  let v281 : BitVec 1 := Scalar.andi v278 v280
  let v267 : BitVec 32 := Scalar.divsi arg2 c2_i32_155
  let c1_i32_161 : BitVec 32 := 1#32
  let v282 : BitVec 32 := Scalar.subi v267 c1_i32_161
  let v283 : BitVec 32 := Scalar.select v281 v282 v267
  let v284 : BitVec 32 := Scalar.subi v283 c0_i32_162
  let c1_i32_163 : BitVec 32 := 1#32
  let v286 : BitVec 32 := Scalar.divsi v284 c1_i32_163
  let v287 : BitVec 32 := Scalar.muli v286 c1_i32_163
  let v288 : BitVec 32 := Scalar.addi c0_i32_162 v287
  let c1_i32_165 : BitVec 32 := 1#32
  let arg9 : BitVec 32 := Scf.iv v288 c1_i32_165 k0_t2
  let v311 : BitVec 32 := Scalar.muli c2_i32_178 arg9
  let v312 : BitVec 32 := Scalar.addi v73 v311
  let c1_i32_186 : BitVec 32 := 1#32
  let v324 : BitVec 32 := Scalar.addi v312 c1_i32_186
  let v440 : Index := Scalar.indexCast v324
  let c0_234 : Index := 0#32
  let c0_235 : Index := 0#32
  ![0, 2, v440.toNat, 0, 0]
def k0_off24 (i : grid0.Coords) (k0_t2 : Fin (k0_t2_loop i).trips) : Fin 5 → Nat :=
  let c0_240 : Index := 0#32
  let c3_241 : Index := 3#32
  let arg2 : BitVec 32 := BitVec.ofNat 32 (i 2).val
  let c2_i32 : BitVec 32 := 2#32
  let c0_i32 : BitVec 32 := 0#32
  let v64 : BitVec 1 := Scalar.cmpi .eq c2_i32 c0_i32
  let c1_i32 : BitVec 32 := 1#32
  let v65 : BitVec 32 := Scalar.select v64 c1_i32 c2_i32
  let v66 : BitVec 32 := Scalar.remsi arg2 v65
  let c0_i32_59 : BitVec 32 := 0#32
  let v68 : BitVec 1 := Scalar.cmpi .slt v66 c0_i32_59
  let c0_i32_60 : BitVec 32 := 0#32
  let v69 : BitVec 1 := Scalar.cmpi .slt v65 c0_i32_60
  let v70 : BitVec 1 := Scalar.xori v68 v69
  let c0_i32_58 : BitVec 32 := 0#32
  let v67 : BitVec 1 := Scalar.cmpi .ne v66 c0_i32_58
  let v71 : BitVec 1 := Scalar.andi v70 v67
  let v72 : BitVec 32 := Scalar.addi v66 v65
  let v73 : BitVec 32 := Scalar.select v71 v72 v66
  let c2_i32_178 : BitVec 32 := 2#32
  let c0_i32_162 : BitVec 32 := 0#32
  let c0_i32_156 : BitVec 32 := 0#32
  let v268 : BitVec 1 := Scalar.cmpi .sgt arg2 c0_i32_156
  let v269 : BitVec 32 := Scalar.extui v268
  let c0_i32_157 : BitVec 32 := 0#32
  let v270 : BitVec 1 := Scalar.cmpi .slt arg2 c0_i32_157
  let v271 : BitVec 32 := Scalar.extui v270
  let v272 : BitVec 32 := Scalar.subi v269 v271
  let c2_i32_155 : BitVec 32 := 2#32
  let c0_i32_158 : BitVec 32 := 0#32
  let v273 : BitVec 1 := Scalar.cmpi .sgt c2_i32_155 c0_i32_158
  let v274 : BitVec 32 := Scalar.extui v273
  let c0_i32_159 : BitVec 32 := 0#32
  let v275 : BitVec 1 := Scalar.cmpi .slt c2_i32_155 c0_i32_159
  let v276 : BitVec 32 := Scalar.extui v275
  let v277 : BitVec 32 := Scalar.subi v274 v276
  let v278 : BitVec 1 := Scalar.cmpi .ne v272 v277
  let v279 : BitVec 32 := Scalar.remsi arg2 c2_i32_155
  let c0_i32_160 : BitVec 32 := 0#32
  let v280 : BitVec 1 := Scalar.cmpi .ne v279 c0_i32_160
  let v281 : BitVec 1 := Scalar.andi v278 v280
  let v267 : BitVec 32 := Scalar.divsi arg2 c2_i32_155
  let c1_i32_161 : BitVec 32 := 1#32
  let v282 : BitVec 32 := Scalar.subi v267 c1_i32_161
  let v283 : BitVec 32 := Scalar.select v281 v282 v267
  let v284 : BitVec 32 := Scalar.subi v283 c0_i32_162
  let c1_i32_163 : BitVec 32 := 1#32
  let v286 : BitVec 32 := Scalar.divsi v284 c1_i32_163
  let v287 : BitVec 32 := Scalar.muli v286 c1_i32_163
  let v288 : BitVec 32 := Scalar.addi c0_i32_162 v287
  let c1_i32_165 : BitVec 32 := 1#32
  let arg9 : BitVec 32 := Scf.iv v288 c1_i32_165 k0_t2
  let v311 : BitVec 32 := Scalar.muli c2_i32_178 arg9
  let v312 : BitVec 32 := Scalar.addi v73 v311
  let v463 : Index := Scalar.indexCast v312
  let c0_242 : Index := 0#32
  let c0_243 : Index := 0#32
  ![0, 3, v463.toNat, 0, 0]
def k0_off25 (i : grid0.Coords) (k0_t2 : Fin (k0_t2_loop i).trips) : Fin 5 → Nat :=
  let c0_246 : Index := 0#32
  let c3_247 : Index := 3#32
  let arg2 : BitVec 32 := BitVec.ofNat 32 (i 2).val
  let c2_i32 : BitVec 32 := 2#32
  let c0_i32 : BitVec 32 := 0#32
  let v64 : BitVec 1 := Scalar.cmpi .eq c2_i32 c0_i32
  let c1_i32 : BitVec 32 := 1#32
  let v65 : BitVec 32 := Scalar.select v64 c1_i32 c2_i32
  let v66 : BitVec 32 := Scalar.remsi arg2 v65
  let c0_i32_59 : BitVec 32 := 0#32
  let v68 : BitVec 1 := Scalar.cmpi .slt v66 c0_i32_59
  let c0_i32_60 : BitVec 32 := 0#32
  let v69 : BitVec 1 := Scalar.cmpi .slt v65 c0_i32_60
  let v70 : BitVec 1 := Scalar.xori v68 v69
  let c0_i32_58 : BitVec 32 := 0#32
  let v67 : BitVec 1 := Scalar.cmpi .ne v66 c0_i32_58
  let v71 : BitVec 1 := Scalar.andi v70 v67
  let v72 : BitVec 32 := Scalar.addi v66 v65
  let v73 : BitVec 32 := Scalar.select v71 v72 v66
  let c2_i32_178 : BitVec 32 := 2#32
  let c0_i32_162 : BitVec 32 := 0#32
  let c0_i32_156 : BitVec 32 := 0#32
  let v268 : BitVec 1 := Scalar.cmpi .sgt arg2 c0_i32_156
  let v269 : BitVec 32 := Scalar.extui v268
  let c0_i32_157 : BitVec 32 := 0#32
  let v270 : BitVec 1 := Scalar.cmpi .slt arg2 c0_i32_157
  let v271 : BitVec 32 := Scalar.extui v270
  let v272 : BitVec 32 := Scalar.subi v269 v271
  let c2_i32_155 : BitVec 32 := 2#32
  let c0_i32_158 : BitVec 32 := 0#32
  let v273 : BitVec 1 := Scalar.cmpi .sgt c2_i32_155 c0_i32_158
  let v274 : BitVec 32 := Scalar.extui v273
  let c0_i32_159 : BitVec 32 := 0#32
  let v275 : BitVec 1 := Scalar.cmpi .slt c2_i32_155 c0_i32_159
  let v276 : BitVec 32 := Scalar.extui v275
  let v277 : BitVec 32 := Scalar.subi v274 v276
  let v278 : BitVec 1 := Scalar.cmpi .ne v272 v277
  let v279 : BitVec 32 := Scalar.remsi arg2 c2_i32_155
  let c0_i32_160 : BitVec 32 := 0#32
  let v280 : BitVec 1 := Scalar.cmpi .ne v279 c0_i32_160
  let v281 : BitVec 1 := Scalar.andi v278 v280
  let v267 : BitVec 32 := Scalar.divsi arg2 c2_i32_155
  let c1_i32_161 : BitVec 32 := 1#32
  let v282 : BitVec 32 := Scalar.subi v267 c1_i32_161
  let v283 : BitVec 32 := Scalar.select v281 v282 v267
  let v284 : BitVec 32 := Scalar.subi v283 c0_i32_162
  let c1_i32_163 : BitVec 32 := 1#32
  let v286 : BitVec 32 := Scalar.divsi v284 c1_i32_163
  let v287 : BitVec 32 := Scalar.muli v286 c1_i32_163
  let v288 : BitVec 32 := Scalar.addi c0_i32_162 v287
  let c1_i32_165 : BitVec 32 := 1#32
  let arg9 : BitVec 32 := Scf.iv v288 c1_i32_165 k0_t2
  let v311 : BitVec 32 := Scalar.muli c2_i32_178 arg9
  let v312 : BitVec 32 := Scalar.addi v73 v311
  let c1_i32_186 : BitVec 32 := 1#32
  let v324 : BitVec 32 := Scalar.addi v312 c1_i32_186
  let v475 : Index := Scalar.indexCast v324
  let c0_248 : Index := 0#32
  let c0_249 : Index := 0#32
  ![0, 3, v475.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x32x64x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S2x8192x8x64 : Shape := ⟨4, ![2, 8192, 8, 64]⟩
abbrev S2x8192x8 : Shape := ⟨3, ![2, 8192, 8]⟩
abbrev S_ : Shape := ⟨0, ![]⟩
abbrev S2x8x8192 : Shape := ⟨3, ![2, 8, 8192]⟩
abbrev S2x8x8192x8192 : Shape := ⟨4, ![2, 8, 8192, 8192]⟩
abbrev S2x8x8192x1 : Shape := ⟨4, ![2, 8, 8192, 1]⟩
abbrev S2x8x1x8192 : Shape := ⟨4, ![2, 8, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S2x8x8192x64 : Shape := ⟨4, ![2, 8, 8192, 64]⟩
abbrev S2x8x64x8192 : Shape := ⟨4, ![2, 8, 64, 8192]⟩
abbrev S2x512x8192 : Shape := ⟨3, ![2, 512, 8192]⟩

abbrev nBuf : Space → Nat
  | .hbm => 47
  | .vmem => 0
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x8x64, .f32⟩
  | .hbm, ⟨2, _⟩ => ⟨S2x8192x8x64, .f32⟩
  | .hbm, ⟨3, _⟩ => ⟨S2x8192x8, .f32⟩
  | .hbm, ⟨4, _⟩ => ⟨S_, .f32⟩
  | .hbm, ⟨5, _⟩ => ⟨S_, .f32⟩
  | .hbm, ⟨6, _⟩ => ⟨S2x8192x8, .f32⟩
  | .hbm, ⟨7, _⟩ => ⟨S2x8x8192, .f32⟩
  | .hbm, ⟨8, _⟩ => ⟨S2x8x8192x8192, .f32⟩
  | .hbm, ⟨9, _⟩ => ⟨S_, .f32⟩
  | .hbm, ⟨10, _⟩ => ⟨S2x8x8192x8192, .f32⟩
  | .hbm, ⟨11, _⟩ => ⟨S2x8x8192x8192, .f32⟩
  | .hbm, ⟨12, _⟩ => ⟨S2x8x8192x1, .f32⟩
  | .hbm, ⟨13, _⟩ => ⟨S2x8x1x8192, .f32⟩
  | .hbm, ⟨14, _⟩ => ⟨S2x8x8192x8192, .f32⟩
  | .hbm, ⟨15, _⟩ => ⟨S2x8x8192x8192, .f32⟩
  | .hbm, ⟨16, _⟩ => ⟨S2x8x8192x8192, .f32⟩
  | .hbm, ⟨17, _⟩ => ⟨S2x8x8192x8192, .f32⟩
  | .hbm, ⟨18, _⟩ => ⟨S8192, .i32⟩
  | .hbm, ⟨19, _⟩ => ⟨S1x8192, .i32⟩
  | .hbm, ⟨20, _⟩ => ⟨S8192x1, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S1x1x8192x8192, .i1⟩
  | .hbm, ⟨25, _⟩ => ⟨S_, .f32⟩
  | .hbm, ⟨26, _⟩ => ⟨S_, .f32⟩
  | .hbm, ⟨27, _⟩ => ⟨S2x8x8192x8192, .i1⟩
  | .hbm, ⟨28, _⟩ => ⟨S2x8x8192x8192, .f32⟩
  | .hbm, ⟨29, _⟩ => ⟨S2x8x8192x8192, .f32⟩
  | .hbm, ⟨30, _⟩ => ⟨S_, .f32⟩
  | .hbm, ⟨31, _⟩ => ⟨S2x8x8192, .f32⟩
  | .hbm, ⟨32, _⟩ => ⟨S_, .f32⟩
  | .hbm, ⟨33, _⟩ => ⟨S2x8x8192, .f32⟩
  | .hbm, ⟨34, _⟩ => ⟨S2x8x8192, .f32⟩
  | .hbm, ⟨35, _⟩ => ⟨S2x8x8192x1, .f32⟩
  | .hbm, ⟨36, _⟩ => ⟨S2x8x8192x8192, .f32⟩
  | .hbm, ⟨37, _⟩ => ⟨S2x8x8192x8192, .f32⟩
  | .hbm, ⟨38, _⟩ => ⟨S2x8x8192x8192, .f32⟩
  | .hbm, ⟨39, _⟩ => ⟨S_, .f32⟩
  | .hbm, ⟨40, _⟩ => ⟨S2x8x8192, .f32⟩
  | .hbm, ⟨41, _⟩ => ⟨S2x8x8192x1, .f32⟩
  | .hbm, ⟨42, _⟩ => ⟨S2x8x8192x8192, .f32⟩
  | .hbm, ⟨43, _⟩ => ⟨S2x8x8192x8192, .f32⟩
  | .hbm, ⟨44, _⟩ => ⟨S2x8x8192x64, .f32⟩
  | .hbm, ⟨45, _⟩ => ⟨S2x8x64x8192, .f32⟩
  | .hbm, ⟨46, _⟩ => ⟨S2x512x8192, .f32⟩
  | _, _ => ⟨S2x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_cst : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x1024 : Shape := ⟨2, ![2, 1024]⟩
abbrev S1024 : Shape := ⟨1, ![1024]⟩
abbrev S1024x3080 : Shape := ⟨2, ![1024, 3080]⟩
abbrev S8 : Shape := ⟨1, ![8]⟩
abbrev S128x1024 : Shape := ⟨2, ![128, 1024]⟩
abbrev S128x128 : Shape := ⟨2, ![128, 128]⟩
abbrev S2x1x1024 : Shape := ⟨3, ![2, 1, 1024]⟩
abbrev S1024x512 : Shape := ⟨2, ![1024, 512]⟩
abbrev S1024x8 : Shape := ⟨2, ![1024, 8]⟩
abbrev S1024x8x64 : Shape := ⟨3, ![1024, 8, 64]⟩
abbrev S_ : Shape := ⟨0, ![]⟩
abbrev S1024x8x128 : Shape := ⟨3, ![1024, 8, 128]⟩
abbrev S1024x1024 : Shape := ⟨2, ![1024, 1024]⟩
abbrev S1024x128 : Shape := ⟨2, ![1024, 128]⟩
abbrev S1024x3200 : Shape := ⟨2, ![1024, 3200]⟩
abbrev S1024x2048 : Shape := ⟨2, ![1024, 2048]⟩
abbrev S2048x1024 : Shape := ⟨2, ![2048, 1024]⟩
abbrev S128 : Shape := ⟨1, ![128]⟩
abbrev S1x128 : Shape := ⟨2, ![1, 128]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x8192x128 : Shape := ⟨3, ![1, 8192, 128]⟩
abbrev S3x8192x128 : Shape := ⟨3, ![3, 8192, 128]⟩
abbrev S8x8192 : Shape := ⟨2, ![8, 8192]⟩
abbrev S1x8x8192 : Shape := ⟨3, ![1, 8, 8192]⟩
abbrev S2x8x8192 : Shape := ⟨3, ![2, 8, 8192]⟩
abbrev S256x256 : Shape := ⟨2, ![256, 256]⟩
abbrev S1x1024 : Shape := ⟨2, ![1, 1024]⟩
abbrev S2x8192x512 : Shape := ⟨3, ![2, 8192, 512]⟩
abbrev S2x8192x128 : Shape := ⟨3, ![2, 8192, 128]⟩
abbrev S2x512x8192 : Shape := ⟨3, ![2, 512, 8192]⟩
abbrev S2x128x8192 : Shape := ⟨3, ![2, 128, 8192]⟩
abbrev S2x8x32x64x256 : Shape := ⟨5, ![2, 8, 32, 64, 256]⟩
abbrev S2x32x1x1024 : Shape := ⟨4, ![2, 32, 1, 1024]⟩
abbrev S1x256x1024 : Shape := ⟨3, ![1, 256, 1024]⟩
abbrev S1x1x1024 : Shape := ⟨3, ![1, 1, 1024]⟩
abbrev S3x256x128 : Shape := ⟨3, ![3, 256, 128]⟩
abbrev S2x8x256 : Shape := ⟨3, ![2, 8, 256]⟩
abbrev S1x256x512 : Shape := ⟨3, ![1, 256, 512]⟩
abbrev S1x256x128 : Shape := ⟨3, ![1, 256, 128]⟩
abbrev S1x512x256 : Shape := ⟨3, ![1, 512, 256]⟩
abbrev S1x128x256 : Shape := ⟨3, ![1, 128, 256]⟩
abbrev S1x8x1x64x256 : Shape := ⟨5, ![1, 8, 1, 64, 256]⟩
abbrev S1x1x1x1024 : Shape := ⟨4, ![1, 1, 1, 1024]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩
abbrev S256x3200 : Shape := ⟨2, ![256, 3200]⟩
abbrev S2048x256 : Shape := ⟨2, ![2048, 256]⟩
abbrev S256x512 : Shape := ⟨2, ![256, 512]⟩
abbrev S256x128 : Shape := ⟨2, ![256, 128]⟩
abbrev S1x1x1x128 : Shape := ⟨4, ![1, 1, 1, 128]⟩
abbrev S128x256 : Shape := ⟨2, ![128, 256]⟩
abbrev S512x256 : Shape := ⟨2, ![512, 256]⟩
abbrev S1x8x256 : Shape := ⟨3, ![1, 8, 256]⟩
abbrev S8x256 : Shape := ⟨2, ![8, 256]⟩
abbrev S48x256 : Shape := ⟨2, ![48, 256]⟩
abbrev S64x256 : Shape := ⟨2, ![64, 256]⟩
abbrev S1x1x1x64x256 : Shape := ⟨5, ![1, 1, 1, 64, 256]⟩

abbrev nBuf : Space → Nat
  | .hbm => 117
  | .vmem => 46
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024, .f32⟩
  | .hbm, ⟨3, _⟩ => ⟨S1024, .f32⟩
  | .hbm, ⟨4, _⟩ => ⟨S1024x3080, .f32⟩
  | .hbm, ⟨5, _⟩ => ⟨S8, .f32⟩
  | .hbm, ⟨6, _⟩ => ⟨S128x1024, .bf16⟩
  | .hbm, ⟨7, _⟩ => ⟨S128x128, .bf16⟩
  | .hbm, ⟨8, _⟩ => ⟨S2x1x1024, .f32⟩
  | .hbm, ⟨9, _⟩ => ⟨S2x1x1024, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x8, .f32⟩
  | .hbm, ⟨17, _⟩ => ⟨S1024x8x64, .f32⟩
  | .hbm, ⟨18, _⟩ => ⟨S_, .i32⟩
  | .hbm, ⟨19, _⟩ => ⟨S_, .f32⟩
  | .hbm, ⟨20, _⟩ => ⟨S1024x8x128, .f32⟩
  | .hbm, ⟨21, _⟩ => ⟨S1024x1024, .f32⟩
  | .hbm, ⟨22, _⟩ => ⟨S1024x8x64, .f32⟩
  | .hbm, ⟨23, _⟩ => ⟨S_, .i32⟩
  | .hbm, ⟨24, _⟩ => ⟨S_, .f32⟩
  | .hbm, ⟨25, _⟩ => ⟨S1024x8x128, .f32⟩
  | .hbm, ⟨26, _⟩ => ⟨S1024x1024, .f32⟩
  | .hbm, ⟨27, _⟩ => ⟨S_, .i32⟩
  | .hbm, ⟨28, _⟩ => ⟨S_, .f32⟩
  | .hbm, ⟨29, _⟩ => ⟨S1024x128, .f32⟩
  | .hbm, ⟨30, _⟩ => ⟨S1024x3200, .f32⟩
  | .hbm, ⟨31, _⟩ => ⟨S1024x3200, .bf16⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S_, .f32⟩
  | .hbm, ⟨36, _⟩ => ⟨S1024x512, .f32⟩
  | .hbm, ⟨37, _⟩ => ⟨S1024x512, .f32⟩
  | .hbm, ⟨38, _⟩ => ⟨S1024x2048, .f32⟩
  | .hbm, ⟨39, _⟩ => ⟨S2048x1024, .f32⟩
  | .hbm, ⟨40, _⟩ => ⟨S2048x1024, .bf16⟩
  | .hbm, ⟨41, _⟩ => ⟨S_, .i32⟩
  | .hbm, ⟨42, _⟩ => ⟨S_, .f32⟩
  | .hbm, ⟨43, _⟩ => ⟨S128, .f32⟩
  | .hbm, ⟨44, _⟩ => ⟨S1x128, .f32⟩
  | .hbm, ⟨45, _⟩ => ⟨S8192, .i32⟩
  | .hbm, ⟨46, _⟩ => ⟨S8, .f32⟩
  | .hbm, ⟨47, _⟩ => ⟨S8, .f32⟩
  | .hbm, ⟨48, _⟩ => ⟨S_, .f32⟩
  | .hbm, ⟨49, _⟩ => ⟨S8, .f32⟩
  | .hbm, ⟨50, _⟩ => ⟨S8, .f32⟩
  | .hbm, ⟨51, _⟩ => ⟨S_, .f32⟩
  | .hbm, ⟨52, _⟩ => ⟨S8, .f32⟩
  | .hbm, ⟨53, _⟩ => ⟨S8, .f32⟩
  | .hbm, ⟨54, _⟩ => ⟨S8192, .f32⟩
  | .hbm, ⟨55, _⟩ => ⟨S8192x1, .f32⟩
  | .hbm, ⟨56, _⟩ => ⟨S1x8, .f32⟩
  | .hbm, ⟨57, _⟩ => ⟨S8192x8, .f32⟩
  | .hbm, ⟨58, _⟩ => ⟨S8192x8, .f32⟩
  | .hbm, ⟨59, _⟩ => ⟨S8192x8, .f32⟩
  | .hbm, ⟨60, _⟩ => ⟨S8192x8, .f32⟩
  | .hbm, ⟨61, _⟩ => ⟨S8192x8, .f32⟩
  | .hbm, ⟨62, _⟩ => ⟨S_, .f32⟩
  | .hbm, ⟨63, _⟩ => ⟨S8192x48, .f32⟩
  | .hbm, ⟨64, _⟩ => ⟨S_, .f32⟩
  | .hbm, ⟨65, _⟩ => ⟨S8192x48, .f32⟩
  | .hbm, ⟨66, _⟩ => ⟨S_, .f32⟩
  | .hbm, ⟨67, _⟩ => ⟨S8192x8, .f32⟩
  | .hbm, ⟨68, _⟩ => ⟨S8192x64, .f32⟩
  | .hbm, ⟨69, _⟩ => ⟨S8192x8, .f32⟩
  | .hbm, ⟨70, _⟩ => ⟨S8192x64, .f32⟩
  | .hbm, ⟨71, _⟩ => ⟨S8192x64, .f32⟩
  | .hbm, ⟨72, _⟩ => ⟨S1x8192x1x64, .f32⟩
  | .hbm, ⟨73, _⟩ => ⟨S1x8192x2x64, .f32⟩
  | .hbm, ⟨74, _⟩ => ⟨S8192x128, .f32⟩
  | .hbm, ⟨75, _⟩ => ⟨S1x8192x1x64, .f32⟩
  | .hbm, ⟨76, _⟩ => ⟨S1x8192x2x64, .f32⟩
  | .hbm, ⟨77, _⟩ => ⟨S8192x128, .f32⟩
  | .hbm, ⟨78, _⟩ => ⟨S1x8192x1x64, .f32⟩
  | .hbm, ⟨79, _⟩ => ⟨S1x8192x2x64, .f32⟩
  | .hbm, ⟨80, _⟩ => ⟨S8192x128, .f32⟩
  | .hbm, ⟨81, _⟩ => ⟨S1x8192x128, .f32⟩
  | .hbm, ⟨82, _⟩ => ⟨S1x8192x128, .f32⟩
  | .hbm, ⟨83, _⟩ => ⟨S1x8192x128, .f32⟩
  | .hbm, ⟨84, _⟩ => ⟨S3x8192x128, .f32⟩
  | .hbm, ⟨85, _⟩ => ⟨S8x8192, .f32⟩
  | .hbm, ⟨86, _⟩ => ⟨S8x8192, .f32⟩
  | .hbm, ⟨87, _⟩ => ⟨S1x8x8192, .f32⟩
  | .hbm, ⟨88, _⟩ => ⟨S1x8x8192, .f32⟩
  | .hbm, ⟨89, _⟩ => ⟨S2x8x8192, .f32⟩
  | .hbm, ⟨90, _⟩ => ⟨S_, .f32⟩
  | .hbm, ⟨91, _⟩ => ⟨S256x256, .f32⟩
  | .hbm, ⟨92, _⟩ => ⟨S256x256, .i32⟩
  | .hbm, ⟨93, _⟩ => ⟨S_, .i32⟩
  | .hbm, ⟨94, _⟩ => ⟨S256x256, .i32⟩
  | .hbm, ⟨95, _⟩ => ⟨S256x256, .i32⟩
  | .hbm, ⟨96, _⟩ => ⟨S256x256, .i32⟩
  | .hbm, ⟨97, _⟩ => ⟨S256x256, .i1⟩
  | .hbm, ⟨98, _⟩ => ⟨S_, .f32⟩
  | .hbm, ⟨99, _⟩ => ⟨S256x256, .f32⟩
  | .hbm, ⟨100, _⟩ => ⟨S256x256, .f32⟩
  | .hbm, ⟨101, _⟩ => ⟨S256x256, .bf16⟩
  | .hbm, ⟨102, _⟩ => ⟨S1x1024, .f32⟩
  | .hbm, ⟨103, _⟩ => ⟨S2x8192x512, .f32⟩
  | .hbm, ⟨104, _⟩ => ⟨S2x8192x512, .f32⟩
  | .hbm, ⟨105, _⟩ => ⟨S2x8192x512, .f32⟩
  | .hbm, ⟨106, _⟩ => ⟨S2x8192x512, .f32⟩
  | .hbm, ⟨107, _⟩ => ⟨S2x8192x128, .f32⟩
  | .hbm, ⟨108, _⟩ => ⟨S2x8192x1024, .bf16⟩
  | .hbm, ⟨109, _⟩ => ⟨S2x8192x1024, .bf16⟩
  | .hbm, ⟨110, _⟩ => ⟨S2x512x8192, .bf16⟩
  | .hbm, ⟨111, _⟩ => ⟨S2x512x8192, .f32⟩
  | .hbm, ⟨112, _⟩ => ⟨S2x512x8192, .bf16⟩
  | .hbm, ⟨113, _⟩ => ⟨S2x128x8192, .bf16⟩
  | .hbm, ⟨114, _⟩ => ⟨S2x8x32x64x256, .bf16⟩
  | .hbm, ⟨115, _⟩ => ⟨S2x8x32x64x256, .bf16⟩
  | .hbm, ⟨116, _⟩ => ⟨S2x32x1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3200, .bf16⟩
  | .local _ .vmem, ⟨8, _⟩ => ⟨S2048x1024, .bf16⟩
  | .local _ .vmem, ⟨9, _⟩ => ⟨S1x128, .f32⟩
  | .local _ .vmem, ⟨10, _⟩ => ⟨S3x256x128, .f32⟩
  | .local _ .vmem, ⟨11, _⟩ => ⟨S3x256x128, .f32⟩
  | .local _ .vmem, ⟨12, _⟩ => ⟨S2x8x256, .f32⟩
  | .local _ .vmem, ⟨13, _⟩ => ⟨S2x8x256, .f32⟩
  | .local _ .vmem, ⟨14, _⟩ => ⟨S256x256, .bf16⟩
  | .local _ .vmem, ⟨15, _⟩ => ⟨S128x1024, .bf16⟩
  | .local _ .vmem, ⟨16, _⟩ => ⟨S128x128, .bf16⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | .local _ .vmem, ⟨22, _⟩ => ⟨S1x256x512, .f32⟩
  | .local _ .vmem, ⟨23, _⟩ => ⟨S1x256x512, .f32⟩
  | .local _ .vmem, ⟨24, _⟩ => ⟨S1x256x512, .f32⟩
  | .local _ .vmem, ⟨25, _⟩ => ⟨S1x256x128, .f32⟩
  | .local _ .vmem, ⟨26, _⟩ => ⟨S1x256x128, .f32⟩
  | .local _ .vmem, ⟨27, _⟩ => ⟨S1x256x1024, .bf16⟩
  | .local _ .vmem, ⟨28, _⟩ => ⟨S1x256x1024, .bf16⟩
  | .local _ .vmem, ⟨29, _⟩ => ⟨S1x256x1024, .bf16⟩
  | .local _ .vmem, ⟨30, _⟩ => ⟨S1x256x1024, .bf16⟩
  | .local _ .vmem, ⟨31, _⟩ => ⟨S1x512x256, .bf16⟩
  | .local _ .vmem, ⟨32, _⟩ => ⟨S1x512x256, .bf16⟩
  | .local _ .vmem, ⟨33, _⟩ => ⟨S1x512x256, .f32⟩
  | .local _ .vmem, ⟨34, _⟩ => ⟨S1x512x256, .f32⟩
  | .local _ .vmem, ⟨35, _⟩ => ⟨S1x512x256, .bf16⟩
  | .local _ .vmem, ⟨36, _⟩ => ⟨S1x512x256, .bf16⟩
  | .local _ .vmem, ⟨37, _⟩ => ⟨S1x128x256, .bf16⟩
  | .local _ .vmem, ⟨38, _⟩ => ⟨S1x128x256, .bf16⟩
  | .local _ .vmem, ⟨39, _⟩ => ⟨S1x8x1x64x256, .bf16⟩
  | .local _ .vmem, ⟨40, _⟩ => ⟨S1x8x1x64x256, .bf16⟩
  | .local _ .vmem, ⟨41, _⟩ => ⟨S1x8x1x64x256, .bf16⟩
  | .local _ .vmem, ⟨42, _⟩ => ⟨S1x8x1x64x256, .bf16⟩
  | .local _ .vmem, ⟨43, _⟩ => ⟨S1x1x1x1024, .f32⟩
  | .local _ .vmem, ⟨44, _⟩ => ⟨S1x1x1x1024, .f32⟩
  | .local _ .vmem, ⟨45, _⟩ => ⟨S8x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_call2_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_call3_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_call4_v0 : Ref sig .tc := ⟨.hbm, 92, rfl⟩
abbrev main_call4_c : Ref sig .tc := ⟨.hbm, 93, rfl⟩
abbrev main_call4_v1 : Ref sig .tc := ⟨.hbm, 94, rfl⟩
abbrev main_call4_v2 : Ref sig .tc := ⟨.hbm, 95, rfl⟩
abbrev main_call4_v3 : Ref sig .tc := ⟨.hbm, 96, rfl⟩
abbrev main_call4_v4 : Ref sig .tc := ⟨.hbm, 97, rfl⟩
abbrev main_call4_cst : Ref sig .tc := ⟨.hbm, 98, rfl⟩
abbrev main_call4_v5 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71_0 : Ref sig .tc := ⟨.hbm, 103, rfl⟩
abbrev main_v71_1 : Ref sig .tc := ⟨.hbm, 104, rfl⟩
abbrev main_v71_2 : Ref sig .tc := ⟨.hbm, 105, rfl⟩
abbrev main_v71_3 : Ref sig .tc := ⟨.hbm, 106, rfl⟩
abbrev main_v71_4 : Ref sig .tc := ⟨.hbm, 107, rfl⟩
abbrev main_v71_5 : Ref sig .tc := ⟨.hbm, 108, rfl⟩
abbrev main_v71_6 : Ref sig .tc := ⟨.hbm, 109, rfl⟩
abbrev main_v71_7 : Ref sig .tc := ⟨.hbm, 110, rfl⟩
abbrev main_v71_8 : Ref sig .tc := ⟨.hbm, 111, rfl⟩
abbrev main_v71_9 : Ref sig .tc := ⟨.hbm, 112, rfl⟩
abbrev main_v71_10 : Ref sig .tc := ⟨.hbm, 113, rfl⟩
abbrev main_v71_11 : Ref sig .tc := ⟨.hbm, 114, rfl⟩
abbrev main_v71_12 : Ref sig .tc := ⟨.hbm, 115, rfl⟩
abbrev main_v71_13 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg21_1 : Ref sig .tc := ⟨.vmem, 36, rfl⟩
abbrev cc0_stg22_0 : Ref sig .tc := ⟨.vmem, 37, rfl⟩
abbrev cc0_stg22_1 : Ref sig .tc := ⟨.vmem, 38, rfl⟩
abbrev cc0_stg23_0 : Ref sig .tc := ⟨.vmem, 39, rfl⟩
abbrev cc0_stg23_1 : Ref sig .tc := ⟨.vmem, 40, rfl⟩
abbrev cc0_stg24_0 : Ref sig .tc := ⟨.vmem, 41, rfl⟩
abbrev cc0_stg24_1 : Ref sig .tc := ⟨.vmem, 42, rfl⟩
abbrev cc0_stg25_0 : Ref sig .tc := ⟨.vmem, 43, rfl⟩
abbrev cc0_stg25_1 : Ref sig .tc := ⟨.vmem, 44, rfl⟩
abbrev cc0_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem21_1 : DmaSem sig := 36
abbrev cc0_sem22_0 : DmaSem sig := 37
abbrev cc0_sem22_1 : DmaSem sig := 38
abbrev cc0_sem23_0 : DmaSem sig := 39
abbrev cc0_sem23_1 : DmaSem sig := 40
abbrev cc0_sem24_0 : DmaSem sig := 41
abbrev cc0_sem24_1 : DmaSem sig := 42
abbrev cc0_sem25_0 : DmaSem sig := 43
abbrev cc0_sem25_1 : DmaSem sig := 44

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_23 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_24 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_25 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S3x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2x8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x128x256 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x8x1x64x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x8x1x64x256 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x1x1x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== Reference2Ideal.lean ====
abbrev S2x8192x1024 : Shape := ⟨3, ![2, 8192, 1024]⟩
abbrev S2x1024 : Shape := ⟨2, ![2, 1024]⟩
abbrev S1024 : Shape := ⟨1, ![1024]⟩
abbrev S1024x3080 : Shape := ⟨2, ![1024, 3080]⟩
abbrev S8 : Shape := ⟨1, ![8]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x8192x3080 : Shape := ⟨3, ![2, 8192, 3080]⟩
abbrev S2x8192x512 : Shape := ⟨3, ![2, 8192, 512]⟩
abbrev S2x8192x8 : Shape := ⟨3, ![2, 8192, 8]⟩
abbrev S2x8192x8x64 : Shape := ⟨4, ![2, 8192, 8, 64]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S1x8192x1x8 : Shape := ⟨4, ![1, 8192, 1, 8]⟩
abbrev S2x8192x8x8 : Shape := ⟨4, ![2, 8192, 8, 8]⟩
abbrev S2x8192x8x16 : Shape := ⟨4, ![2, 8192, 8, 16]⟩
abbrev S2x8192x8x48 : Shape := ⟨4, ![2, 8192, 8, 48]⟩
abbrev S1x1x8 : Shape := ⟨3, ![1, 1, 8]⟩
abbrev S2x8192x128 : Shape := ⟨3, ![2, 8192, 128]⟩

abbrev nBuf : Space → Nat
  | .hbm => 97
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024, .f32⟩
  | .hbm, ⟨3, _⟩ => ⟨S1024, .f32⟩
  | .hbm, ⟨4, _⟩ => ⟨S1024x3080, .f32⟩
  | .hbm, ⟨5, _⟩ => ⟨S8, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S2x1x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x8192x1024, .f32⟩
  | .hbm, ⟨27, _⟩ => ⟨S2x8192x1024, .f32⟩
  | .hbm, ⟨28, _⟩ => ⟨S2x1x1024, .f32⟩
  | .hbm, ⟨29, _⟩ => ⟨S2x8192x1024, .f32⟩
  | .hbm, ⟨30, _⟩ => ⟨S2x8192x1024, .f32⟩
  | .hbm, ⟨31, _⟩ => ⟨S2x8192x3080, .f32⟩
  | .hbm, ⟨32, _⟩ => ⟨S2x8192x512, .f32⟩
  | .hbm, ⟨33, _⟩ => ⟨S2x8192x512, .f32⟩
  | .hbm, ⟨34, _⟩ => ⟨S2x8192x512, .f32⟩
  | .hbm, ⟨35, _⟩ => ⟨S2x8192x512, .f32⟩
  | .hbm, ⟨36, _⟩ => ⟨S2x8192x512, .f32⟩
  | .hbm, ⟨37, _⟩ => ⟨S2x8192x512, .f32⟩
  | .hbm, ⟨38, _⟩ => ⟨S2x8192x8, .f32⟩
  | .hbm, ⟨39, _⟩ => ⟨S2x8192x8x64, .f32⟩
  | .hbm, ⟨40, _⟩ => ⟨S8192, .i32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S_, .f32⟩
  | .hbm, ⟨47, _⟩ => ⟨S8, .f32⟩
  | .hbm, ⟨48, _⟩ => ⟨S8, .f32⟩
  | .hbm, ⟨49, _⟩ => ⟨S8192, .f32⟩
  | .hbm, ⟨50, _⟩ => ⟨S8192x1, .f32⟩
  | .hbm, ⟨51, _⟩ => ⟨S1x8, .f32⟩
  | .hbm, ⟨52, _⟩ => ⟨S8192x8, .f32⟩
  | .hbm, ⟨53, _⟩ => ⟨S8192x8, .f32⟩
  | .hbm, ⟨54, _⟩ => ⟨S8192x8, .f32⟩
  | .hbm, ⟨55, _⟩ => ⟨S8192x8, .f32⟩
  | .hbm, ⟨56, _⟩ => ⟨S1x8192x1x8, .f32⟩
  | .hbm, ⟨57, _⟩ => ⟨S8192x8, .f32⟩
  | .hbm, ⟨58, _⟩ => ⟨S1x8192x1x8, .f32⟩
  | .hbm, ⟨59, _⟩ => ⟨S2x8192x8x8, .f32⟩
  | .hbm, ⟨60, _⟩ => ⟨S2x8192x8x8, .f32⟩
  | .hbm, ⟨61, _⟩ => ⟨S2x8192x8x8, .f32⟩
  | .hbm, ⟨62, _⟩ => ⟨S2x8192x8x8, .f32⟩
  | .hbm, ⟨63, _⟩ => ⟨S2x8192x8x8, .f32⟩
  | .hbm, ⟨64, _⟩ => ⟨S2x8192x8x8, .f32⟩
  | .hbm, ⟨65, _⟩ => ⟨S2x8192x8x8, .f32⟩
  | .hbm, ⟨66, _⟩ => ⟨S2x8192x8x8, .f32⟩
  | .hbm, ⟨67, _⟩ => ⟨S2x8192x8x8, .f32⟩
  | .hbm, ⟨68, _⟩ => ⟨S2x8192x8x8, .f32⟩
  | .hbm, ⟨69, _⟩ => ⟨S2x8192x8x8, .f32⟩
  | .hbm, ⟨70, _⟩ => ⟨S2x8192x8x8, .f32⟩
  | .hbm, ⟨71, _⟩ => ⟨S2x8192x8x16, .f32⟩
  | .hbm, ⟨72, _⟩ => ⟨S2x8192x8x48, .f32⟩
  | .hbm, ⟨73, _⟩ => ⟨S2x8192x8x64, .f32⟩
  | .hbm, ⟨74, _⟩ => ⟨S1x1x8, .f32⟩
  | .hbm, ⟨75, _⟩ => ⟨S2x8192x8, .f32⟩
  | .hbm, ⟨76, _⟩ => ⟨S2x8192x8, .f32⟩
  | .hbm, ⟨77, _⟩ => ⟨S2x8192x8, .f32⟩
  | .hbm, ⟨78, _⟩ => ⟨S_, .f32⟩
  | .hbm, ⟨79, _⟩ => ⟨S2x8192x8, .f32⟩
  | .hbm, ⟨80, _⟩ => ⟨S2x8192x8, .f32⟩
  | .hbm, ⟨81, _⟩ => ⟨S2x8192x8, .f32⟩
  | .hbm, ⟨82, _⟩ => ⟨S2x8192x8, .f32⟩
  | .hbm, ⟨83, _⟩ => ⟨S2x8192x8, .i1⟩
  | .hbm, ⟨84, _⟩ => ⟨S2x8192x8, .f32⟩
  | .hbm, ⟨85, _⟩ => ⟨S2x8192x8, .f32⟩
  | .hbm, ⟨86, _⟩ => ⟨S2x8192x8, .f32⟩
  | .hbm, ⟨87, _⟩ => ⟨S2x8192x8, .f32⟩
  | .hbm, ⟨88, _⟩ => ⟨S2x8192x8, .f32⟩
  | .hbm, ⟨89, _⟩ => ⟨S2x8192x8, .f32⟩
  | .hbm, ⟨90, _⟩ => ⟨S2x8192x8, .f32⟩
  | .hbm, ⟨91, _⟩ => ⟨S2x8192x8, .f32⟩
  | .hbm, ⟨92, _⟩ => ⟨S2x8192x8, .f32⟩
  | .hbm, ⟨93, _⟩ => ⟨S2x8192x512, .f32⟩
  | .hbm, ⟨94, _⟩ => ⟨S_, .i32⟩
  | .hbm, ⟨95, _⟩ => ⟨S_, .f32⟩
  | .hbm, ⟨96, _⟩ => ⟨S2x8192x128, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_call0_v0 : Ref sig .tc := ⟨.hbm, 77, rfl⟩
abbrev main_call0_call0_cst : Ref sig .tc := ⟨.hbm, 78, rfl⟩
abbrev main_call0_call0_v0 : Ref sig .tc := ⟨.hbm, 79, rfl⟩
abbrev main_call0_call0_v1 : Ref sig .tc := ⟨.hbm, 80, rfl⟩
abbrev main_call0_call0_v2 : Ref sig .tc := ⟨.hbm, 81, rfl⟩
abbrev main_call0_call0_v3 : Ref sig .tc := ⟨.hbm, 82, rfl⟩
abbrev main_call0_call0_v4 : Ref sig .tc := ⟨.hbm, 83, rfl⟩
abbrev main_call0_call0_v5 : Ref sig .tc := ⟨.hbm, 84, rfl⟩
abbrev main_call0_call0_v6 : Ref sig .tc := ⟨.hbm, 85, rfl⟩
abbrev main_call0_call0_v7 : Ref sig .tc := ⟨.hbm, 86, rfl⟩
abbrev main_call0_call0_v8 : Ref sig .tc := ⟨.hbm, 87, rfl⟩
abbrev main_call0_call0_v9 : Ref sig .tc := ⟨.hbm, 88, rfl⟩
abbrev main_call0_call0_v10 : Ref sig .tc := ⟨.hbm, 89, rfl⟩
abbrev main_call0_call0_v11 : Ref sig .tc := ⟨.hbm, 90, rfl⟩
abbrev main_call0_v1 : Ref sig .tc := ⟨.hbm, 91, rfl⟩
abbrev main_v65 : Ref sig .tc := ⟨.hbm, 92, rfl⟩
abbrev main_v66 : Ref sig .tc := ⟨.hbm, 93, rfl⟩
abbrev main_c : Ref sig .tc := ⟨.hbm, 94, rfl⟩
abbrev main_call1_v0 : Ref sig .tc := ⟨.hbm, 95, rfl⟩
abbrev main_v67 : Ref sig .tc := ⟨.hbm, 96, rfl⟩

abbrev nD : Nat := 1
abbrev τ : Topo := Topo.v7x

variable {F : FTy → Type} [FloatOps F]
-- ==== Proof.Model.lean ====
module
public import proofs.«01_k».proof.Proof.Gen.KernelIdeal.Value
@[expose] public section

/-! # One grid point of the attention kernel, written as vector operations per head

A head's running state is its row of maxima `m`, its row of denominators `l` and its block of weighted values `a`.
This module names one update of that state by two tiles of scores, and states that a trip of the kernel's loop is
this update on each of the four heads of the group. -/
set_option maxRecDepth 16384
noncomputable section
namespace Cert.Attn
open Cert.KernelIdeal Cert.KernelIdeal.Gen Idealize.ShloMosaic Idealize.ShloMosaic.TcCoe Idealize.ShloMosaic.Tactic
variable {F : FTy → Type} [FloatOps F]

/-- The maximum of each column of a tile of scores, from −∞. -/
def colMax (s : FVec F S256x256 .f32) : FVec F S1x256 .f32 :=
  shapeCast S1x256 (multiReduction .maximumf [0] S256 s 0xFF800000#32 reduces_S256x256_S256 (.inl rfl) rfl) shapeCasts_S256_S1x256

/-- The sum of each column of a tile, from 0. -/
def colSum (s : FVec F S256x256 .f32) : FVec F S1x256 .f32 :=
  shapeCast S1x256 (multiReduction .add [0] S256 s 0x00000000#32 reduces_S256x256_S256 (.inl rfl) rfl) shapeCasts_S256_S1x256

/-- The new row of maxima: the old one and both tiles. -/
def newM (m : FVec F S1x256 .f32) (s0 s1 : FVec F S256x256 .f32) : FVec F S1x256 .f32 :=
  maximumf (maximumf m (colMax s0)) (colMax s1)

/-- The factor by which the old sums are rescaled. -/
def fac (m m' : FVec F S1x256 .f32) : FVec F S1x256 .f32 := exp2 (subf m m')

/-- The weights of a tile against the row of maxima. -/
def wts (s : FVec F S256x256 .f32) (m' : FVec F S1x256 .f32) : FVec F S256x256 .f32 :=
  exp2 (subf s (broadcastTo S256x256 m' broadcasts_S1x256_S256x256))

/-- The new row of denominators. -/
def newL (m l : FVec F S1x256 .f32) (s0 s1 : FVec F S256x256 .f32) : FVec F S1x256 .f32 :=
  addf (addf (mulf (fac m (newM m s0 s1)) l) (colSum (wts s0 (newM m s0 s1)))) (colSum (wts s1 (newM m s0 s1)))

/-- The product of a tile of values with a tile of weights. -/
def vdot (v : Vec F S1x1x1x64x256 .bf16) (p : FVec F S256x256 .f32) : FVec F S64x256 .f32 :=
  matmul dot_S64x256_S256x256_S64x256_1_0_0_1_n_n none (shapeCast S64x256 v shapeCasts_S1x1x1x64x256_S64x256 : FVec F S64x256 .bf16)
    (truncf .bf16 p bitsLt_bf16_f32) (constant S64x256 .f32 0x00000000#32)

/-- The new block of weighted values. -/
def newA (m : FVec F S1x256 .f32) (a : FVec F S64x256 .f32) (s0 s1 : FVec F S256x256 .f32) (v0 v1 : Vec F S1x1x1x64x256 .bf16) :
    FVec F S64x256 .f32 :=
  addf (addf (mulf (broadcastTo S64x256 (fac m (newM m s0 s1)) broadcasts_S1x256_S64x256) a) (vdot v0 (wts s0 (newM m s0 s1))))
    (vdot v1 (wts s1 (newM m s0 s1)))

/-- The scores of one key tile of the first head of the group against the head's query block. -/
def score0 (q : FVec F S128x256 .bf16) (k : Vec F S1x256x512 .bf16) : FVec F S256x256 .f32 :=
  matmul dot_S256x128_S128x256_S256x256_1_0_0_1_n_n none
    (extractStridedSlice S256x128 ![0, 0] (shapeCast S256x512 k shapeCasts_S1x256x512_S256x512 : FVec F S256x512 .bf16) slices_S256x512_o0_0_S256x128)
    q (constant S256x256 .f32 0x00000000#32)
/-- The same for the second head. -/
def score1 (q : FVec F S128x256 .bf16) (k : Vec F S1x256x512 .bf16) : FVec F S256x256 .f32 :=
  matmul dot_S256x128_S128x256_S256x256_1_0_0_1_n_n none
    (extractStridedSlice S256x128 ![0, 128] (shapeCast S256x512 k shapeCasts_S1x256x512_S256x512 : FVec F S256x512 .bf16) slices_S256x512_o0_128_S256x128)
    q (constant S256x256 .f32 0x00000000#32)
/-- The same for the third head. -/
def score2 (q : FVec F S128x256 .bf16) (k : Vec F S1x256x512 .bf16) : FVec F S256x256 .f32 :=
  matmul dot_S256x128_S128x256_S256x256_1_0_0_1_n_n none
    (extractStridedSlice S256x128 ![0, 256] (shapeCast S256x512 k shapeCasts_S1x256x512_S256x512 : FVec F S256x512 .bf16) slices_S256x512_o0_256_S256x128)
    q (constant S256x256 .f32 0x00000000#32)
/-- The same for the fourth head. -/
def score3 (q : FVec F S128x256 .bf16) (k : Vec F S1x256x512 .bf16) : FVec F S256x256 .f32 :=
  matmul dot_S256x128_S128x256_S256x256_1_0_0_1_n_n none
    (extractStridedSlice S256x128 ![0, 384] (shapeCast S256x512 k shapeCasts_S1x256x512_S256x512 : FVec F S256x512 .bf16) slices_S256x512_o0_384_S256x128)
    q (constant S256x256 .f32 0x00000000#32)

/-- The mask of the diagonal tile: a key is kept when its position in the tile is at most the query's. -/
def diag : IVec S256x256 1 := cmpi .sle (iota .tc S256x256 32 [0] iota_S256x256_d0_w32) (iota .tc S256x256 32 [1] iota_S256x256_d1_w32)

/-- The mask of the extra tile: all of it when the number of earlier tiles is odd, none of it otherwise. -/
def extra (i : grid0.Coords) : IVec S256x256 1 :=
  cmpi .slt (iota .tc S256x256 32 [0] iota_S256x256_d0_w32) (broadcast S256x256 (Scalar.muli (kernelRun0_A.sl.v73 i) 256#32))

/-- A tile of scores with −∞ where the mask is not set. -/
def masked (b : IVec S256x256 1) (s : FVec F S256x256 .f32) : FVec F S256x256 .f32 :=
  select b s (broadcast S256x256 (Scalar.ofBits .f32 0xFF800000#32 : F .f32))

/-- The starting row of maxima. -/
def m0 : FVec F S1x256 .f32 := broadcast S1x256 (Scalar.ofBits .f32 0xFF800000#32 : F .f32)
/-- The starting row of denominators. -/
def l0 : FVec F S1x256 .f32 := broadcast S1x256 (Scalar.ofBits .f32 0x00000000#32 : F .f32)
/-- The starting block of weighted values. -/
def a0 : FVec F S64x256 .f32 := broadcast S64x256 (Scalar.ofBits .f32 0x00000000#32 : F .f32)

/-- The head's part of the output block. -/
def quot (l : FVec F S1x256 .f32) (a : FVec F S64x256 .f32) : FVec F S1x64x256 .f32 :=
  shapeCast S1x64x256 (divf a (broadcastTo S64x256 l broadcasts_S1x256_S64x256)) shapeCasts_S64x256_S1x64x256

/-- The carried values of the loop: `m`, `l`, `a` of each of the four heads. -/
abbrev Carry (F : FTy → Type) : Type :=
  FVec F S1x256 .f32 × FVec F S1x256 .f32 × FVec F S64x256 .f32 × FVec F S1x256 .f32 × FVec F S1x256 .f32 × FVec F S64x256 .f32 ×
  FVec F S1x256 .f32 × FVec F S1x256 .f32 × FVec F S64x256 .f32 × FVec F S1x256 .f32 × FVec F S1x256 .f32 × FVec F S64x256 .f32

/-- The update of all four heads by two key tiles and, per head, two tiles of values. -/
def upd (q0 q1 q2 q3 : FVec F S128x256 .bf16) (k0 k1 : Vec F S1x256x512 .bf16)
    (v00 v01 v10 v11 v20 v21 v30 v31 : Vec F S1x1x1x64x256 .bf16) (x : Carry F) : Carry F :=
  (newM x.1 (score0 q0 k0) (score0 q0 k1),
   newL x.1 x.2.1 (score0 q0 k0) (score0 q0 k1),
   newA x.1 x.2.2.1 (score0 q0 k0) (score0 q0 k1) v00 v01,
   newM x.2.2.2.1 (score1 q1 k0) (score1 q1 k1),
   newL x.2.2.2.1 x.2.2.2.2.1 (score1 q1 k0) (score1 q1 k1),
   newA x.2.2.2.1 x.2.2.2.2.2.1 (score1 q1 k0) (score1 q1 k1) v10 v11,
   newM x.2.2.2.2.2.2.1 (score2 q2 k0) (score2 q2 k1),
   newL x.2.2.2.2.2.2.1 x.2.2.2.2.2.2.2.1 (score2 q2 k0) (score2 q2 k1),
   newA x.2.2.2.2.2.2.1 x.2.2.2.2.2.2.2.2.1 (score2 q2 k0) (score2 q2 k1) v20 v21,
   newM x.2.2.2.2.2.2.2.2.2.1 (score3 q3 k0) (score3 q3 k1),
   newL x.2.2.2.2.2.2.2.2.2.1 x.2.2.2.2.2.2.2.2.2.2.1 (score3 q3 k0) (score3 q3 k1),
   newA x.2.2.2.2.2.2.2.2.2.1 x.2.2.2.2.2.2.2.2.2.2.2 (score3 q3 k0) (score3 q3 k1) v30 v31)

/-- The key tile the loop's trip `k` takes first. -/
def kA (i : grid0.Coords) (k : Fin (k0_t1_loop i).trips) (x2 : Vec F S1x8192x512 .bf16) : Vec F S1x256x512 .bf16 :=
  View.ld x2 (Rect.unit (s := S1x8192x512) (k0_off6 i k) S1x256x512.size (k0_off6_inb i k))
/-- The key tile the loop's trip `k` takes second. -/
def kB (i : grid0.Coords) (k : Fin (k0_t1_loop i).trips) (x2 : Vec F S1x8192x512 .bf16) : Vec F S1x256x512 .bf16 :=
  View.ld x2 (Rect.unit (s := S1x8192x512) (k0_off7 i k) S1x256x512.size (k0_off7_inb i k))
/-- A tile of values, at an offset. -/
def vAt (o : Fin 5 → Nat) (h : ∀ a, o a + S1x1x1x64x256.size a ≤ S1x4x32x64x256.size a) (x3 : Vec F S1x4x32x64x256 .bf16) :
    Vec F S1x1x1x64x256 .bf16 :=
  View.ld x3 (Rect.unit (s := S1x4x32x64x256) o S1x1x1x64x256.size h)

/-- A trip of the loop is the update by the trip's two key tiles and their values. -/
theorem trip_eq (𝒱 : Variants) (c : Dev nD) (bd : Option 𝒱.V) (i : grid0.Coords) (arg3 : Memref sig .tc .vmem S1x256x256 .bf16) (harg3 : arg3.IsWhole) (arg4 : Memref sig .tc .vmem S1x64x256 .bf16) (harg4 : arg4.IsWhole) (arg5 : Memref sig .tc .vmem S1x8192x512 .bf16) (harg5 : arg5.IsWhole) (arg6 : Memref sig .tc .vmem S1x4x32x64x256 .bf16) (harg6 : arg6.IsWhole) (arg7 : Memref sig .tc .vmem S1x256x256 .f32) (harg7 : arg7.IsWhole) (arg8 : Memref sig .tc .vmem S4x128x256 .bf16) (harg8 : arg8.IsWhole)
    (q0 q1 q2 q3 : FVec F S128x256 .bf16) (v73 z : BitVec 32) (x2 : Vec F S1x8192x512 .bf16) (x3 : Vec F S1x4x32x64x256 .bf16)
    (k : Fin (k0_t1_loop i).trips) (acc : Carry F) :
    tripR_k0_t1 𝒱 c bd i arg3 harg3 arg4 harg4 arg5 harg5 arg6 harg6 arg7 harg7 arg8 harg8 q0 q1 q2 q3 v73 z (harg5.unread x2) (harg6.unread x3) k acc
      = upd q0 q1 q2 q3 (kA i k x2) (kB i k x2)
          (vAt (k0_off8 i k) (k0_off8_inb i k) x3) (vAt (k0_off9 i k) (k0_off9_inb i k) x3)
          (vAt (k0_off10 i k) (k0_off10_inb i k) x3) (vAt (k0_off11 i k) (k0_off11_inb i k) x3)
          (vAt (k0_off12 i k) (k0_off12_inb i k) x3) (vAt (k0_off13 i k) (k0_off13_inb i k) x3)
          (vAt (k0_off14 i k) (k0_off14_inb i k) x3) (vAt (k0_off15 i k) (k0_off15_inb i k) x3) acc := by
  obtain ⟨a1, a2, a3, a4, a5, a6, a7, a8, a9, a10, a11, a12⟩ := acc
  unfold tripR_k0_t1 trip_k0_t1 upd
  dsimp only
  have e5 := harg5.read_unread x2
  have e6 := harg6.read_unread x3
  refine Prod.ext ?_ (Prod.ext ?_ (Prod.ext ?_ (Prod.ext ?_ (Prod.ext ?_ (Prod.ext ?_ (Prod.ext ?_ (Prod.ext ?_ (Prod.ext ?_ (Prod.ext ?_ (Prod.ext ?_ ?_))))))))))
  all_goals dsimp only
  all_goals sl_unfold_words
  all_goals simp only [View.readAt_eq_ld, e5, e6]
  all_goals rfl

/-- The state after the first step: the diagonal tile and the extra tile, each under its mask, from the starting state. -/
def first (i : grid0.Coords) (q0 q1 q2 q3 : FVec F S128x256 .bf16) (kd ke : Vec F S1x256x512 .bf16)
    (v00 v01 v10 v11 v20 v21 v30 v31 : Vec F S1x1x1x64x256 .bf16) : Carry F :=
  (newM m0 (masked diag (score0 q0 kd)) (masked (extra i) (score0 q0 ke)),
   newL m0 l0 (masked diag (score0 q0 kd)) (masked (extra i) (score0 q0 ke)),
   newA m0 a0 (masked diag (score0 q0 kd)) (masked (extra i) (score0 q0 ke)) v00 v01,
   newM m0 (masked diag (score1 q1 kd)) (masked (extra i) (score1 q1 ke)),
   newL m0 l0 (masked diag (score1 q1 kd)) (masked (extra i) (score1 q1 ke)),
   newA m0 a0 (masked diag (score1 q1 kd)) (masked (extra i) (score1 q1 ke)) v10 v11,
   newM m0 (masked diag (score2 q2 kd)) (masked (extra i) (score2 q2 ke)),
   newL m0 l0 (masked diag (score2 q2 kd)) (masked (extra i) (score2 q2 ke)),
   newA m0 a0 (masked diag (score2 q2 kd)) (masked (extra i) (score2 q2 ke)) v20 v21,
   newM m0 (masked diag (score3 q3 kd)) (masked (extra i) (score3 q3 ke)),
   newL m0 l0 (masked diag (score3 q3 kd)) (masked (extra i) (score3 q3 ke)),
   newA m0 a0 (masked diag (score3 q3 kd)) (masked (extra i) (score3 q3 ke)) v30 v31)

/-- The first step at a grid point, from the blocks of keys and values. -/
def firstAt (i : grid0.Coords) (q0 q1 q2 q3 : FVec F S128x256 .bf16) (x2 : Vec F S1x8192x512 .bf16) (x3 : Vec F S1x4x32x64x256 .bf16) : Carry F :=
  first i q0 q1 q2 q3
    (View.ld x2 (Rect.unit (s := S1x8192x512) (k0_off1 i) S1x256x512.size (k0_off1_inb i)))
    (View.ld x2 (Rect.unit (s := S1x8192x512) ![0, 0, 0] S1x256x512.size inb_S1x8192x512_S1x256x512_0_0_0))
    (vAt (k0_off2 i) (k0_off2_inb i) x3) (vAt ![0, 0, 0, 0, 0] inb_S1x4x32x64x256_S1x1x1x64x256_0_0_0_0_0 x3)
    (vAt (k0_off3 i) (k0_off3_inb i) x3) (vAt ![0, 1, 0, 0, 0] inb_S1x4x32x64x256_S1x1x1x64x256_0_1_0_0_0 x3)
    (vAt (k0_off4 i) (k0_off4_inb i) x3) (vAt ![0, 2, 0, 0, 0] inb_S1x4x32x64x256_S1x1x1x64x256_0_2_0_0_0 x3)
    (vAt (k0_off5 i) (k0_off5_inb i) x3) (vAt ![0, 3, 0, 0, 0] inb_S1x4x32x64x256_S1x1x1x64x256_0_3_0_0_0 x3)

/-- The state after `n` trips of the loop. -/
def after (i : grid0.Coords) (q0 q1 q2 q3 : FVec F S128x256 .bf16) (x2 : Vec F S1x8192x512 .bf16) (x3 : Vec F S1x4x32x64x256 .bf16)
    (init : Carry F) : ℕ → Carry F
  | 0 => init
  | n + 1 => if h : n < (k0_t1_loop i).trips then
      upd q0 q1 q2 q3 (kA i ⟨n, h⟩ x2) (kB i ⟨n, h⟩ x2)
        (vAt (k0_off8 i ⟨n, h⟩) (k0_off8_inb i ⟨n, h⟩) x3) (vAt (k0_off9 i ⟨n, h⟩) (k0_off9_inb i ⟨n, h⟩) x3)
        (vAt (k0_off10 i ⟨n, h⟩) (k0_off10_inb i ⟨n, h⟩) x3) (vAt (k0_off11 i ⟨n, h⟩) (k0_off11_inb i ⟨n, h⟩) x3)
        (vAt (k0_off12 i ⟨n, h⟩) (k0_off12_inb i ⟨n, h⟩) x3) (vAt (k0_off13 i ⟨n, h⟩) (k0_off13_inb i ⟨n, h⟩) x3)
        (vAt (k0_off14 i ⟨n, h⟩) (k0_off14_inb i ⟨n, h⟩) x3) (vAt (k0_off15 i ⟨n, h⟩) (k0_off15_inb i ⟨n, h⟩) x3)
        (after i q0 q1 q2 q3 x2 x3 init n)
    else after i q0 q1 q2 q3 x2 x3 init n

/-- The loop's carried values before trip `n` are the state after `n` trips. -/
theorem loop_eq (𝒱 : Variants) (c : Dev nD) (bd : Option 𝒱.V) (i : grid0.Coords) (arg3 : Memref sig .tc .vmem S1x256x256 .bf16) (harg3 : arg3.IsWhole) (arg4 : Memref sig .tc .vmem S1x64x256 .bf16) (harg4 : arg4.IsWhole) (arg5 : Memref sig .tc .vmem S1x8192x512 .bf16) (harg5 : arg5.IsWhole) (arg6 : Memref sig .tc .vmem S1x4x32x64x256 .bf16) (harg6 : arg6.IsWhole) (arg7 : Memref sig .tc .vmem S1x256x256 .f32) (harg7 : arg7.IsWhole) (arg8 : Memref sig .tc .vmem S4x128x256 .bf16) (harg8 : arg8.IsWhole)
    (q0 q1 q2 q3 : FVec F S128x256 .bf16) (v73 z : BitVec 32) (x2 : Vec F S1x8192x512 .bf16) (x3 : Vec F S1x4x32x64x256 .bf16) (init : Carry F)
    (n : ℕ) (hn : n ≤ (k0_t1_loop i).trips) :
    st_k0_t1 𝒱 c bd i arg3 harg3 arg4 harg4 arg5 harg5 arg6 harg6 arg7 harg7 arg8 harg8 q0 q1 q2 q3 v73 z (harg5.unread x2) (harg6.unread x3) init n
      = after i q0 q1 q2 q3 x2 x3 init n := by
  induction n with
  | zero => exact st_k0_t1_zero ..
  | succ n ih =>
    have h : n < (k0_t1_loop i).trips := hn
    have e := st_k0_t1_succ 𝒱 c bd i arg3 harg3 arg4 harg4 arg5 harg5 arg6 harg6 arg7 harg7 arg8 harg8 q0 q1 q2 q3 v73 z (harg5.unread x2) (harg6.unread x3) init ⟨n, h⟩
    rw [e, trip_eq, ih (Nat.le_of_lt h)]
    simp only [after, dif_pos h]

/-- A grid point with a given third coordinate. -/
def pt (n : Fin 32) : grid0.Coords := fun a => ⟨if a = 2 then n.val else 0, by
  revert n; revert a; decide⟩

theorem trips2_pt : ∀ n : Fin 32, (k0_t2_loop (pt n)).trips = 0 := by decide
/-- The loop over what a trip count that is not a multiple would leave takes no trip. -/
theorem trips2 (i : grid0.Coords) : (k0_t2_loop i).trips = 0 := trips2_pt (i 2)

theorem trips1_pt : ∀ n : Fin 32, (k0_t1_loop (pt n)).trips = n.val / 2 := by decide
/-- The loop takes half as many trips as there are earlier tiles. -/
theorem trips1 (i : grid0.Coords) : (k0_t1_loop i).trips = (i 2).val / 2 := trips1_pt (i 2)

/-- The query block of the first head of the group. -/
abbrev Q0 (t : Fin cfg0.N) (c : Dev nD) (x0 : Vec F S1x256x256 .bf16) (x1 : Vec F S1x64x256 .bf16) := kernelRun0_A.sl.r_1 (F := F) c (ms0_0 t) (hs0_0 t) (ms0_1 t) (hs0_1 t) scM0_0 x0 x1
/-- The query block of the second head. -/
abbrev Q1 (t : Fin cfg0.N) (c : Dev nD) (x0 : Vec F S1x256x256 .bf16) (x1 : Vec F S1x64x256 .bf16) := kernelRun0_A.sl.r_2 (F := F) c (ms0_0 t) (hs0_0 t) (ms0_1 t) (hs0_1 t) scM0_0 x0 x1
/-- The query block of the third head. -/
abbrev Q2 (t : Fin cfg0.N) (c : Dev nD) (x0 : Vec F S1x256x256 .bf16) (x1 : Vec F S1x64x256 .bf16) := kernelRun0_A.sl.r_3 (F := F) c (ms0_0 t) (hs0_0 t) (ms0_1 t) (hs0_1 t) scM0_0 x0 x1
/-- The query block of the fourth head. -/
abbrev Q3 (t : Fin cfg0.N) (c : Dev nD) (x0 : Vec F S1x256x256 .bf16) (x1 : Vec F S1x64x256 .bf16) := kernelRun0_A.sl.r_4 (F := F) c (ms0_0 t) (hs0_0 t) (ms0_1 t) (hs0_1 t) scM0_0 x0 x1

/-- The state at the end of a grid point. -/
def final (c : Dev nD) (t : Fin cfg0.N) (x0 : Vec F S1x256x256 .bf16) (x1 : Vec F S1x64x256 .bf16) (x2 : Vec F S1x8192x512 .bf16) (x3 : Vec F S1x4x32x64x256 .bf16) : Carry F :=
  after (grid0.coords t) (Q0 t c x0 x1) (Q1 t c x0 x1) (Q2 t c x0 x1) (Q3 t c x0 x1) x2 x3
    (firstAt (grid0.coords t) (Q0 t c x0 x1) (Q1 t c x0 x1) (Q2 t c x0 x1) (Q3 t c x0 x1) x2 x3) (k0_t1_loop (grid0.coords t)).trips

/-- The output block of a grid point: the four heads' quotients, one below the other. -/
theorem out_eq (c : Dev nD) (t : Fin cfg0.N) (x0 : Vec F S1x256x256 .bf16) (x1 : Vec F S1x64x256 .bf16) (x2 : Vec F S1x8192x512 .bf16) (x3 : Vec F S1x4x32x64x256 .bf16) :
    out0_A_4 (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) x0 x1 x2 x3
      = View.canon [
          ⟨Rect.unit (s := S1x256x256) ![0, 192, 0] S1x64x256.size inb_S1x256x256_S1x64x256_0_192_0, quot (final c t x0 x1 x2 x3).2.2.2.2.2.2.2.2.2.2.1 (final c t x0 x1 x2 x3).2.2.2.2.2.2.2.2.2.2.2⟩,
          ⟨Rect.unit (s := S1x256x256) ![0, 128, 0] S1x64x256.size inb_S1x256x256_S1x64x256_0_128_0, quot (final c t x0 x1 x2 x3).2.2.2.2.2.2.2.1 (final c t x0 x1 x2 x3).2.2.2.2.2.2.2.2.1⟩,
          ⟨Rect.unit (s := S1x256x256) ![0, 64, 0] S1x64x256.size inb_S1x256x256_S1x64x256_0_64_0, quot (final c t x0 x1 x2 x3).2.2.2.2.1 (final c t x0 x1 x2 x3).2.2.2.2.2.1⟩,
          ⟨Rect.unit (s := S1x256x256) ![0, 0, 0] S1x64x256.size inb_S1x256x256_S1x64x256_0_0_0, quot (final c t x0 x1 x2 x3).2.1 (final c t x0 x1 x2 x3).2.2.1⟩] := by
  unfold out0_A_4
  rw [View.read_writes_eq_canon _ _ _ (cover0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) x0 x1 x2 x3)]
  unfold kernelRun0_A
  dsimp only
  have e2 : ∀ init, st_k0_t2 (F := F) Variants.none c none (grid0.coords t) (ms0_0 t) (hs0_0 t) (ms0_1 t) (hs0_1 t) (ms0_2 t) (hs0_2 t) (ms0_3 t) (hs0_3 t) (ms0_4 t) (hs0_4 t) scM0_0 (Memref.isWhole_whole _) (Q0 t c x0 x1) (Q1 t c x0 x1) (Q2 t c x0 x1) (Q3 t c x0 x1) (kernelRun0_A.sl.v73 (grid0.coords t)) (Scalar.addi (0#32) (kernelRun0_A.sl.v287 (grid0.coords t))) ((hs0_2 t).unread x2) ((hs0_3 t).unread x3) init (k0_t2_loop (grid0.coords t)).trips = init := by
    intro init
    rw [trips2]
    exact st_k0_t2_zero ..
  have e1 : ∀ init, st_k0_t1 (F := F) Variants.none c none (grid0.coords t) (ms0_0 t) (hs0_0 t) (ms0_1 t) (hs0_1 t) (ms0_2 t) (hs0_2 t) (ms0_3 t) (hs0_3 t) (ms0_4 t) (hs0_4 t) scM0_0 (Memref.isWhole_whole _) (Q0 t c x0 x1) (Q1 t c x0 x1) (Q2 t c x0 x1) (Q3 t c x0 x1) (kernelRun0_A.sl.v73 (grid0.coords t)) (0#32) ((hs0_2 t).unread x2) ((hs0_3 t).unread x3) init (k0_t1_loop (grid0.coords t)).trips = after (grid0.coords t) (Q0 t c x0 x1) (Q1 t c x0 x1) (Q2 t c x0 x1) (Q3 t c x0 x1) x2 x3 init (k0_t1_loop (grid0.coords t)).trips := by
    intro init
    exact loop_eq (hn := le_rfl) ..
  have e0 : ((kernelRun0_A.sl.r_15 (F := F) c (grid0.coords t) (ms0_0 t) (hs0_0 t) (ms0_1 t) (hs0_1 t) (ms0_2 t) (hs0_2 t) scM0_0 x0 x1 x2,
      kernelRun0_A.sl.r_16 (F := F) c (grid0.coords t) (ms0_0 t) (hs0_0 t) (ms0_1 t) (hs0_1 t) (ms0_2 t) (hs0_2 t) scM0_0 x0 x1 x2,
      kernelRun0_A.sl.r_17 (F := F) c (grid0.coords t) (ms0_0 t) (hs0_0 t) (ms0_1 t) (hs0_1 t) (ms0_2 t) (hs0_2 t) (ms0_3 t) (hs0_3 t) scM0_0 x0 x1 x2 x3,
      kernelRun0_A.sl.r_20 (F := F) c (grid0.coords t) (ms0_0 t) (hs0_0 t) (ms0_1 t) (hs0_1 t) (ms0_2 t) (hs0_2 t) scM0_0 x0 x1 x2,
      kernelRun0_A.sl.r_22 (F := F) c (grid0.coords t) (ms0_0 t) (hs0_0 t) (ms0_1 t) (hs0_1 t) (ms0_2 t) (hs0_2 t) scM0_0 x0 x1 x2,
      kernelRun0_A.sl.r_23 (F := F) c (grid0.coords t) (ms0_0 t) (hs0_0 t) (ms0_1 t) (hs0_1 t) (ms0_2 t) (hs0_2 t) (ms0_3 t) (hs0_3 t) scM0_0 x0 x1 x2 x3,
      kernelRun0_A.sl.r_26 (F := F) c (grid0.coords t) (ms0_0 t) (hs0_0 t) (ms0_1 t) (hs0_1 t) (ms0_2 t) (hs0_2 t) scM0_0 x0 x1 x2,
      kernelRun0_A.sl.r_30 (F := F) c (grid0.coords t) (ms0_0 t) (hs0_0 t) (ms0_1 t) (hs0_1 t) (ms0_2 t) (hs0_2 t) scM0_0 x0 x1 x2,
      kernelRun0_A.sl.r_31 (F := F) c (grid0.coords t) (ms0_0 t) (hs0_0 t) (ms0_1 t) (hs0_1 t) (ms0_2 t) (hs0_2 t) (ms0_3 t) (hs0_3 t) scM0_0 x0 x1 x2 x3,
      kernelRun0_A.sl.r_33 (F := F) c (grid0.coords t) (ms0_0 t) (hs0_0 t) (ms0_1 t) (hs0_1 t) (ms0_2 t) (hs0_2 t) scM0_0 x0 x1 x2,
      kernelRun0_A.sl.r_38 (F := F) c (grid0.coords t) (ms0_0 t) (hs0_0 t) (ms0_1 t) (hs0_1 t) (ms0_2 t) (hs0_2 t) scM0_0 x0 x1 x2,
      kernelRun0_A.sl.r_39 (F := F) c (grid0.coords t) (ms0_0 t) (hs0_0 t) (ms0_1 t) (hs0_1 t) (ms0_2 t) (hs0_2 t) (ms0_3 t) (hs0_3 t) scM0_0 x0 x1 x2 x3) : Carry F)
      = firstAt (grid0.coords t) (Q0 t c x0 x1) (Q1 t c x0 x1) (Q2 t c x0 x1) (Q3 t c x0 x1) x2 x3 := by
    have r2 := (hs0_2 t).read_unread x2
    have r3 := (hs0_3 t).read_unread x3
    unfold firstAt first
    refine Prod.ext ?_ (Prod.ext ?_ (Prod.ext ?_ (Prod.ext ?_ (Prod.ext ?_ (Prod.ext ?_ (Prod.ext ?_ (Prod.ext ?_ (Prod.ext ?_ (Prod.ext ?_ (Prod.ext ?_ ?_))))))))))
    all_goals dsimp only
    all_goals sl_unfold_words
    all_goals simp only [View.readAt_eq_ld, r2, r3]
    all_goals rfl
  dsimp only [Scf.Loop.trips, k0_t1_loop, k0_t2_loop] at e1 e2
  simp only [e2, e1, e0]
  rfl

end Cert.Attn
-- ==== Proof.Softmax.lean ====
module
public import Idealize.ShloMosaic.PureOps.Ideal
@[expose] public section

/-! # The softmax in steps, over the extended reals

`s j r` is the score of key `r` of tile `j` (⊥ where it is masked) and `w j r` the weight's factor. Over a set `A` of
tiles `mx s A` is the greatest score and `sm s w A m` the sum of the factors times the powers of two of the scores
less `m`. This module shows how the two grow when tiles are added, and that powers of two of scaled scores over a
quotient of such sums are the reference's softmax. -/
noncomputable section
namespace Cert.Attn
open Idealize.ShloMosaic

/-- The greatest score of a row of scores. -/
def rmax {n : ℕ} (f : Fin n → EReal) : EReal := Finset.univ.fold max ⊥ f
/-- The greatest score over a set of tiles. -/
def mx (s : Fin 32 → Fin 256 → EReal) (A : Finset (Fin 32)) : EReal := A.sup fun j => rmax (s j)
/-- The weighted sum over a set of tiles, against the maximum `m`. -/
def sm (s w : Fin 32 → Fin 256 → EReal) (A : Finset (Fin 32)) (m : EReal) : EReal :=
  ∑ j ∈ A, ∑ r, w j r * Ideal.exp2 (s j r - m)

theorem rmax_eq_sup {n : ℕ} (f : Fin n → EReal) : rmax f = Finset.univ.sup f := rfl

theorem le_rmax {n : ℕ} (f : Fin n → EReal) (r : Fin n) : f r ≤ rmax f := by
  rw [rmax_eq_sup]; exact Finset.le_sup (Finset.mem_univ r)

theorem rmax_ne_top {n : ℕ} (f : Fin n → EReal) (h : ∀ r, f r ≠ ⊤) : rmax f ≠ ⊤ := by
  rw [rmax_eq_sup, ← lt_top_iff_ne_top, Finset.sup_lt_iff (by exact bot_lt_top)]
  exact fun r _ => lt_top_iff_ne_top.mpr (h r)

theorem rmax_bot {n : ℕ} : rmax (fun _ : Fin n => (⊥ : EReal)) = ⊥ := by
  rw [rmax_eq_sup]; exact Finset.sup_bot _

theorem mx_ne_top (s : Fin 32 → Fin 256 → EReal) (h : ∀ j r, s j r ≠ ⊤) (A : Finset (Fin 32)) : mx s A ≠ ⊤ := by
  rw [mx, ← lt_top_iff_ne_top, Finset.sup_lt_iff (by exact bot_lt_top)]
  exact fun j _ => lt_top_iff_ne_top.mpr (rmax_ne_top _ (h j))

theorem le_mx (s : Fin 32 → Fin 256 → EReal) (A : Finset (Fin 32)) (j : Fin 32) (hj : j ∈ A) (r : Fin 256) : s j r ≤ mx s A :=
  (le_rmax (s j) r).trans (Finset.le_sup (f := fun j => rmax (s j)) hj)

theorem mx_insert (s : Fin 32 → Fin 256 → EReal) (A : Finset (Fin 32)) (j : Fin 32) : mx s (insert j A) = max (mx s A) (rmax (s j)) := by
  rw [mx, Finset.sup_insert, max_comm]; rfl

theorem exp2_bot : Ideal.exp2 ⊥ = 0 := rfl

theorem exp2_coe (x : ℝ) : Ideal.exp2 (x : EReal) = ((Real.rpow 2 x : ℝ) : EReal) := rfl

theorem exp2_nonneg (x : EReal) : 0 ≤ Ideal.exp2 x := by
  induction x using EReal.rec with
  | bot => exact le_rfl
  | coe x => rw [exp2_coe]; exact EReal.coe_nonneg.mpr (Real.rpow_nonneg (by norm_num) x)
  | top => exact le_top

theorem bot_sub' (x : EReal) : (⊥ : EReal) - x = ⊥ := by
  rw [sub_eq_add_neg]; exact EReal.bot_add _

/-- A nonnegative finite factor goes into a sum of extended reals. -/
theorem mul_sum' {ι : Type} (c : EReal) (h0 : 0 ≤ c) (h1 : c ≠ ⊤) (A : Finset ι) (f : ι → EReal) : c * ∑ i ∈ A, f i = ∑ i ∈ A, c * f i := by
  classical
  induction A using Finset.induction_on with
  | empty => simp
  | insert a A ha ih => rw [Finset.sum_insert ha, Finset.sum_insert ha, EReal.left_distrib_of_nonneg_of_ne_top h0 h1, ih]

/-- Rescaling one weight from the maximum `m` to a later maximum `m'`. -/
theorem exp2_rescale (x m m' : EReal) (hx : x ≤ m) (hm : m ≤ m') (hm' : m' ≠ ⊤) :
    Ideal.exp2 (m - m') * Ideal.exp2 (x - m) = Ideal.exp2 (x - m') := by
  induction x using EReal.rec with
  | bot => rw [bot_sub', bot_sub', exp2_bot, mul_zero]
  | top => exact absurd (top_le_iff.mp (hx.trans hm)) hm'
  | coe x =>
    induction m using EReal.rec with
    | bot => exact absurd (le_bot_iff.mp hx) (EReal.coe_ne_bot x)
    | top => exact absurd (top_le_iff.mp hm) hm'
    | coe m =>
      induction m' using EReal.rec with
      | bot => exact absurd (le_bot_iff.mp hm) (EReal.coe_ne_bot m)
      | top => exact absurd rfl hm'
      | coe m' =>
        rw [← EReal.coe_sub, ← EReal.coe_sub, ← EReal.coe_sub, exp2_coe, exp2_coe, exp2_coe, ← EReal.coe_mul]
        congr 1
        change (2:ℝ) ^ (m - m') * (2:ℝ) ^ (x - m) = (2:ℝ) ^ (x - m')
        rw [← Real.rpow_add (by norm_num)]
        congr 1; ring

theorem exp2_sub_ne_top (m m' : EReal) (hm : m ≤ m') (hm' : m' ≠ ⊤) : Ideal.exp2 (m - m') ≠ ⊤ := by
  induction m using EReal.rec with
  | bot => rw [bot_sub', exp2_bot]; exact EReal.zero_ne_top
  | top => exact absurd (top_le_iff.mp hm) hm'
  | coe m =>
    induction m' using EReal.rec with
    | bot => exact absurd (le_bot_iff.mp hm) (EReal.coe_ne_bot m)
    | top => exact absurd rfl hm'
    | coe m' => rw [← EReal.coe_sub, exp2_coe]; exact EReal.coe_ne_top _

/-- The whole sum rescaled to a later maximum. -/
theorem sm_rescale (s w : Fin 32 → Fin 256 → EReal) (A : Finset (Fin 32)) (m' : EReal) (hm : mx s A ≤ m') (hm' : m' ≠ ⊤) :
    Ideal.exp2 (mx s A - m') * sm s w A (mx s A) = sm s w A m' := by
  unfold sm
  rw [mul_sum' _ (exp2_nonneg _) (exp2_sub_ne_top _ _ hm hm')]
  refine Finset.sum_congr rfl fun j hj => ?_
  rw [mul_sum' _ (exp2_nonneg _) (exp2_sub_ne_top _ _ hm hm')]
  refine Finset.sum_congr rfl fun r _ => ?_
  rw [mul_left_comm, exp2_rescale _ _ _ (le_mx s A j hj r) hm hm']

/-- Adding two tiles to the maximum. -/
theorem mx_step (s : Fin 32 → Fin 256 → EReal) (A : Finset (Fin 32)) (j0 j1 : Fin 32) :
    max (max (mx s A) (rmax (s j0))) (rmax (s j1)) = mx s (insert j1 (insert j0 A)) := by
  rw [mx_insert, mx_insert]

/-- Adding two tiles to the sum. -/
theorem sm_step (s w : Fin 32 → Fin 256 → EReal) (hs : ∀ j r, s j r ≠ ⊤) (A : Finset (Fin 32)) (j0 j1 : Fin 32) (h0 : j0 ∉ A) (h1 : j1 ∉ insert j0 A)
    (m' : EReal) (hm' : m' = mx s (insert j1 (insert j0 A))) :
    Ideal.exp2 (mx s A - m') * sm s w A (mx s A) + (∑ r, w j0 r * Ideal.exp2 (s j0 r - m')) + (∑ r, w j1 r * Ideal.exp2 (s j1 r - m'))
      = sm s w (insert j1 (insert j0 A)) m' := by
  have hle : mx s A ≤ m' := by
    rw [hm']; exact Finset.sup_mono ((Finset.subset_insert _ _).trans (Finset.subset_insert _ _))
  rw [sm_rescale s w A m' hle (hm' ▸ mx_ne_top s hs _), sm, sm, Finset.sum_insert h1, Finset.sum_insert h0, add_comm, add_comm (∑ j ∈ A, _)]

/-! ## The quotient is the reference's softmax -/

theorem exp_bot : Ideal.exp ⊥ = 0 := rfl
theorem exp_coe (x : ℝ) : Ideal.exp (x : EReal) = ((Real.exp x : ℝ) : EReal) := rfl

/-- A power of two of a scaled score is the exponential of the score. -/
theorem exp2_scaled (x m : EReal) (hx : x ≠ ⊤) (m0 : m ≠ ⊥) (m1 : m ≠ ⊤) :
    Ideal.exp2 ((((Real.log 2)⁻¹ : ℝ) : EReal) * x - (((Real.log 2)⁻¹ : ℝ) : EReal) * m) = Ideal.exp (x - m) := by
  have hl : (0:ℝ) < Real.log 2 := Real.log_pos (by norm_num)
  have hl' : (0:ℝ) < (Real.log 2)⁻¹ := inv_pos.mpr hl
  induction m using EReal.rec with
  | bot => exact absurd rfl m0
  | top => exact absurd rfl m1
  | coe m =>
    induction x using EReal.rec with
    | top => exact absurd rfl hx
    | bot => rw [EReal.coe_mul_bot_of_pos hl', bot_sub', bot_sub', exp2_bot, exp_bot]
    | coe x =>
      rw [← EReal.coe_mul, ← EReal.coe_mul, ← EReal.coe_sub, ← EReal.coe_sub, exp2_coe, exp_coe]
      congr 1
      change (2:ℝ) ^ ((Real.log 2)⁻¹ * x - (Real.log 2)⁻¹ * m) = Real.exp (x - m)
      rw [Real.rpow_def_of_pos (by norm_num)]
      congr 1
      field_simp

/-- Key `r` of tile `j`, among all the keys. -/
def enc (j : Fin 32) (r : Fin 256) : Fin 8192 := ⟨256 * j.val + r.val, by omega⟩

/-- Tiles and places in a tile name all the keys. -/
def encEquiv : Fin 32 × Fin 256 ≃ Fin 8192 where
  toFun p := enc p.1 p.2
  invFun k := (⟨k.val / 256, by omega⟩, ⟨k.val % 256, by omega⟩)
  left_inv p := by
    obtain ⟨j, r⟩ := p
    refine Prod.ext (Fin.ext ?_) (Fin.ext ?_) <;> simp only [enc] <;> omega
  right_inv k := Fin.ext (by simp only [enc]; omega)

theorem sum_enc (f : Fin 8192 → EReal) : ∑ k, f k = ∑ j, ∑ r, f (enc j r) := by
  rw [← Fintype.sum_prod_type' (f := fun j r => f (enc j r))]
  exact (Fintype.sum_equiv encEquiv _ _ fun _ => rfl).symm

theorem exists_enc (k : Fin 8192) : ∃ j r, k = enc j r :=
  ⟨(encEquiv.symm k).1, (encEquiv.symm k).2, (encEquiv.apply_symm_apply k).symm⟩

theorem coe_sum' {ι : Type} (A : Finset ι) (f : ι → ℝ) : ∑ i ∈ A, (f i : EReal) = ((∑ i ∈ A, f i : ℝ) : EReal) := by
  classical
  induction A using Finset.induction_on with
  | empty => simp
  | insert a A ha ih => rw [Finset.sum_insert ha, Finset.sum_insert ha, ih, EReal.coe_add]

theorem exists_rmax {n : ℕ} (f : Fin (n + 1) → EReal) : ∃ k, rmax f = f k := by
  obtain ⟨k, _, h⟩ := Finset.exists_mem_eq_sup Finset.univ ⟨0, Finset.mem_univ _⟩ f
  exact ⟨k, h⟩

/-- The scale between the two forms of the scores. -/
def cst : EReal := (((Real.log 2)⁻¹ : ℝ) : EReal)

theorem cst_pos : (0:ℝ) < (Real.log 2)⁻¹ := inv_pos.mpr (Real.log_pos (by norm_num))

/-- The quotient of the two sums is the softmax-weighted sum of the values. `sc` are the reference's scores of one
query, `s` the same scaled, over the tiles up to the query's own; later tiles are masked in the reference. -/
theorem quotient (sc v : Fin 8192 → EReal) (i : Fin 32) (s w : Fin 32 → Fin 256 → EReal) (hsc : ∀ k, sc k ≠ ⊤) (hne : ∃ k, sc k ≠ ⊥)
    (hlow : ∀ j, j ≤ i → ∀ r, s j r = cst * sc (enc j r)) (hhigh : ∀ j, i < j → ∀ r, sc (enc j r) = ⊥) (hw : ∀ j, j ≤ i → ∀ r, w j r = v (enc j r)) :
    Ideal.div (sm s w (Finset.Iic i) (mx s (Finset.Iic i))) (sm s (fun _ _ => 1) (Finset.Iic i) (mx s (Finset.Iic i)))
      = ∑ k, Ideal.div (Ideal.exp (sc k - rmax sc)) (∑ k', Ideal.exp (sc k' - rmax sc)) * v k := by
  obtain ⟨k0, hk0⟩ := exists_rmax sc
  have M1 : rmax sc ≠ ⊤ := rmax_ne_top sc hsc
  have M0 : rmax sc ≠ ⊥ := by
    obtain ⟨k, hk⟩ := hne
    intro h
    exact hk (le_bot_iff.mp (h ▸ le_rmax sc k))
  have hm : mx s (Finset.Iic i) = cst * rmax sc := by
    apply le_antisymm
    · refine Finset.sup_le fun j hj => ?_
      rw [rmax_eq_sup]
      refine Finset.sup_le fun r _ => ?_
      rw [hlow j (Finset.mem_Iic.mp hj) r]
      exact mul_le_mul_of_nonneg_left (le_rmax sc _) (EReal.coe_nonneg.mpr cst_pos.le)
    · obtain ⟨j, r, e⟩ := exists_enc k0
      have hj : j ≤ i := by
        by_contra hcon
        exact M0 (hk0.trans (e ▸ hhigh j (not_le.mp hcon) r))
      rw [hk0, e, ← hlow j hj r]
      exact le_mx s _ j (Finset.mem_Iic.mpr hj) r
  have hsum : ∀ (w' : Fin 32 → Fin 256 → EReal) (v' : Fin 8192 → EReal), (∀ j, j ≤ i → ∀ r, w' j r = v' (enc j r)) →
      sm s w' (Finset.Iic i) (mx s (Finset.Iic i)) = ∑ k, v' k * Ideal.exp (sc k - rmax sc) := by
    intro w' v' hw'
    rw [sum_enc, sm]
    have e1 : ∀ j ∈ Finset.Iic i, (∑ r, w' j r * Ideal.exp2 (s j r - mx s (Finset.Iic i))) = ∑ r, v' (enc j r) * Ideal.exp (sc (enc j r) - rmax sc) := by
      intro j hj
      refine Finset.sum_congr rfl fun r _ => ?_
      rw [hw' j (Finset.mem_Iic.mp hj) r, hm, hlow j (Finset.mem_Iic.mp hj) r, cst, exp2_scaled _ _ (hsc _) M0 M1]
    rw [Finset.sum_congr rfl e1]
    refine Finset.sum_subset (Finset.subset_univ _) fun j _ hj => ?_
    have hj' : i < j := not_le.mp fun h => hj (Finset.mem_Iic.mpr h)
    refine Finset.sum_eq_zero fun r _ => ?_
    rw [hhigh j hj' r, bot_sub', exp_bot, mul_zero]
  rw [hsum w v hw, hsum (fun _ _ => 1) (fun _ => 1) (fun _ _ _ => rfl)]
  simp only [one_mul]
  have he : ∀ k, ∃ x : ℝ, Ideal.exp (sc k - rmax sc) = (x : EReal) ∧ 0 ≤ x ∧ (k = k0 → 0 < x) := by
    intro k
    have hk := hsc k
    generalize hM : rmax sc = M at *
    induction M using EReal.rec with
    | bot => exact absurd rfl M0
    | top => exact absurd rfl M1
    | coe M =>
      generalize hx : sc k = x at *
      induction x using EReal.rec with
      | top => exact absurd rfl hk
      | bot =>
        refine ⟨0, by rw [bot_sub', exp_bot]; rfl, le_rfl, fun h => ?_⟩
        subst h
        rw [hx] at hk0
        exact absurd hk0 (EReal.coe_ne_bot M)
      | coe x => exact ⟨Real.exp (x - M), by rw [← EReal.coe_sub, exp_coe], (Real.exp_pos _).le, fun _ => Real.exp_pos _⟩
  choose e he0 he1 he2 using he
  simp only [he0]
  rw [coe_sum']
  have hL : (0:ℝ) < ∑ k, e k := Finset.sum_pos' (fun k _ => he1 k) ⟨k0, Finset.mem_univ _, he2 k0 rfl⟩
  have hdiv : ∀ x : EReal, Ideal.div x ((∑ k, e k : ℝ) : EReal) = (((∑ k, e k)⁻¹ : ℝ) : EReal) * x := by
    intro x
    rw [Ideal.div, if_neg (by exact fun h => hL.ne' (EReal.coe_eq_zero.mp h)), mul_comm, EReal.coe_inv]
  simp only [hdiv]
  rw [mul_sum' _ (EReal.coe_nonneg.mpr (inv_nonneg.mpr hL.le)) (EReal.coe_ne_top _)]
  refine Finset.sum_congr rfl fun k _ => ?_
  rw [mul_comm (v k), mul_assoc]

end Cert.Attn
-- ==== Proof.Elem.lean ====
module
public import proofs.«01_k».proof.Proof.Model
public import proofs.«01_k».proof.Proof.Softmax
public import Idealize.ShloMosaic.Lib.Pointwise
public import Idealize.ShloMosaic.Lib.WordCmp
@[expose] public section

/-! # The head's vector operations, read at an index of the extended reals -/
set_option maxRecDepth 16384
noncomputable section
namespace Cert.Attn
open Cert.KernelIdeal Cert.KernelIdeal.Gen Idealize.ShloMosaic Idealize.ShloMosaic.TcCoe Idealize.ShloMosaic.Tactic

/-- The word of −∞ denotes the least extended real. -/
theorem negInf : Ideal.ofBits .f32 0xFF800000#32 = ⊥ := by simp [Ideal.ofBits, Ideal.ieee]

theorem colMax_apply (s : FVec Ideal S256x256 .f32) (y : Fin 256) :
    colMax s (ix2 0 y) = rmax (fun k : Fin 256 => s (ix2 k y)) := by
  pointwise [colMax]
  rw [negInf]; rfl
theorem colSum_apply (s : FVec Ideal S256x256 .f32) (y : Fin 256) :
    colSum s (ix2 0 y) = ∑ k : Fin 256, (s (ix2 k y) : EReal) := by
  pointwise [colSum]
theorem vdot_apply (v : Vec Ideal S1x1x1x64x256 .bf16) (p : FVec Ideal S256x256 .f32) (d : Fin 64) (y : Fin 256) :
    vdot v p (ix2 d y) = ∑ k : Fin 256, (v (ix5 0 0 0 d k) * p (ix2 k y) : EReal) := by
  pointwise [vdot]
theorem score0_apply (q : FVec Ideal S128x256 .bf16) (k : Vec Ideal S1x256x512 .bf16) (r y : Fin 256) :
    score0 q k (ix2 r y) = ∑ c : Fin 128, (k (ix3 0 r ⟨c.val, by omega⟩) * q (ix2 c y) : EReal) := by
  pointwise [score0]
theorem score1_apply (q : FVec Ideal S128x256 .bf16) (k : Vec Ideal S1x256x512 .bf16) (r y : Fin 256) :
    score1 q k (ix2 r y) = ∑ c : Fin 128, (k (ix3 0 r ⟨128 + c.val, by omega⟩) * q (ix2 c y) : EReal) := by
  pointwise [score1]
theorem score2_apply (q : FVec Ideal S128x256 .bf16) (k : Vec Ideal S1x256x512 .bf16) (r y : Fin 256) :
    score2 q k (ix2 r y) = ∑ c : Fin 128, (k (ix3 0 r ⟨256 + c.val, by omega⟩) * q (ix2 c y) : EReal) := by
  pointwise [score2]
theorem score3_apply (q : FVec Ideal S128x256 .bf16) (k : Vec Ideal S1x256x512 .bf16) (r y : Fin 256) :
    score3 q k (ix2 r y) = ∑ c : Fin 128, (k (ix3 0 r ⟨384 + c.val, by omega⟩) * q (ix2 c y) : EReal) := by
  pointwise [score3]
theorem diag_apply (r y : Fin 256) : diag (ix2 r y) = BitVec.ofBool (decide (r ≤ y)) := by
  pointwise [diag]
  rw [WordCmp.cmpi_sle_ofNat (by omega) (by omega)]
  rfl
theorem odd_pt : ∀ n : Fin 32, Scalar.muli (kernelRun0_A.sl.v73 (pt n)) 256#32 = BitVec.ofNat 32 (n.val % 2 * 256) := by decide
theorem odd_eq (i : grid0.Coords) : Scalar.muli (kernelRun0_A.sl.v73 i) 256#32 = BitVec.ofNat 32 ((i 2).val % 2 * 256) := odd_pt (i 2)
theorem extra_apply (i : grid0.Coords) (r y : Fin 256) : extra i (ix2 r y) = BitVec.ofBool (decide ((i 2).val % 2 = 1)) := by
  pointwise [extra]
  rw [odd_eq, WordCmp.cmpi_slt_ofNat (by omega) (by omega)]
  congr 1
  rw [decide_eq_decide]
  omega
theorem masked_apply (b : Bool) (m : IVec S256x256 1) (s : FVec Ideal S256x256 .f32) (r y : Fin 256) (h : m (ix2 r y) = BitVec.ofBool b) :
    masked m s (ix2 r y) = if b then s (ix2 r y) else (⊥ : EReal) := by
  pointwise [masked]
  rw [h, negInf]
  cases b <;> rfl

theorem fac_apply (m m' : FVec Ideal S1x256 .f32) (y : Fin 256) : fac m m' (ix2 0 y) = Ideal.exp2 (m (ix2 0 y) - m' (ix2 0 y)) := by
  pointwise [fac]
  rfl
theorem wts_apply (s : FVec Ideal S256x256 .f32) (m' : FVec Ideal S1x256 .f32) (r y : Fin 256) :
    wts s m' (ix2 r y) = Ideal.exp2 (s (ix2 r y) - m' (ix2 0 y)) := by
  pointwise [wts]
  rfl
theorem newM_apply (m : FVec Ideal S1x256 .f32) (s0 s1 : FVec Ideal S256x256 .f32) (y : Fin 256) :
    newM m s0 s1 (ix2 0 y) = max (max (m (ix2 0 y) : EReal) (rmax fun r => s0 (ix2 r y))) (rmax fun r => s1 (ix2 r y)) := by
  pointwise [newM]
  rw [colMax_apply, colMax_apply]
theorem newL_apply (m l : FVec Ideal S1x256 .f32) (s0 s1 : FVec Ideal S256x256 .f32) (y : Fin 256) :
    newL m l s0 s1 (ix2 0 y) = (Ideal.exp2 (m (ix2 0 y) - newM m s0 s1 (ix2 0 y)) * l (ix2 0 y)
      + (∑ r : Fin 256, Ideal.exp2 (s0 (ix2 r y) - newM m s0 s1 (ix2 0 y))) + (∑ r : Fin 256, Ideal.exp2 (s1 (ix2 r y) - newM m s0 s1 (ix2 0 y))) : EReal) := by
  pointwise [newL]
  simp only [colSum_apply, fac_apply, wts_apply]
theorem newA_apply (m : FVec Ideal S1x256 .f32) (a : FVec Ideal S64x256 .f32) (s0 s1 : FVec Ideal S256x256 .f32) (v0 v1 : Vec Ideal S1x1x1x64x256 .bf16) (d : Fin 64) (y : Fin 256) :
    newA m a s0 s1 v0 v1 (ix2 d y) = (Ideal.exp2 (m (ix2 0 y) - newM m s0 s1 (ix2 0 y)) * a (ix2 d y)
      + (∑ r : Fin 256, v0 (ix5 0 0 0 d r) * Ideal.exp2 (s0 (ix2 r y) - newM m s0 s1 (ix2 0 y)))
      + (∑ r : Fin 256, v1 (ix5 0 0 0 d r) * Ideal.exp2 (s1 (ix2 r y) - newM m s0 s1 (ix2 0 y))) : EReal) := by
  pointwise [newA]
  simp only [vdot_apply, fac_apply, wts_apply]
theorem quot_apply (l : FVec Ideal S1x256 .f32) (a : FVec Ideal S64x256 .f32) (d : Fin 64) (y : Fin 256) :
    quot l a (ix3 0 d y) = Ideal.div (a (ix2 d y)) (l (ix2 0 y)) := by
  pointwise [quot]
theorem m0_apply (y : Fin 256) : (m0 : FVec Ideal S1x256 .f32) (ix2 0 y) = (⊥ : EReal) := by
  pointwise [m0]
  exact negInf
theorem l0_apply (y : Fin 256) : (l0 : FVec Ideal S1x256 .f32) (ix2 0 y) = (0 : EReal) := by
  pointwise [l0]
theorem a0_apply (d : Fin 64) (y : Fin 256) : (a0 : FVec Ideal S64x256 .f32) (ix2 d y) = (0 : EReal) := by
  pointwise [a0]

/-! ## One head's state -/

/-- A head's state is that of the tiles `A`: for each query, the greatest score, the sum of the weights, and the
weighted sums of the values. -/
structure Head (s : Fin 256 → Fin 32 → Fin 256 → EReal) (w : Fin 64 → Fin 32 → Fin 256 → EReal) (A : Finset (Fin 32))
    (m l : FVec Ideal S1x256 .f32) (a : FVec Ideal S64x256 .f32) : Prop where
  hm : ∀ y, m (ix2 0 y) = mx (s y) A
  hl : ∀ y, l (ix2 0 y) = sm (s y) (fun _ _ => 1) A (mx (s y) A)
  ha : ∀ d y, a (ix2 d y) = sm (s y) (w d) A (mx (s y) A)

theorem Head.start (s : Fin 256 → Fin 32 → Fin 256 → EReal) (w : Fin 64 → Fin 32 → Fin 256 → EReal) : Head s w ∅ m0 l0 a0 where
  hm y := m0_apply y
  hl y := (l0_apply y).trans (by simp [sm])
  ha d y := (a0_apply d y).trans (by simp [sm])

/-- An update adds its two tiles. -/
theorem Head.step {s : Fin 256 → Fin 32 → Fin 256 → EReal} {w : Fin 64 → Fin 32 → Fin 256 → EReal} {A : Finset (Fin 32)}
    {m l : FVec Ideal S1x256 .f32} {a : FVec Ideal S64x256 .f32} (hd : Head s w A m l a) (hs : ∀ y j r, s y j r ≠ ⊤)
    (j0 j1 : Fin 32) (h0 : j0 ∉ A) (h1 : j1 ∉ insert j0 A) {s0 s1 : FVec Ideal S256x256 .f32} {v0 v1 : Vec Ideal S1x1x1x64x256 .bf16}
    (e0 : ∀ r y, s0 (ix2 r y) = s y j0 r) (e1 : ∀ r y, s1 (ix2 r y) = s y j1 r)
    (f0 : ∀ d r, v0 (ix5 0 0 0 d r) = w d j0 r) (f1 : ∀ d r, v1 (ix5 0 0 0 d r) = w d j1 r) :
    Head s w (insert j1 (insert j0 A)) (newM m s0 s1) (newL m l s0 s1) (newA m a s0 s1 v0 v1) := by
  have hm : ∀ y, newM m s0 s1 (ix2 0 y) = mx (s y) (insert j1 (insert j0 A)) := by
    intro y
    rw [newM_apply, hd.hm]
    simp only [e0, e1]
    exact mx_step (s y) A j0 j1
  refine ⟨hm, fun y => ?_, fun d y => ?_⟩
  · rw [newL_apply, hd.hm, hd.hl, hm]
    simp only [e0, e1]
    have := sm_step (s y) (fun _ _ => 1) (hs y) A j0 j1 h0 h1 _ rfl
    simp only [one_mul] at this
    exact this
  · rw [newA_apply, hd.hm, hd.ha, hm]
    simp only [e0, e1, f0, f1]
    exact sm_step (s y) (w d) (hs y) A j0 j1 h0 h1 _ rfl

/-- A first update whose second tile is masked adds its first tile only. -/
theorem Head.first_one {s : Fin 256 → Fin 32 → Fin 256 → EReal} {w : Fin 64 → Fin 32 → Fin 256 → EReal}
    (j0 : Fin 32) {s0 s1 : FVec Ideal S256x256 .f32} {v0 v1 : Vec Ideal S1x1x1x64x256 .bf16}
    (e0 : ∀ r y, s0 (ix2 r y) = s y j0 r) (e1 : ∀ r y, s1 (ix2 r y) = (⊥ : EReal))
    (f0 : ∀ d r, v0 (ix5 0 0 0 d r) = w d j0 r) :
    Head s w {j0} (newM m0 s0 s1) (newL m0 l0 s0 s1) (newA m0 a0 s0 s1 v0 v1) := by
  have hm : ∀ y, newM m0 s0 s1 (ix2 0 y) = mx (s y) {j0} := by
    intro y
    rw [newM_apply, m0_apply]
    simp only [e0, e1]
    rw [rmax_bot, mx, Finset.sup_singleton, max_bot_right, max_bot_left]
  refine ⟨hm, fun y => ?_, fun d y => ?_⟩
  · rw [newL_apply, m0_apply, l0_apply, hm]
    simp only [e0, e1, bot_sub', exp2_bot, mul_zero, Finset.sum_const_zero, zero_add, add_zero, sm, Finset.sum_singleton, one_mul]
  · rw [newA_apply, m0_apply, a0_apply, hm]
    simp only [e0, e1, f0, bot_sub', exp2_bot, mul_zero, Finset.sum_const_zero, zero_add, add_zero, sm, Finset.sum_singleton]

end Cert.Attn
-- ==== Proof.Point.lean ====
module
public import proofs.«01_k».proof.Proof.Elem
public import Idealize.ShloMosaic.Lib.Pipeline.ValueKit.Tiles
@[expose] public section

/-! # The output block of one grid point

The tiles a grid point visits are those up to its own; the loop's state after each trip is that of the tiles visited
so far, so the block it writes is the quotient of the two sums over all tiles up to its own. -/
set_option maxRecDepth 16384
noncomputable section
namespace Cert.Attn
open Cert.KernelIdeal Cert.KernelIdeal.Gen Idealize.ShloMosaic Idealize.ShloMosaic.TcCoe Idealize.ShloMosaic.Tactic

/-! ## Where the loads read -/

theorem off1_pt : ∀ n : Fin 32, k0_off1 (pt n) = ![0, 256 * n.val, 0] := by decide +kernel
theorem off2_pt : ∀ n : Fin 32, k0_off2 (pt n) = ![0, 0, n.val, 0, 0] := by decide +kernel
theorem off3_pt : ∀ n : Fin 32, k0_off3 (pt n) = ![0, 1, n.val, 0, 0] := by decide +kernel
theorem off4_pt : ∀ n : Fin 32, k0_off4 (pt n) = ![0, 2, n.val, 0, 0] := by decide +kernel
theorem off5_pt : ∀ n : Fin 32, k0_off5 (pt n) = ![0, 3, n.val, 0, 0] := by decide +kernel
theorem off6_pt : ∀ (n : Fin 32) (k : Fin (k0_t1_loop (pt n)).trips), k0_off6 (pt n) k = ![0, 256 * (n.val % 2 + 2 * k.val), 0] := by decide +kernel
theorem off7_pt : ∀ (n : Fin 32) (k : Fin (k0_t1_loop (pt n)).trips), k0_off7 (pt n) k = ![0, 256 * (n.val % 2 + 2 * k.val + 1), 0] := by decide +kernel
theorem off8_pt : ∀ (n : Fin 32) (k : Fin (k0_t1_loop (pt n)).trips), k0_off8 (pt n) k = ![0, 0, n.val % 2 + 2 * k.val, 0, 0] := by decide +kernel
theorem off9_pt : ∀ (n : Fin 32) (k : Fin (k0_t1_loop (pt n)).trips), k0_off9 (pt n) k = ![0, 0, n.val % 2 + 2 * k.val + 1, 0, 0] := by decide +kernel
theorem off10_pt : ∀ (n : Fin 32) (k : Fin (k0_t1_loop (pt n)).trips), k0_off10 (pt n) k = ![0, 1, n.val % 2 + 2 * k.val, 0, 0] := by decide +kernel
theorem off11_pt : ∀ (n : Fin 32) (k : Fin (k0_t1_loop (pt n)).trips), k0_off11 (pt n) k = ![0, 1, n.val % 2 + 2 * k.val + 1, 0, 0] := by decide +kernel
theorem off12_pt : ∀ (n : Fin 32) (k : Fin (k0_t1_loop (pt n)).trips), k0_off12 (pt n) k = ![0, 2, n.val % 2 + 2 * k.val, 0, 0] := by decide +kernel
theorem off13_pt : ∀ (n : Fin 32) (k : Fin (k0_t1_loop (pt n)).trips), k0_off13 (pt n) k = ![0, 2, n.val % 2 + 2 * k.val + 1, 0, 0] := by decide +kernel
theorem off14_pt : ∀ (n : Fin 32) (k : Fin (k0_t1_loop (pt n)).trips), k0_off14 (pt n) k = ![0, 3, n.val % 2 + 2 * k.val, 0, 0] := by decide +kernel
theorem off15_pt : ∀ (n : Fin 32) (k : Fin (k0_t1_loop (pt n)).trips), k0_off15 (pt n) k = ![0, 3, n.val % 2 + 2 * k.val + 1, 0, 0] := by decide +kernel

/-- The query tile of a grid point. -/
abbrev qi (i : grid0.Coords) : Fin 32 := i 2

theorem trips_qi (i : grid0.Coords) : (k0_t1_loop i).trips = (qi i).val / 2 := trips1 i

theorem trip_lt (i : grid0.Coords) (k : Fin (k0_t1_loop i).trips) : k.val < (qi i).val / 2 := (trips_qi i) ▸ k.isLt

/-- The first tile of trip `k`. -/
def tA (i : grid0.Coords) (k : Fin (k0_t1_loop i).trips) : Fin 32 :=
  ⟨(qi i).val % 2 + 2 * k.val, by have := trip_lt i k; have := (qi i).isLt; omega⟩
/-- The second tile of trip `k`. -/
def tB (i : grid0.Coords) (k : Fin (k0_t1_loop i).trips) : Fin 32 :=
  ⟨(qi i).val % 2 + 2 * k.val + 1, by have := trip_lt i k; have := (qi i).isLt; omega⟩

/-- A load of 256 rows of keys reads the tile it starts at. -/
theorem ldK (x2 : Vec Ideal S1x8192x512 .bf16) (o : Fin 3 → Nat) (hb : ∀ a, o a + S1x256x512.size a ≤ S1x8192x512.size a) (j : Fin 32)
    (ho : o = ![0, 256 * j.val, 0]) (r : Fin 256) (c : Fin 512) :
    (View.ld x2 (Rect.unit (s := S1x8192x512) o S1x256x512.size hb) : Vec Ideal S1x256x512 .bf16) (ix3 0 r c) = x2 (ix3 0 (enc j r) c) := by
  subst ho
  refine View.ld_unit_apply_of (S := S1x8192x512) x2 _ _ hb _ _ fun a => ?_
  match a with
  | 0 => rfl
  | 1 => rfl
  | 2 => exact (Nat.zero_add _).symm

/-- A load of a tile of values reads its head and tile. -/
theorem ldV (x3 : Vec Ideal S1x4x32x64x256 .bf16) (o : Fin 5 → Nat) (hb : ∀ a, o a + S1x1x1x64x256.size a ≤ S1x4x32x64x256.size a) (h : Fin 4) (j : Fin 32)
    (ho : o = ![0, h.val, j.val, 0, 0]) (d : Fin 64) (r : Fin 256) : vAt o hb x3 (ix5 0 0 0 d r) = x3 (ix5 0 h j d r) := by
  subst ho
  refine View.ld_unit_apply_of (S := S1x4x32x64x256) x3 _ _ hb _ _ fun a => ?_
  match a with
  | 0 => rfl
  | 1 => rfl
  | 2 => rfl
  | 3 => exact (Nat.zero_add _).symm
  | 4 => exact (Nat.zero_add _).symm

/-! ## The scores and values of a head -/

/-- The scores of head `o` of the group before masking: query `y` against key `r` of tile `j`. -/
def raw (o : Fin 4) (q : FVec Ideal S128x256 .bf16) (x2 : Vec Ideal S1x8192x512 .bf16) (y : Fin 256) (j : Fin 32) (r : Fin 256) : EReal :=
  ∑ c : Fin 128, x2 (ix3 0 (enc j r) ⟨128 * o.val + c.val, by omega⟩) * q (ix2 c y)

/-- The scores with the keys after the query masked in the query's own tile. -/
def msk (i : Fin 32) (f : Fin 256 → Fin 32 → Fin 256 → EReal) (y : Fin 256) (j : Fin 32) (r : Fin 256) : EReal :=
  if j = i ∧ y < r then ⊥ else f y j r

/-- The values of head `o` of the group. -/
def vals (o : Fin 4) (x3 : Vec Ideal S1x4x32x64x256 .bf16) (d : Fin 64) (j : Fin 32) (r : Fin 256) : EReal := x3 (ix5 0 o j d r)

theorem msk_ne_top (i : Fin 32) (f : Fin 256 → Fin 32 → Fin 256 → EReal) (h : ∀ y j r, f y j r ≠ ⊤) (y : Fin 256) (j : Fin 32) (r : Fin 256) :
    msk i f y j r ≠ ⊤ := by
  unfold msk; split
  · exact bot_ne_top
  · exact h y j r

theorem score0_tile (q : FVec Ideal S128x256 .bf16) (x2 : Vec Ideal S1x8192x512 .bf16) (k : Vec Ideal S1x256x512 .bf16) (j : Fin 32)
    (hk : ∀ (r : Fin 256) (c : Fin 512), k (ix3 0 r c) = x2 (ix3 0 (enc j r) c)) (r y : Fin 256) : score0 q k (ix2 r y) = raw 0 q x2 y j r := by
  rw [score0_apply]
  refine Finset.sum_congr rfl fun c _ => ?_
  rw [hk]
  congr 2
  congr 1
  exact Fin.ext (by simp)

theorem score1_tile (q : FVec Ideal S128x256 .bf16) (x2 : Vec Ideal S1x8192x512 .bf16) (k : Vec Ideal S1x256x512 .bf16) (j : Fin 32)
    (hk : ∀ (r : Fin 256) (c : Fin 512), k (ix3 0 r c) = x2 (ix3 0 (enc j r) c)) (r y : Fin 256) : score1 q k (ix2 r y) = raw 1 q x2 y j r := by
  rw [score1_apply]
  refine Finset.sum_congr rfl fun c _ => ?_
  rw [hk]
  congr 2

theorem score2_tile (q : FVec Ideal S128x256 .bf16) (x2 : Vec Ideal S1x8192x512 .bf16) (k : Vec Ideal S1x256x512 .bf16) (j : Fin 32)
    (hk : ∀ (r : Fin 256) (c : Fin 512), k (ix3 0 r c) = x2 (ix3 0 (enc j r) c)) (r y : Fin 256) : score2 q k (ix2 r y) = raw 2 q x2 y j r := by
  rw [score2_apply]
  refine Finset.sum_congr rfl fun c _ => ?_
  rw [hk]
  congr 2

theorem score3_tile (q : FVec Ideal S128x256 .bf16) (x2 : Vec Ideal S1x8192x512 .bf16) (k : Vec Ideal S1x256x512 .bf16) (j : Fin 32)
    (hk : ∀ (r : Fin 256) (c : Fin 512), k (ix3 0 r c) = x2 (ix3 0 (enc j r) c)) (r y : Fin 256) : score3 q k (ix2 r y) = raw 3 q x2 y j r := by
  rw [score3_apply]
  refine Finset.sum_congr rfl fun c _ => ?_
  rw [hk]
  congr 2

/-! ## The tiles visited -/

/-- The tiles visited before trip `n`: the query's own, and the first ones. -/
def seen (i : Fin 32) (n : ℕ) : Finset (Fin 32) := Finset.univ.filter fun j => j = i ∨ j.val < i.val % 2 + 2 * n

theorem seen_even (i : Fin 32) (h : i.val % 2 ≠ 1) : seen i 0 = {i} := by
  ext j
  simp only [seen, Finset.mem_filter, Finset.mem_univ, true_and, Finset.mem_singleton]
  omega

theorem seen_odd (i : Fin 32) (h : i.val % 2 = 1) : seen i 0 = insert 0 (insert i ∅) := by
  ext j
  simp only [seen, Finset.mem_filter, Finset.mem_univ, true_and, Finset.mem_insert, Finset.notMem_empty, or_false, Fin.ext_iff, Fin.val_zero]
  omega

theorem seen_end (i : Fin 32) : seen i (i.val / 2) = Finset.Iic i := by
  ext j
  simp only [seen, Finset.mem_filter, Finset.mem_univ, true_and, Finset.mem_Iic, Fin.ext_iff, Fin.le_def]
  omega

theorem seen_succ (i : grid0.Coords) (k : Fin (k0_t1_loop i).trips) :
    seen (qi i) (k.val + 1) = insert (tB i k) (insert (tA i k) (seen (qi i) k.val)) := by
  have hk := trip_lt i k
  ext j
  simp only [seen, Finset.mem_filter, Finset.mem_univ, true_and, Finset.mem_insert, Fin.ext_iff, tA, tB]
  omega

theorem tA_lt (i : grid0.Coords) (k : Fin (k0_t1_loop i).trips) : (tA i k).val < (qi i).val := by
  have hk := trip_lt i k
  simp only [tA]
  omega

theorem tB_lt (i : grid0.Coords) (k : Fin (k0_t1_loop i).trips) : (tB i k).val < (qi i).val := by
  have hk := trip_lt i k
  simp only [tB]
  omega

theorem tA_new (i : grid0.Coords) (k : Fin (k0_t1_loop i).trips) : tA i k ∉ seen (qi i) k.val := by
  have h := tA_lt i k
  simp only [seen, Finset.mem_filter, Finset.mem_univ, true_and, Fin.ext_iff]
  simp only [tA] at h ⊢
  omega

theorem tB_new (i : grid0.Coords) (k : Fin (k0_t1_loop i).trips) : tB i k ∉ insert (tA i k) (seen (qi i) k.val) := by
  have h := tB_lt i k
  simp only [seen, Finset.mem_filter, Finset.mem_univ, true_and, Fin.ext_iff, Finset.mem_insert]
  simp only [tA, tB] at h ⊢
  omega

/-! ## The states -/

/-- All four heads' states are those of the tiles `A`. -/
structure All (i : Fin 32) (q0 q1 q2 q3 : FVec Ideal S128x256 .bf16) (x2 : Vec Ideal S1x8192x512 .bf16) (x3 : Vec Ideal S1x4x32x64x256 .bf16)
    (A : Finset (Fin 32)) (x : Carry Ideal) : Prop where
  h0 : Head (msk i (raw 0 q0 x2)) (vals 0 x3) A x.1 x.2.1 x.2.2.1
  h1 : Head (msk i (raw 1 q1 x2)) (vals 1 x3) A x.2.2.2.1 x.2.2.2.2.1 x.2.2.2.2.2.1
  h2 : Head (msk i (raw 2 q2 x2)) (vals 2 x3) A x.2.2.2.2.2.2.1 x.2.2.2.2.2.2.2.1 x.2.2.2.2.2.2.2.2.1
  h3 : Head (msk i (raw 3 q3 x2)) (vals 3 x3) A x.2.2.2.2.2.2.2.2.2.1 x.2.2.2.2.2.2.2.2.2.2.1 x.2.2.2.2.2.2.2.2.2.2.2

variable {q0 q1 q2 q3 : FVec Ideal S128x256 .bf16} {x2 : Vec Ideal S1x8192x512 .bf16} {x3 : Vec Ideal S1x4x32x64x256 .bf16}

theorem msk_of_lt {i j : Fin 32} (h : j.val < i.val) (f : Fin 256 → Fin 32 → Fin 256 → EReal) (y r : Fin 256) : msk i f y j r = f y j r := by
  unfold msk
  rw [if_neg]
  rintro ⟨rfl, _⟩
  exact absurd h (lt_irrefl _)

theorem kA_apply (i : grid0.Coords) (k : Fin (k0_t1_loop i).trips) (r : Fin 256) (c : Fin 512) : kA i k x2 (ix3 0 r c) = x2 (ix3 0 (enc (tA i k) r) c) :=
  ldK x2 _ _ _ (off6_pt (i 2) k) r c
theorem kB_apply (i : grid0.Coords) (k : Fin (k0_t1_loop i).trips) (r : Fin 256) (c : Fin 512) : kB i k x2 (ix3 0 r c) = x2 (ix3 0 (enc (tB i k) r) c) :=
  ldK x2 _ _ _ (off7_pt (i 2) k) r c

/-- The first step's state. -/
theorem all_first (i : grid0.Coords) (hs0 : ∀ y j r, raw 0 q0 x2 y j r ≠ ⊤) (hs1 : ∀ y j r, raw 1 q1 x2 y j r ≠ ⊤)
    (hs2 : ∀ y j r, raw 2 q2 x2 y j r ≠ ⊤) (hs3 : ∀ y j r, raw 3 q3 x2 y j r ≠ ⊤) :
    All (qi i) q0 q1 q2 q3 x2 x3 (seen (qi i) 0) (firstAt i q0 q1 q2 q3 x2 x3) := by
  have kd := ldK x2 _ (k0_off1_inb i) (qi i) (off1_pt (i 2))
  have ke := ldK x2 _ inb_S1x8192x512_S1x256x512_0_0_0 0 rfl
  have dg : ∀ (s : FVec Ideal S256x256 .f32) (f : Fin 256 → Fin 32 → Fin 256 → EReal), (∀ r y, s (ix2 r y) = f y (qi i) r) →
      ∀ r y, masked diag s (ix2 r y) = msk (qi i) f y (qi i) r := by
    intro s f hf r y
    rw [masked_apply _ _ _ _ _ (diag_apply r y), hf, msk]
    by_cases h : r ≤ y
    · rw [if_pos (decide_eq_true h), if_neg (fun h' => absurd h'.2 (not_lt.mpr h))]
    · rw [if_neg (by simpa using h), if_pos ⟨rfl, not_le.mp h⟩]
  have hv : ∀ (o : Fin 4) (off : Fin 5 → Nat) (hb), off = ![0, o.val, (qi i).val, 0, 0] → ∀ d r, vAt off hb x3 (ix5 0 0 0 d r) = vals o x3 d (qi i) r :=
    fun o off hb e d r => ldV x3 off hb o (qi i) e d r
  have hv0 : ∀ (o : Fin 4) (off : Fin 5 → Nat) (hb), off = ![0, o.val, 0, 0, 0] → ∀ d r, vAt off hb x3 (ix5 0 0 0 d r) = vals o x3 d 0 r :=
    fun o off hb e d r => ldV x3 off hb o 0 e d r
  by_cases ho : (qi i).val % 2 = 1
  · have ex : ∀ (s : FVec Ideal S256x256 .f32) (f : Fin 256 → Fin 32 → Fin 256 → EReal), (∀ r y, s (ix2 r y) = f y 0 r) →
        ∀ r y, masked (extra i) s (ix2 r y) = msk (qi i) f y 0 r := by
      intro s f hf r y
      rw [masked_apply _ _ _ _ _ (extra_apply i r y), hf, if_pos (decide_eq_true ho), msk_of_lt (by change 0 < (qi i).val; omega)]
    have h0i : (0 : Fin 32) ∉ insert (qi i) (∅ : Finset (Fin 32)) := by
      simp only [Finset.mem_insert, Finset.notMem_empty, or_false, Fin.ext_iff, Fin.val_zero]
      omega
    rw [seen_odd _ ho]
    exact ⟨
      (Head.start _ _).step (msk_ne_top _ _ hs0) (qi i) 0 (Finset.notMem_empty _) h0i (dg _ _ (score0_tile q0 x2 _ _ kd)) (ex _ _ (score0_tile q0 x2 _ _ ke)) (hv 0 _ _ (off2_pt (i 2))) (hv0 0 _ _ rfl),
      (Head.start _ _).step (msk_ne_top _ _ hs1) (qi i) 0 (Finset.notMem_empty _) h0i (dg _ _ (score1_tile q1 x2 _ _ kd)) (ex _ _ (score1_tile q1 x2 _ _ ke)) (hv 1 _ _ (off3_pt (i 2))) (hv0 1 _ _ rfl),
      (Head.start _ _).step (msk_ne_top _ _ hs2) (qi i) 0 (Finset.notMem_empty _) h0i (dg _ _ (score2_tile q2 x2 _ _ kd)) (ex _ _ (score2_tile q2 x2 _ _ ke)) (hv 2 _ _ (off4_pt (i 2))) (hv0 2 _ _ rfl),
      (Head.start _ _).step (msk_ne_top _ _ hs3) (qi i) 0 (Finset.notMem_empty _) h0i (dg _ _ (score3_tile q3 x2 _ _ kd)) (ex _ _ (score3_tile q3 x2 _ _ ke)) (hv 3 _ _ (off5_pt (i 2))) (hv0 3 _ _ rfl)⟩
  · have ex : ∀ (s : FVec Ideal S256x256 .f32), ∀ r y, masked (extra i) s (ix2 r y) = (⊥ : EReal) := by
      intro s r y
      rw [masked_apply _ _ _ _ _ (extra_apply i r y), if_neg (by simpa using ho)]
    rw [seen_even _ ho]
    exact ⟨
      Head.first_one (qi i) (dg _ _ (score0_tile q0 x2 _ _ kd)) (ex _) (hv 0 _ _ (off2_pt (i 2))),
      Head.first_one (qi i) (dg _ _ (score1_tile q1 x2 _ _ kd)) (ex _) (hv 1 _ _ (off3_pt (i 2))),
      Head.first_one (qi i) (dg _ _ (score2_tile q2 x2 _ _ kd)) (ex _) (hv 2 _ _ (off4_pt (i 2))),
      Head.first_one (qi i) (dg _ _ (score3_tile q3 x2 _ _ kd)) (ex _) (hv 3 _ _ (off5_pt (i 2)))⟩

/-- The state after `n` trips. -/
theorem all_after (i : grid0.Coords) (hs0 : ∀ y j r, raw 0 q0 x2 y j r ≠ ⊤) (hs1 : ∀ y j r, raw 1 q1 x2 y j r ≠ ⊤)
    (hs2 : ∀ y j r, raw 2 q2 x2 y j r ≠ ⊤) (hs3 : ∀ y j r, raw 3 q3 x2 y j r ≠ ⊤) (n : ℕ) (hn : n ≤ (k0_t1_loop i).trips) :
    All (qi i) q0 q1 q2 q3 x2 x3 (seen (qi i) n) (after i q0 q1 q2 q3 x2 x3 (firstAt i q0 q1 q2 q3 x2 x3) n) := by
  induction n with
  | zero => exact all_first i hs0 hs1 hs2 hs3
  | succ n ih =>
    have h : n < (k0_t1_loop i).trips := hn
    have H := ih (Nat.le_of_lt h)
    rw [after, dif_pos h, seen_succ i ⟨n, h⟩]
    have ea : ∀ (s : FVec Ideal S256x256 .f32) (f : Fin 256 → Fin 32 → Fin 256 → EReal), (∀ r y, s (ix2 r y) = f y (tA i ⟨n, h⟩) r) →
        ∀ r y, s (ix2 r y) = msk (qi i) f y (tA i ⟨n, h⟩) r := fun s f hf r y => (hf r y).trans (msk_of_lt (tA_lt i ⟨n, h⟩) f y r).symm
    have eb : ∀ (s : FVec Ideal S256x256 .f32) (f : Fin 256 → Fin 32 → Fin 256 → EReal), (∀ r y, s (ix2 r y) = f y (tB i ⟨n, h⟩) r) →
        ∀ r y, s (ix2 r y) = msk (qi i) f y (tB i ⟨n, h⟩) r := fun s f hf r y => (hf r y).trans (msk_of_lt (tB_lt i ⟨n, h⟩) f y r).symm
    exact ⟨
      H.h0.step (msk_ne_top _ _ hs0) (tA i ⟨n, h⟩) (tB i ⟨n, h⟩) (tA_new i ⟨n, h⟩) (tB_new i ⟨n, h⟩) (ea _ _ (score0_tile q0 x2 _ _ (kA_apply i ⟨n, h⟩))) (eb _ _ (score0_tile q0 x2 _ _ (kB_apply i ⟨n, h⟩)))
        (fun d r => ldV x3 _ _ 0 (tA i ⟨n, h⟩) (off8_pt (i 2) ⟨n, h⟩) d r) (fun d r => ldV x3 _ _ 0 (tB i ⟨n, h⟩) (off9_pt (i 2) ⟨n, h⟩) d r),
      H.h1.step (msk_ne_top _ _ hs1) (tA i ⟨n, h⟩) (tB i ⟨n, h⟩) (tA_new i ⟨n, h⟩) (tB_new i ⟨n, h⟩) (ea _ _ (score1_tile q1 x2 _ _ (kA_apply i ⟨n, h⟩))) (eb _ _ (score1_tile q1 x2 _ _ (kB_apply i ⟨n, h⟩)))
        (fun d r => ldV x3 _ _ 1 (tA i ⟨n, h⟩) (off10_pt (i 2) ⟨n, h⟩) d r) (fun d r => ldV x3 _ _ 1 (tB i ⟨n, h⟩) (off11_pt (i 2) ⟨n, h⟩) d r),
      H.h2.step (msk_ne_top _ _ hs2) (tA i ⟨n, h⟩) (tB i ⟨n, h⟩) (tA_new i ⟨n, h⟩) (tB_new i ⟨n, h⟩) (ea _ _ (score2_tile q2 x2 _ _ (kA_apply i ⟨n, h⟩))) (eb _ _ (score2_tile q2 x2 _ _ (kB_apply i ⟨n, h⟩)))
        (fun d r => ldV x3 _ _ 2 (tA i ⟨n, h⟩) (off12_pt (i 2) ⟨n, h⟩) d r) (fun d r => ldV x3 _ _ 2 (tB i ⟨n, h⟩) (off13_pt (i 2) ⟨n, h⟩) d r),
      H.h3.step (msk_ne_top _ _ hs3) (tA i ⟨n, h⟩) (tB i ⟨n, h⟩) (tA_new i ⟨n, h⟩) (tB_new i ⟨n, h⟩) (ea _ _ (score3_tile q3 x2 _ _ (kA_apply i ⟨n, h⟩))) (eb _ _ (score3_tile q3 x2 _ _ (kB_apply i ⟨n, h⟩)))
        (fun d r => ldV x3 _ _ 3 (tA i ⟨n, h⟩) (off14_pt (i 2) ⟨n, h⟩) d r) (fun d r => ldV x3 _ _ 3 (tB i ⟨n, h⟩) (off15_pt (i 2) ⟨n, h⟩) d r)⟩

/-- A head's quotient at its end: the two sums over the tiles up to the query's own. -/
def rowOut (i : Fin 32) (s : Fin 256 → Fin 32 → Fin 256 → EReal) (w : Fin 64 → Fin 32 → Fin 256 → EReal) (d : Fin 64) (y : Fin 256) : EReal :=
  Ideal.div (sm (s y) (w d) (Finset.Iic i) (mx (s y) (Finset.Iic i))) (sm (s y) (fun _ _ => 1) (Finset.Iic i) (mx (s y) (Finset.Iic i)))

/-- The query block of head `o` of the group. -/
def Qh (o : Fin 4) (t : Fin cfg0.N) (c : Dev nD) (x0 : Vec Ideal S1x256x256 .bf16) (x1 : Vec Ideal S1x64x256 .bf16) : FVec Ideal S128x256 .bf16 :=
  match o with
  | 0 => Q0 t c x0 x1
  | 1 => Q1 t c x0 x1
  | 2 => Q2 t c x0 x1
  | 3 => Q3 t c x0 x1

theorem Head.quot {i : Fin 32} {s : Fin 256 → Fin 32 → Fin 256 → EReal} {w : Fin 64 → Fin 32 → Fin 256 → EReal}
    {m l : FVec Ideal S1x256 .f32} {a : FVec Ideal S64x256 .f32} (hd : Head s w (Finset.Iic i) m l a) (d : Fin 64) (y : Fin 256) :
    quot l a (ix3 0 d y) = rowOut i s w d y := by
  rw [quot_apply, hd.ha, hd.hl, rowOut]

/-- The final state of a grid point is that of all tiles up to the query's own. -/
theorem all_final (c : Dev nD) (t : Fin cfg0.N) (x0 : Vec Ideal S1x256x256 .bf16) (x1 : Vec Ideal S1x64x256 .bf16)
    (hs0 : ∀ y j r, raw 0 (Q0 t c x0 x1) x2 y j r ≠ ⊤) (hs1 : ∀ y j r, raw 1 (Q1 t c x0 x1) x2 y j r ≠ ⊤)
    (hs2 : ∀ y j r, raw 2 (Q2 t c x0 x1) x2 y j r ≠ ⊤) (hs3 : ∀ y j r, raw 3 (Q3 t c x0 x1) x2 y j r ≠ ⊤) :
    All (qi (grid0.coords t)) (Q0 t c x0 x1) (Q1 t c x0 x1) (Q2 t c x0 x1) (Q3 t c x0 x1) x2 x3 (Finset.Iic (qi (grid0.coords t))) (final c t x0 x1 x2 x3) := by
  have H := all_after (x3 := x3) (grid0.coords t) hs0 hs1 hs2 hs3 (k0_t1_loop (grid0.coords t)).trips le_rfl
  have e : seen (qi (grid0.coords t)) (k0_t1_loop (grid0.coords t)).trips = Finset.Iic (qi (grid0.coords t)) := by
    rw [trips_qi, seen_end]
  rw [e] at H
  exact H

/-- The output block at head `o`, feature `d`, query `y`. -/
theorem out_apply (c : Dev nD) (t : Fin cfg0.N) (x0 : Vec Ideal S1x256x256 .bf16) (x1 : Vec Ideal S1x64x256 .bf16)
    (hs : ∀ o y j r, raw o (Qh o t c x0 x1) x2 y j r ≠ ⊤) (o : Fin 4) (d : Fin 64) (y : Fin 256) :
    out0_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) x0 x1 x2 x3
        (ix3 0 ⟨64 * o.val + d.val, by omega⟩ y)
      = rowOut (qi (grid0.coords t)) (msk (qi (grid0.coords t)) (raw o (Qh o t c x0 x1) x2)) (vals o x3) d y := by
  have H := all_final (x3 := x3) c t x0 x1 (hs 0) (hs 1) (hs 2) (hs 3)
  rw [out_eq]
  generalize final c t x0 x1 x2 x3 = z at H ⊢
  have hy : ∀ (o' : Fin 4) (x : (⟨S1x256x256.rank, S1x64x256.size⟩ : Shape).Idx), (∀ a, ((ix3 0 ⟨64 * o.val + d.val, by omega⟩ y : S1x256x256.Idx) a : Nat) = ![0, 64 * o'.val, 0] a + x a) →
      o' = o ∧ x = ix3 0 d y := by
    intro o' x hx
    have e0 := hx 0
    have e1 := hx 1
    have e2 := hx 2
    have l0 : (x 0).val < 1 := (x 0).isLt
    have l1 : (x 1).val < 64 := (x 1).isLt
    change 64 * o.val + d.val = 64 * o'.val + (x 1).val at e1
    change y.val = 0 + (x 2).val at e2
    have : o' = o := Fin.ext (by omega)
    refine ⟨this, funext fun a => Fin.ext ?_⟩
    match a with
    | 0 => change (x 0).val = 0; omega
    | 1 => change (x 1).val = d.val; subst this; omega
    | 2 => change (x 2).val = y.val; omega
  refine View.canon_eq_of_allAt _ _ _ (View.cover_of_tiled_head _ _ _ rfl _) ?_
  refine View.allAt_cons_unit _ _ _ _ _ (fun x hx => ?_) (View.allAt_cons_unit _ _ _ _ _ (fun x hx => ?_) (View.allAt_cons_unit _ _ _ _ _ (fun x hx => ?_) (View.allAt_cons_unit _ _ _ _ _ (fun x hx => ?_) (View.allAt_nil _ _))))
  · obtain ⟨rfl, rfl⟩ := hy 3 x hx
    exact H.h3.quot d y
  · obtain ⟨rfl, rfl⟩ := hy 2 x hx
    exact H.h2.quot d y
  · obtain ⟨rfl, rfl⟩ := hy 1 x hx
    exact H.h1.quot d y
  · obtain ⟨rfl, rfl⟩ := hy 0 x hx
    exact H.h0.quot d y

end Cert.Attn
-- ==== Proof.Query.lean ====
module
public import proofs.«01_k».proof.Proof.Point
@[expose] public section

/-! # The query blocks

The scratch holds, per head, the 64 rows of scaled queries, the 16 further rows and 48 rows of zeros. -/
set_option maxRecDepth 16384
noncomputable section
namespace Cert.Attn
open Cert.KernelIdeal Cert.KernelIdeal.Gen Idealize.ShloMosaic Idealize.ShloMosaic.TcCoe Idealize.ShloMosaic.Tactic

/-- Row `c`, query `y` of head `o`'s query block, from the blocks of queries and of further rows. -/
def qrow (o : Fin 4) (x0 : Vec Ideal S1x256x256 .bf16) (x1 : Vec Ideal S1x64x256 .bf16) (c : Fin 128) (y : Fin 256) : EReal :=
  if h : c.val < 64 then x0 (ix3 0 ⟨64 * o.val + c.val, by omega⟩ y)
  else if h' : c.val < 80 then x1 (ix3 0 ⟨16 * o.val + (c.val - 64), by omega⟩ y) else 0

theorem cast64 (v : Vec Ideal S1x64x256 .bf16) (d : Fin 64) (y : Fin 256) :
    shapeCast S1x64x256 (shapeCast S64x256 v shapeCasts_S1x64x256_S64x256) shapeCasts_S64x256_S1x64x256 (ix3 0 d y) = v (ix3 0 d y) := by
  pointwise

theorem cast16 (v : FVec Ideal S16x256 .bf16) (d : Fin 16) (y : Fin 256) :
    shapeCast S1x16x256 v shapeCasts_S16x256_S1x16x256 (ix3 0 d y) = v (ix2 d y) := by
  pointwise

theorem zero48 (d : Fin 48) (y : Fin 256) :
    shapeCast S1x48x256 (broadcast S48x256 (Scalar.ofBits (F := Ideal) .bf16 0x0000#16)) shapeCasts_S48x256_S1x48x256 (ix3 0 d y) = 0 := by
  pointwise

/-- A piece of 64 rows of head `o'` written with its queries agrees with `qrow`. -/
theorem tile64 (o o' : Fin 4) (x0 : Vec Ideal S1x256x256 .bf16) (x1 : Vec Ideal S1x64x256 .bf16) (c : Fin 128) (y : Fin 256) (w : Vec Ideal S1x64x256 .bf16)
    (hw : ∀ d y, w (ix3 0 d y) = x0 (ix3 0 ⟨64 * o'.val + d.val, by omega⟩ y)) (x : S1x64x256.Idx)
    (hx : ∀ a, ((ix3 o c y : S4x128x256.Idx) a : Nat) = ![o'.val, 0, 0] a + x a) : w x = qrow o x0 x1 c y := by
  have e0 : o.val = o'.val + (x 0).val := hx 0
  have e1 : c.val = 0 + (x 1).val := hx 1
  have e2 : y.val = 0 + (x 2).val := hx 2
  have l0 : (x 0).val < 1 := (x 0).isLt
  have l1 : (x 1).val < 64 := (x 1).isLt
  have l2 : (x 2).val < 256 := (x 2).isLt
  have hc : c.val < 64 := by omega
  have ex : x = ix3 0 ⟨c.val, hc⟩ y := by
    funext a
    match a with
    | 0 => exact Fin.ext (by change (x 0).val = 0; omega)
    | 1 => exact Fin.ext (by change (x 1).val = c.val; omega)
    | 2 => exact Fin.ext (by change (x 2).val = y.val; omega)
  have eo : o' = o := Fin.ext (by omega)
  subst eo
  rw [ex, hw, qrow, dif_pos hc]

/-- A piece of 16 rows of head `o'` written with its further rows agrees with `qrow`. -/
theorem tile16 (o o' : Fin 4) (x0 : Vec Ideal S1x256x256 .bf16) (x1 : Vec Ideal S1x64x256 .bf16) (c : Fin 128) (y : Fin 256) (w : Vec Ideal S1x16x256 .bf16)
    (hw : ∀ d y, w (ix3 0 d y) = x1 (ix3 0 ⟨16 * o'.val + d.val, by omega⟩ y)) (x : S1x16x256.Idx)
    (hx : ∀ a, ((ix3 o c y : S4x128x256.Idx) a : Nat) = ![o'.val, 64, 0] a + x a) : w x = qrow o x0 x1 c y := by
  have e0 : o.val = o'.val + (x 0).val := hx 0
  have e1 : c.val = 64 + (x 1).val := hx 1
  have e2 : y.val = 0 + (x 2).val := hx 2
  have l0 : (x 0).val < 1 := (x 0).isLt
  have l1 : (x 1).val < 16 := (x 1).isLt
  have l2 : (x 2).val < 256 := (x 2).isLt
  have ex : x = ix3 0 ⟨c.val - 64, by omega⟩ y := by
    funext a
    match a with
    | 0 => exact Fin.ext (by change (x 0).val = 0; omega)
    | 1 => exact Fin.ext (by change (x 1).val = c.val - 64; omega)
    | 2 => exact Fin.ext (by change (x 2).val = y.val; omega)
  have eo : o' = o := Fin.ext (by omega)
  subst eo
  rw [ex, hw, qrow, dif_neg (by omega), dif_pos (by omega)]

/-- A piece of 48 rows of zeros agrees with `qrow`. -/
theorem tile48 (o o' : Fin 4) (x0 : Vec Ideal S1x256x256 .bf16) (x1 : Vec Ideal S1x64x256 .bf16) (c : Fin 128) (y : Fin 256) (w : Vec Ideal S1x48x256 .bf16)
    (hw : ∀ d y, w (ix3 0 d y) = (0 : EReal)) (x : S1x48x256.Idx)
    (hx : ∀ a, ((ix3 o c y : S4x128x256.Idx) a : Nat) = ![o'.val, 80, 0] a + x a) : w x = qrow o x0 x1 c y := by
  have e1 : c.val = 80 + (x 1).val := hx 1
  have l0 : (x 0).val < 1 := (x 0).isLt
  have ex : x = ix3 0 (x 1) (x 2) := by
    funext a
    match a with
    | 0 => exact Fin.ext (by change (x 0).val = 0; omega)
    | 1 => rfl
    | 2 => rfl
  rw [congrArg w ex]
  refine (hw (x 1) (x 2)).trans ?_
  rw [qrow, dif_neg (by omega), dif_neg (by omega)]

theorem ldq (x0 : Vec Ideal S1x256x256 .bf16) (off : Fin 3 → Nat) (hb : ∀ a, off a + S1x64x256.size a ≤ S1x256x256.size a) (o : Fin 4) (ho : off = ![0, 64 * o.val, 0])
    (d : Fin 64) (y : Fin 256) : (View.ld x0 (Rect.unit (s := S1x256x256) off S1x64x256.size hb) : Vec Ideal S1x64x256 .bf16) (ix3 0 d y) = x0 (ix3 0 ⟨64 * o.val + d.val, by omega⟩ y) := by
  subst ho
  refine View.ld_unit_apply_of (S := S1x256x256) x0 _ _ hb _ _ fun a => ?_
  match a with
  | 0 => rfl
  | 1 => rfl
  | 2 => exact (Nat.zero_add _).symm

theorem lde (x1 : Vec Ideal S1x64x256 .bf16) (hb : ∀ a, (![0, 0, 0] : Fin 3 → Nat) a + S1x64x256.size a ≤ S1x64x256.size a)
    (d : Fin 64) (y : Fin 256) : (View.ld x1 (Rect.unit (s := S1x64x256) ![0, 0, 0] S1x64x256.size hb) : Vec Ideal S1x64x256 .bf16) (ix3 0 d y) = x1 (ix3 0 d y) := by
  refine View.ld_unit_apply_of (S := S1x64x256) x1 _ _ hb _ _ fun a => ?_
  match a with
  | 0 => rfl
  | 1 => exact (Nat.zero_add _).symm
  | 2 => exact (Nat.zero_add _).symm

theorem ext0 (v : Vec Ideal S1x64x256 .bf16) (d : Fin 16) (y : Fin 256) :
    extractStridedSlice S16x256 ![0, 0] (shapeCast S64x256 v shapeCasts_S1x64x256_S64x256) slices_S64x256_o0_0_S16x256 (ix2 d y) = v (ix3 0 ⟨d.val, by omega⟩ y) := by
  pointwise
theorem ext1 (v : Vec Ideal S1x64x256 .bf16) (d : Fin 16) (y : Fin 256) :
    extractStridedSlice S16x256 ![16, 0] (shapeCast S64x256 v shapeCasts_S1x64x256_S64x256) slices_S64x256_o16_0_S16x256 (ix2 d y) = v (ix3 0 ⟨16 + d.val, by omega⟩ y) := by
  pointwise
theorem ext2 (v : Vec Ideal S1x64x256 .bf16) (d : Fin 16) (y : Fin 256) :
    extractStridedSlice S16x256 ![32, 0] (shapeCast S64x256 v shapeCasts_S1x64x256_S64x256) slices_S64x256_o32_0_S16x256 (ix2 d y) = v (ix3 0 ⟨32 + d.val, by omega⟩ y) := by
  pointwise
theorem ext3 (v : Vec Ideal S1x64x256 .bf16) (d : Fin 16) (y : Fin 256) :
    extractStridedSlice S16x256 ![48, 0] (shapeCast S64x256 v shapeCasts_S1x64x256_S64x256) slices_S64x256_o48_0_S16x256 (ix2 d y) = v (ix3 0 ⟨48 + d.val, by omega⟩ y) := by
  pointwise

theorem pay0 (x0 : Vec Ideal S1x256x256 .bf16) (d : Fin 64) (y : Fin 256) :
    k0_pay90 (View.ld x0 (Rect.unit (s := S1x256x256) ![0, 0, 0] S1x64x256.size inb_S1x256x256_S1x64x256_0_0_0)) (ix3 0 d y) = x0 (ix3 0 ⟨64 * (0 : Fin 4).val + d.val, by omega⟩ y) := by
  have key : ∀ v : Vec Ideal S1x64x256 .bf16, k0_pay90 v (ix3 0 d y) = v (ix3 0 d y) := fun v => cast64 v d y
  exact (key _).trans (ldq x0 _ _ 0 (by decide) d y)
theorem pay1 (x0 : Vec Ideal S1x256x256 .bf16) (d : Fin 64) (y : Fin 256) :
    k0_pay93 (View.ld x0 (Rect.unit (s := S1x256x256) ![0, 64, 0] S1x64x256.size inb_S1x256x256_S1x64x256_0_64_0)) (ix3 0 d y) = x0 (ix3 0 ⟨64 * (1 : Fin 4).val + d.val, by omega⟩ y) := by
  have key : ∀ v : Vec Ideal S1x64x256 .bf16, k0_pay93 v (ix3 0 d y) = v (ix3 0 d y) := fun v => cast64 v d y
  exact (key _).trans (ldq x0 _ _ 1 (by decide) d y)
theorem pay2 (x0 : Vec Ideal S1x256x256 .bf16) (d : Fin 64) (y : Fin 256) :
    k0_pay97 (View.ld x0 (Rect.unit (s := S1x256x256) ![0, 128, 0] S1x64x256.size inb_S1x256x256_S1x64x256_0_128_0)) (ix3 0 d y) = x0 (ix3 0 ⟨64 * (2 : Fin 4).val + d.val, by omega⟩ y) := by
  have key : ∀ v : Vec Ideal S1x64x256 .bf16, k0_pay97 v (ix3 0 d y) = v (ix3 0 d y) := fun v => cast64 v d y
  exact (key _).trans (ldq x0 _ _ 2 (by decide) d y)
theorem pay3 (x0 : Vec Ideal S1x256x256 .bf16) (d : Fin 64) (y : Fin 256) :
    k0_pay100 (View.ld x0 (Rect.unit (s := S1x256x256) ![0, 192, 0] S1x64x256.size inb_S1x256x256_S1x64x256_0_192_0)) (ix3 0 d y) = x0 (ix3 0 ⟨64 * (3 : Fin 4).val + d.val, by omega⟩ y) := by
  have key : ∀ v : Vec Ideal S1x64x256 .bf16, k0_pay100 v (ix3 0 d y) = v (ix3 0 d y) := fun v => cast64 v d y
  exact (key _).trans (ldq x0 _ _ 3 (by decide) d y)

/-- An index of head `o` lies in a piece of head `o` whose rows hold it. -/
theorem mem_piece (o : Fin 4) (c : Fin 128) (y : Fin 256) (off size : Fin 3 → Nat) (inb) (lo n : Nat) (ho : off = ![o.val, lo, 0]) (hs : size = ![1, n, 256])
    (h1 : lo ≤ c.val) (h2 : c.val < lo + n) : (ix3 o c y : S4x128x256.Idx) ∈ (Rect.unit (s := S4x128x256) off size inb).set := by
  subst ho hs
  refine Rect.mem_set_unit.mpr fun a => ?_
  match a with
  | 0 => exact ⟨le_rfl, Nat.lt_succ_self _⟩
  | 1 => exact ⟨h1, h2⟩
  | 2 => exact ⟨Nat.zero_le _, by change y.val < 0 + 256; omega⟩

variable (c : Dev nD) (t : Fin cfg0.N) (x0 : Vec Ideal S1x256x256 .bf16) (x1 : Vec Ideal S1x64x256 .bf16)

/-- The pieces written to the scratch. -/
abbrev pieces := kernelRun0_A.sl.HS0_12 (F := Ideal) c (ms0_0 t) (hs0_0 t) (ms0_1 t) (hs0_1 t) x0 x1

theorem pieces_cover (o : Fin 4) (r : Fin 128) (y : Fin 256) : ∃ p ∈ pieces c t x0 x1, (ix3 o r y : S4x128x256.Idx) ∈ p.1.set := by
  unfold pieces kernelRun0_A.sl.HS0_12
  have h3 : r.val < 64 ∨ (64 ≤ r.val ∧ r.val < 80) ∨ 80 ≤ r.val := by omega
  match o with
  | 0 =>
    rcases h3 with h | ⟨h, h'⟩ | h
    · refine ⟨_, .tail _ (.tail _ (.tail _ (.tail _ (.tail _ (.tail _ (.tail _ (.tail _ (.tail _ (.tail _ (.tail _ (.head _))))))))))), ?_⟩
      exact mem_piece 0 r y _ _ inb_S4x128x256_S1x64x256_0_0_0 0 64 rfl rfl (Nat.zero_le _) (by omega)
    · refine ⟨_, .tail _ (.tail _ (.tail _ (.tail _ (.tail _ (.tail _ (.tail _ (.tail _ (.tail _ (.tail _ (.head _)))))))))), ?_⟩
      exact mem_piece 0 r y _ _ inb_S4x128x256_S1x16x256_0_64_0 64 16 rfl rfl h (by omega)
    · refine ⟨_, .tail _ (.tail _ (.tail _ (.tail _ (.tail _ (.tail _ (.tail _ (.tail _ (.tail _ (.head _))))))))), ?_⟩
      exact mem_piece 0 r y _ _ inb_S4x128x256_S1x48x256_0_80_0 80 48 rfl rfl h (by omega)
  | 1 =>
    rcases h3 with h | ⟨h, h'⟩ | h
    · refine ⟨_, .tail _ (.tail _ (.tail _ (.tail _ (.tail _ (.tail _ (.tail _ (.tail _ (.head _)))))))), ?_⟩
      exact mem_piece 1 r y _ _ inb_S4x128x256_S1x64x256_1_0_0 0 64 rfl rfl (Nat.zero_le _) (by omega)
    · refine ⟨_, .tail _ (.tail _ (.tail _ (.tail _ (.tail _ (.tail _ (.tail _ (.head _))))))), ?_⟩
      exact mem_piece 1 r y _ _ inb_S4x128x256_S1x16x256_1_64_0 64 16 rfl rfl h (by omega)
    · refine ⟨_, .tail _ (.tail _ (.tail _ (.tail _ (.tail _ (.tail _ (.head _)))))), ?_⟩
      exact mem_piece 1 r y _ _ inb_S4x128x256_S1x48x256_1_80_0 80 48 rfl rfl h (by omega)
  | 2 =>
    rcases h3 with h | ⟨h, h'⟩ | h
    · refine ⟨_, .tail _ (.tail _ (.tail _ (.tail _ (.tail _ (.head _))))), ?_⟩
      exact mem_piece 2 r y _ _ inb_S4x128x256_S1x64x256_2_0_0 0 64 rfl rfl (Nat.zero_le _) (by omega)
    · refine ⟨_, .tail _ (.tail _ (.tail _ (.tail _ (.head _)))), ?_⟩
      exact mem_piece 2 r y _ _ inb_S4x128x256_S1x16x256_2_64_0 64 16 rfl rfl h (by omega)
    · refine ⟨_, .tail _ (.tail _ (.tail _ (.head _))), ?_⟩
      exact mem_piece 2 r y _ _ inb_S4x128x256_S1x48x256_2_80_0 80 48 rfl rfl h (by omega)
  | 3 =>
    rcases h3 with h | ⟨h, h'⟩ | h
    · refine ⟨_, .tail _ (.tail _ (.head _)), ?_⟩
      exact mem_piece 3 r y _ _ inb_S4x128x256_S1x64x256_3_0_0 0 64 rfl rfl (Nat.zero_le _) (by omega)
    · refine ⟨_, .tail _ (.head _), ?_⟩
      exact mem_piece 3 r y _ _ inb_S4x128x256_S1x16x256_3_64_0 64 16 rfl rfl h (by omega)
    · refine ⟨_, .head _, ?_⟩
      exact mem_piece 3 r y _ _ inb_S4x128x256_S1x48x256_3_80_0 80 48 rfl rfl h (by omega)

/-- What the scratch holds. -/
theorem pieces_canon (o : Fin 4) (r : Fin 128) (y : Fin 256) :
    View.canon (pieces c t x0 x1) (ix3 o r y : S4x128x256.Idx) = qrow o x0 x1 r y := by
  refine View.canon_eq_of_allAt _ _ _ (pieces_cover c t x0 x1 o r y) ?_
  have r0 := (hs0_0 t).read_unread x0
  have r1 := (hs0_1 t).read_unread x1
  unfold pieces kernelRun0_A.sl.HS0_12 kernelRun0_A.sl.r
  simp only [View.readAt_eq_ld, r0, r1]
  refine View.allAt_cons_unit _ _ _ _ _ (tile48 o 3 x0 x1 r y _ (zero48)) ?_
  refine View.allAt_cons_unit _ _ _ _ _ (tile16 o 3 x0 x1 r y _ (fun d y => (cast16 _ d y).trans ((ext3 _ d y).trans ((lde x1 _ _ y).trans rfl)))) ?_
  refine View.allAt_cons_unit _ _ _ _ _ (tile64 o 3 x0 x1 r y _ (pay3 x0)) ?_
  refine View.allAt_cons_unit _ _ _ _ _ (tile48 o 2 x0 x1 r y _ (zero48)) ?_
  refine View.allAt_cons_unit _ _ _ _ _ (tile16 o 2 x0 x1 r y _ (fun d y => (cast16 _ d y).trans ((ext2 _ d y).trans ((lde x1 _ _ y).trans rfl)))) ?_
  refine View.allAt_cons_unit _ _ _ _ _ (tile64 o 2 x0 x1 r y _ (pay2 x0)) ?_
  refine View.allAt_cons_unit _ _ _ _ _ (tile48 o 1 x0 x1 r y _ (zero48)) ?_
  refine View.allAt_cons_unit _ _ _ _ _ (tile16 o 1 x0 x1 r y _ (fun d y => (cast16 _ d y).trans ((ext1 _ d y).trans ((lde x1 _ _ y).trans rfl)))) ?_
  refine View.allAt_cons_unit _ _ _ _ _ (tile64 o 1 x0 x1 r y _ (pay1 x0)) ?_
  refine View.allAt_cons_unit _ _ _ _ _ (tile48 o 0 x0 x1 r y _ (zero48)) ?_
  refine View.allAt_cons_unit _ _ _ _ _ (tile16 o 0 x0 x1 r y _ (fun d y => (cast16 _ d y).trans ((ext0 _ d y).trans ((lde x1 _ _ y).trans (congrArg (fun z => x1 (ix3 0 z y)) (Fin.ext (Nat.zero_add _).symm)))))) ?_
  refine View.allAt_cons_unit _ _ _ _ _ (tile64 o 0 x0 x1 r y _ (pay0 x0)) ?_
  exact View.allAt_nil _ _

/-- The query block of head `o` read at an index. -/
theorem Qh_apply (o : Fin 4) (r : Fin 128) (y : Fin 256) : Qh o t c x0 x1 (ix2 r y) = qrow o x0 x1 r y := by
  rw [← pieces_canon c t x0 x1 o r y]
  have hc : ∀ (v : Vec Ideal S1x128x256 .bf16), shapeCast S128x256 v shapeCasts_S1x128x256_S128x256 (ix2 r y) = v (ix3 0 r y) := by
    intro v
    pointwise
  have hi : ∀ (off : Fin 3 → Nat) (hb), off = ![o.val, 0, 0] → (Rect.unit (s := S4x128x256) off S1x128x256.size hb).toLoadRect.idx (ix3 0 r y) = (ix3 o r y : S4x128x256.Idx) := by
    rintro off hb rfl
    funext a
    refine Fin.ext ?_
    match a with
    | 0 => rfl
    | 1 => change 0 + 1 * r.val = r.val; omega
    | 2 => change 0 + 1 * y.val = y.val; omega
  match o with
  | 0 =>
    refine (hc (kernelRun0_A.sl.v54 c (ms0_0 t) (hs0_0 t) (ms0_1 t) (hs0_1 t) scM0_0 x0 x1)).trans ?_
    unfold kernelRun0_A.sl.v54
    rw [View.readCov_eq_canon']
    exact congrArg (View.canon (pieces c t x0 x1)) (hi _ _ rfl)
  | 1 =>
    refine (hc (kernelRun0_A.sl.v56 c (ms0_0 t) (hs0_0 t) (ms0_1 t) (hs0_1 t) scM0_0 x0 x1)).trans ?_
    unfold kernelRun0_A.sl.v56
    rw [View.readCov_eq_canon']
    exact congrArg (View.canon (pieces c t x0 x1)) (hi _ _ rfl)
  | 2 =>
    refine (hc (kernelRun0_A.sl.v58 c (ms0_0 t) (hs0_0 t) (ms0_1 t) (hs0_1 t) scM0_0 x0 x1)).trans ?_
    unfold kernelRun0_A.sl.v58
    rw [View.readCov_eq_canon']
    exact congrArg (View.canon (pieces c t x0 x1)) (hi _ _ rfl)
  | 3 =>
    refine (hc (kernelRun0_A.sl.v60 c (ms0_0 t) (hs0_0 t) (ms0_1 t) (hs0_1 t) scM0_0 x0 x1)).trans ?_
    unfold kernelRun0_A.sl.v60
    rw [View.readCov_eq_canon']
    exact congrArg (View.canon (pieces c t x0 x1)) (hi _ _ rfl)

end Cert.Attn
-- ==== Proof.Host.lean ====
module
public import proofs.«01_k».proof.Proof.Query
public import Idealize.ShloMosaic.Lib.Claim
@[expose] public section
/-! # The arrays the host code prepares

Each is named as a function of the arguments, and the contents of the call's four inputs are shown to be these. -/
set_option maxRecDepth 16384
noncomputable section
namespace Cert.Attn
open Cert.KernelIdeal Cert.KernelIdeal.Gen Idealize.ShloMosaic Idealize.ShloMosaic.TcCoe Idealize.ShloMosaic.Tactic

/-- Contents of the buffers. -/
abbrev Bufs := Valuation τ sig (Elt Ideal)

/-! The host operations in seven pieces: up to each concatenation, the concatenation, and the rest. -/
abbrev opsA : List (HloOp τ sig (Elt Ideal)) := List.take 17 hostOps0_2
abbrev opsB : List (HloOp τ sig (Elt Ideal)) := List.take 1 (List.drop 17 hostOps0_2)
abbrev opsC : List (HloOp τ sig (Elt Ideal)) := List.take 4 (List.drop 18 hostOps0_2)
abbrev opsD : List (HloOp τ sig (Elt Ideal)) := List.take 1 (List.drop 22 hostOps0_2)
abbrev opsE : List (HloOp τ sig (Elt Ideal)) := List.take 6 (List.drop 23 hostOps0_2)
abbrev opsG : List (HloOp τ sig (Elt Ideal)) := List.take 1 (List.drop 29 hostOps0_2)
abbrev opsH : List (HloOp τ sig (Elt Ideal)) := List.drop 30 hostOps0_2

theorem ops_eq : (List.flatten [hostOps0, hostOps0_1, hostOps0_2] : List (HloOp τ sig (Elt Ideal))) = hostOps0 ++ (hostOps0_1 ++ (opsA ++ (opsB ++ (opsC ++ (opsD ++ (opsE ++ (opsG ++ opsH))))))) := rfl

/-! ## The pure functions -/
section
variable (F : FVec Ideal S2x8192x8 .f32) (k1 k2 : FVec Ideal S_ .f32)
/-- The cumulative log forget gates in units of the base-two logarithm. -/
def gv : FVec Ideal S2x8192x8 .f32 := mulf F (broadcastInDim S2x8192x8 ![] bcast_S_S2x8192x8 k1)
/-- Their first rounding. -/
def gHi : FVec Ideal S2x8192x8 .bf16 := truncf .bf16 (gv F k1) bitsLt_bf16_f32
/-- What the first rounding leaves. -/
def gR : FVec Ideal S2x8192x8 .f32 := subf (gv F k1) (extf .f32 (gHi F k1) bitsLt_bf16_f32)
/-- The second rounding. -/
def gMid : FVec Ideal S2x8192x8 .bf16 := truncf .bf16 (gR F k1) bitsLt_bf16_f32
/-- The third rounding. -/
def gLo : FVec Ideal S2x8192x8 .bf16 :=
  truncf .bf16 (subf (gR F k1) (extf .f32 (gMid F k1) bitsLt_bf16_f32)) bitsLt_bf16_f32
/-- One more axis, of one entry. -/
def col (x : FVec Ideal S2x8192x8 .bf16) : FVec Ideal S2x8192x8x1 .bf16 :=
  broadcastInDim S2x8192x8x1 ![0, 1, 2] bcast_S2x8192x8_S2x8192x8x1_0_1_2 x
/-- Three columns side by side. -/
def cat3 (x y z : FVec Ideal S2x8192x8x1 .bf16) : FVec Ideal S2x8192x8x3 .bf16 :=
  concatenate S2x8192x8x3 3 [⟨S2x8192x8x1, x⟩, ⟨S2x8192x8x1, y⟩, ⟨S2x8192x8x1, z⟩] concatenates_S2x8192x8x1_S2x8192x8x1_S2x8192x8x1_S2x8192x8x3_d3
/-- Ones. -/
def ones3 : FVec Ideal S2x8192x8x3 .bf16 := broadcastInDim S2x8192x8x3 ![] bcast_S_S2x8192x8x3 (constant (F := Ideal) S_ .bf16 0x3F80#16)
/-- Zeros. -/
def zeros10 : FVec Ideal S2x8192x8x10 .bf16 := broadcastInDim S2x8192x8x10 ![] bcast_S_S2x8192x8x10 (constant (F := Ideal) S_ .bf16 0#16)
/-- Zeros. -/
def zeros58 : FVec Ideal S2x8192x8x58 .bf16 := broadcastInDim S2x8192x8x58 ![] bcast_S_S2x8192x8x58 (constant (F := Ideal) S_ .bf16 0#16)
/-- The extra query columns. -/
def cat16 (x y : FVec Ideal S2x8192x8x3 .bf16) (z : FVec Ideal S2x8192x8x10 .bf16) : FVec Ideal S2x8192x8x16 .bf16 :=
  concatenate S2x8192x8x16 3 [⟨S2x8192x8x3, x⟩, ⟨S2x8192x8x3, y⟩, ⟨S2x8192x8x10, z⟩] concatenates_S2x8192x8x3_S2x8192x8x3_S2x8192x8x10_S2x8192x8x16_d3
/-- The key columns. -/
def cat128 (x : FVec Ideal S2x8192x8x64 .bf16) (y z : FVec Ideal S2x8192x8x3 .bf16) (w : FVec Ideal S2x8192x8x58 .bf16) : FVec Ideal S2x8192x8x128 .bf16 :=
  concatenate S2x8192x8x128 3 [⟨S2x8192x8x64, x⟩, ⟨S2x8192x8x3, y⟩, ⟨S2x8192x8x3, z⟩, ⟨S2x8192x8x58, w⟩] concatenates_S2x8192x8x64_S2x8192x8x3_S2x8192x8x3_S2x8192x8x58_S2x8192x8x128_d3
/-- The queries, scaled, feature by feature. -/
def qT (q : FVec Ideal S2x8192x8x64 .f32) : FVec Ideal S2x512x8192 .bf16 :=
  truncf .bf16 (shapeCast S2x512x8192 (transpose S2x8x64x8192 [0, 2, 3, 1] (mulf q (broadcastInDim S2x8192x8x64 ![] bcast_S_S2x8192x8x64 k2))
    transposes_S2x8192x8x64_S2x8x64x8192_0_2_3_1) shapeCasts_S2x8x64x8192_S2x512x8192) bitsLt_bf16_f32
/-- The extra query rows. -/
def eT (x : FVec Ideal S2x8192x8x16 .bf16) : FVec Ideal S2x128x8192 .bf16 :=
  shapeCast S2x128x8192 (transpose S2x8x16x8192 [0, 2, 3, 1] x transposes_S2x8192x8x16_S2x8x16x8192_0_2_3_1) shapeCasts_S2x8x16x8192_S2x128x8192
/-- The keys. -/
def kT (x : FVec Ideal S2x8192x8x128 .bf16) : FVec Ideal S2x8192x1024 .bf16 := shapeCast S2x8192x1024 x shapeCasts_S2x8192x8x128_S2x8192x1024
/-- The values. -/
def vT (v : FVec Ideal S2x8192x8x64 .f32) : FVec Ideal S2x8x32x64x256 .bf16 :=
  truncf .bf16 (transpose S2x8x32x64x256 [0, 3, 1, 4, 2] (shapeCast S2x32x256x8x64 v shapeCasts_S2x8192x8x64_S2x32x256x8x64)
    transposes_S2x32x256x8x64_S2x8x32x64x256_0_3_1_4_2) bitsLt_bf16_f32
/-- The logarithm of two, inverted. -/
def k1h : FVec Ideal S_ .f32 := Host.divf (constant (F := Ideal) S_ .f32 0x3F800000#32) (Host.log (constant (F := Ideal) S_ .f32 0x40000000#32))
/-- The factor of the queries. -/
def k2h : FVec Ideal S_ .f32 := mulf (constant (F := Ideal) S_ .f32 1040187392#32) k1h
/-- The cumulative sum over the sequence. -/
def cum (f : FVec Ideal S2x8192x8 .f32) : FVec Ideal S2x8192x8 .f32 :=
  Host.reduceWindowAdd ![1,8192,1] ![1,1,1] ![0,8191,0] ![0,0,0] f (broadcastInDim S_ ![] bcast_S_S_ (constant (F := Ideal) S_ .f32 0#32)) reduceWindows_S2x8192x8_S2x8192x8_w1s1p0_0_w8192s1p8191_0_w1s1p0_0 h_S_
end

/-! ## Each piece, from any contents -/
variable (σ : Bufs)
theorem rd_P1 : (StableHlo.after hostOps0 σ (Proc.tc.devRef main_v1) : FVec Ideal S_ .f32) = k1h := by
  simp only [hostOps0]
  entry_read
  all_goals rfl
theorem rd_P2 : (StableHlo.after hostOps0 σ (Proc.tc.devRef main_v2) : FVec Ideal S_ .f32) = k2h := by
  simp only [hostOps0]
  entry_read
  all_goals rfl
theorem rd_Q3 : (StableHlo.after hostOps0_1 σ (Proc.tc.devRef main_v3) : FVec Ideal S2x8192x8 .f32) = cum (σ (Proc.tc.devRef main_arg3) : FVec Ideal S2x8192x8 .f32) := by
  simp only [hostOps0_1]
  entry_read
  all_goals rfl
theorem rd_A18 : (StableHlo.after opsA σ (Proc.tc.devRef main_v18) : FVec Ideal S2x8192x8x1 .bf16) = col (gHi (σ (Proc.tc.devRef main_v3) : FVec Ideal S2x8192x8 .f32) (σ (Proc.tc.devRef main_v1) : FVec Ideal S_ .f32)) := by
  unfold opsA
  simp only [hostOps0_2, List.take_succ_cons, List.take_zero, List.drop_succ_cons, List.drop_zero]
  entry_read
  all_goals rfl
theorem rd_A19 : (StableHlo.after opsA σ (Proc.tc.devRef main_v19) : FVec Ideal S2x8192x8x1 .bf16) = col (gMid (σ (Proc.tc.devRef main_v3) : FVec Ideal S2x8192x8 .f32) (σ (Proc.tc.devRef main_v1) : FVec Ideal S_ .f32)) := by
  unfold opsA
  simp only [hostOps0_2, List.take_succ_cons, List.take_zero, List.drop_succ_cons, List.drop_zero]
  entry_read
  all_goals rfl
theorem rd_A20 : (StableHlo.after opsA σ (Proc.tc.devRef main_v20) : FVec Ideal S2x8192x8x1 .bf16) = col (gLo (σ (Proc.tc.devRef main_v3) : FVec Ideal S2x8192x8 .f32) (σ (Proc.tc.devRef main_v1) : FVec Ideal S_ .f32)) := by
  unfold opsA
  simp only [hostOps0_2, List.take_succ_cons, List.take_zero, List.drop_succ_cons, List.drop_zero]
  entry_read
  all_goals rfl
theorem rd_A17 : (StableHlo.after opsA σ (Proc.tc.devRef main_v17) : FVec Ideal S2x512x8192 .bf16) = qT (σ (Proc.tc.devRef main_v2) : FVec Ideal S_ .f32) (σ (Proc.tc.devRef main_arg0) : FVec Ideal S2x8192x8x64 .f32) := by
  unfold opsA
  simp only [hostOps0_2, List.take_succ_cons, List.take_zero, List.drop_succ_cons, List.drop_zero]
  entry_read
  all_goals rfl
theorem rd_B21 : (StableHlo.after opsB σ (Proc.tc.devRef main_v21) : FVec Ideal S2x8192x8x3 .bf16) = cat3 (σ (Proc.tc.devRef main_v18) : FVec Ideal S2x8192x8x1 .bf16) (σ (Proc.tc.devRef main_v19) : FVec Ideal S2x8192x8x1 .bf16) (σ (Proc.tc.devRef main_v20) : FVec Ideal S2x8192x8x1 .bf16) := by
  unfold opsB
  simp only [hostOps0_2, List.take_succ_cons, List.take_zero, List.drop_succ_cons, List.drop_zero]
  rw [StableHlo.after_cons, StableHlo.after_nil, StableHlo.nary_result]
  all_goals rfl
theorem rd_C22 : (StableHlo.after opsC σ (Proc.tc.devRef main_v22) : FVec Ideal S2x8192x8x3 .bf16) = ones3 := by
  unfold opsC
  simp only [hostOps0_2, List.take_succ_cons, List.take_zero, List.drop_succ_cons, List.drop_zero]
  entry_read
  all_goals rfl
theorem rd_C23 : (StableHlo.after opsC σ (Proc.tc.devRef main_v23) : FVec Ideal S2x8192x8x10 .bf16) = zeros10 := by
  unfold opsC
  simp only [hostOps0_2, List.take_succ_cons, List.take_zero, List.drop_succ_cons, List.drop_zero]
  entry_read
  all_goals rfl
theorem rd_D24 : (StableHlo.after opsD σ (Proc.tc.devRef main_v24) : FVec Ideal S2x8192x8x16 .bf16) = cat16 (σ (Proc.tc.devRef main_v22) : FVec Ideal S2x8192x8x3 .bf16) (σ (Proc.tc.devRef main_v21) : FVec Ideal S2x8192x8x3 .bf16) (σ (Proc.tc.devRef main_v23) : FVec Ideal S2x8192x8x10 .bf16) := by
  unfold opsD
  simp only [hostOps0_2, List.take_succ_cons, List.take_zero, List.drop_succ_cons, List.drop_zero]
  rw [StableHlo.after_cons, StableHlo.after_nil, StableHlo.nary_result]
  all_goals rfl
theorem rd_E26 : (StableHlo.after opsE σ (Proc.tc.devRef main_v26) : FVec Ideal S2x128x8192 .bf16) = eT (σ (Proc.tc.devRef main_v24) : FVec Ideal S2x8192x8x16 .bf16) := by
  unfold opsE
  simp only [hostOps0_2, List.take_succ_cons, List.take_zero, List.drop_succ_cons, List.drop_zero]
  entry_read
  all_goals rfl
theorem rd_E27 : (StableHlo.after opsE σ (Proc.tc.devRef main_v27) : FVec Ideal S2x8192x8x64 .bf16) = (truncf (F := Ideal) .bf16 (σ (Proc.tc.devRef main_arg1) : FVec Ideal S2x8192x8x64 .f32) bitsLt_bf16_f32 : FVec Ideal S2x8192x8x64 .bf16) := by
  unfold opsE
  simp only [hostOps0_2, List.take_succ_cons, List.take_zero, List.drop_succ_cons, List.drop_zero]
  entry_read
  all_goals rfl
theorem rd_E28 : (StableHlo.after opsE σ (Proc.tc.devRef main_v28) : FVec Ideal S2x8192x8x3 .bf16) = (Host.negf (F := Ideal) (σ (Proc.tc.devRef main_v21) : FVec Ideal S2x8192x8x3 .bf16) : FVec Ideal S2x8192x8x3 .bf16) := by
  unfold opsE
  simp only [hostOps0_2, List.take_succ_cons, List.take_zero, List.drop_succ_cons, List.drop_zero]
  entry_read
  all_goals rfl
theorem rd_E29 : (StableHlo.after opsE σ (Proc.tc.devRef main_v29) : FVec Ideal S2x8192x8x58 .bf16) = zeros58 := by
  unfold opsE
  simp only [hostOps0_2, List.take_succ_cons, List.take_zero, List.drop_succ_cons, List.drop_zero]
  entry_read
  all_goals rfl
theorem rd_G30 : (StableHlo.after opsG σ (Proc.tc.devRef main_v30) : FVec Ideal S2x8192x8x128 .bf16) = cat128 (σ (Proc.tc.devRef main_v27) : FVec Ideal S2x8192x8x64 .bf16) (σ (Proc.tc.devRef main_v28) : FVec Ideal S2x8192x8x3 .bf16) (σ (Proc.tc.devRef main_v22) : FVec Ideal S2x8192x8x3 .bf16) (σ (Proc.tc.devRef main_v29) : FVec Ideal S2x8192x8x58 .bf16) := by
  unfold opsG
  simp only [hostOps0_2, List.take_succ_cons, List.take_zero, List.drop_succ_cons, List.drop_zero]
  rw [StableHlo.after_cons, StableHlo.after_nil, StableHlo.nary_result]
  all_goals rfl
theorem rd_H34 : (StableHlo.after opsH σ (Proc.tc.devRef main_v34) : FVec Ideal S2x8192x1024 .bf16) = kT (σ (Proc.tc.devRef main_v30) : FVec Ideal S2x8192x8x128 .bf16) := by
  unfold opsH
  simp only [hostOps0_2, List.take_succ_cons, List.take_zero, List.drop_succ_cons, List.drop_zero]
  entry_read
  all_goals rfl
theorem rd_H33 : (StableHlo.after opsH σ (Proc.tc.devRef main_v33) : FVec Ideal S2x8x32x64x256 .bf16) = vT (σ (Proc.tc.devRef main_arg2) : FVec Ideal S2x8192x8x64 .f32) := by
  unfold opsH
  simp only [hostOps0_2, List.take_succ_cons, List.take_zero, List.drop_succ_cons, List.drop_zero]
  entry_read
  all_goals rfl
theorem rd_B_v17 : StableHlo.after opsB σ (Proc.tc.devRef main_v17) = σ (Proc.tc.devRef main_v17) := by
  unfold opsB
  simp only [hostOps0_2, List.take_succ_cons, List.take_zero, List.drop_succ_cons, List.drop_zero]
  rw [StableHlo.after_cons, StableHlo.after_nil, StableHlo.nary_result_ne]
  decide
theorem rd_C_v17 : StableHlo.after opsC σ (Proc.tc.devRef main_v17) = σ (Proc.tc.devRef main_v17) := by
  unfold opsC
  simp only [hostOps0_2, List.take_succ_cons, List.take_zero, List.drop_succ_cons, List.drop_zero]
  entry_read
  rfl
theorem rd_D_v17 : StableHlo.after opsD σ (Proc.tc.devRef main_v17) = σ (Proc.tc.devRef main_v17) := by
  unfold opsD
  simp only [hostOps0_2, List.take_succ_cons, List.take_zero, List.drop_succ_cons, List.drop_zero]
  rw [StableHlo.after_cons, StableHlo.after_nil, StableHlo.nary_result_ne]
  decide
theorem rd_E_v17 : StableHlo.after opsE σ (Proc.tc.devRef main_v17) = σ (Proc.tc.devRef main_v17) := by
  unfold opsE
  simp only [hostOps0_2, List.take_succ_cons, List.take_zero, List.drop_succ_cons, List.drop_zero]
  entry_read
  rfl
theorem rd_G_v17 : StableHlo.after opsG σ (Proc.tc.devRef main_v17) = σ (Proc.tc.devRef main_v17) := by
  unfold opsG
  simp only [hostOps0_2, List.take_succ_cons, List.take_zero, List.drop_succ_cons, List.drop_zero]
  rw [StableHlo.after_cons, StableHlo.after_nil, StableHlo.nary_result_ne]
  decide
theorem rd_H_v17 : StableHlo.after opsH σ (Proc.tc.devRef main_v17) = σ (Proc.tc.devRef main_v17) := by
  unfold opsH
  simp only [hostOps0_2, List.take_succ_cons, List.take_zero, List.drop_succ_cons, List.drop_zero]
  entry_read
  rfl
theorem rd_G_v26 : StableHlo.after opsG σ (Proc.tc.devRef main_v26) = σ (Proc.tc.devRef main_v26) := by
  unfold opsG
  simp only [hostOps0_2, List.take_succ_cons, List.take_zero, List.drop_succ_cons, List.drop_zero]
  rw [StableHlo.after_cons, StableHlo.after_nil, StableHlo.nary_result_ne]
  decide
theorem rd_H_v26 : StableHlo.after opsH σ (Proc.tc.devRef main_v26) = σ (Proc.tc.devRef main_v26) := by
  unfold opsH
  simp only [hostOps0_2, List.take_succ_cons, List.take_zero, List.drop_succ_cons, List.drop_zero]
  entry_read
  rfl
theorem rd_P_arg0 : StableHlo.after hostOps0 σ (Proc.tc.devRef main_arg0) = σ (Proc.tc.devRef main_arg0) := by
  simp only [hostOps0]
  entry_read
  rfl
theorem rd_Q_arg0 : StableHlo.after hostOps0_1 σ (Proc.tc.devRef main_arg0) = σ (Proc.tc.devRef main_arg0) := by
  simp only [hostOps0_1]
  entry_read
  rfl
theorem rd_P_arg1 : StableHlo.after hostOps0 σ (Proc.tc.devRef main_arg1) = σ (Proc.tc.devRef main_arg1) := by
  simp only [hostOps0]
  entry_read
  rfl
theorem rd_Q_arg1 : StableHlo.after hostOps0_1 σ (Proc.tc.devRef main_arg1) = σ (Proc.tc.devRef main_arg1) := by
  simp only [hostOps0_1]
  entry_read
  rfl
theorem rd_A_arg1 : StableHlo.after opsA σ (Proc.tc.devRef main_arg1) = σ (Proc.tc.devRef main_arg1) := by
  unfold opsA
  simp only [hostOps0_2, List.take_succ_cons, List.take_zero, List.drop_succ_cons, List.drop_zero]
  entry_read
  rfl
theorem rd_B_arg1 : StableHlo.after opsB σ (Proc.tc.devRef main_arg1) = σ (Proc.tc.devRef main_arg1) := by
  unfold opsB
  simp only [hostOps0_2, List.take_succ_cons, List.take_zero, List.drop_succ_cons, List.drop_zero]
  rw [StableHlo.after_cons, StableHlo.after_nil, StableHlo.nary_result_ne]
  decide
theorem rd_C_arg1 : StableHlo.after opsC σ (Proc.tc.devRef main_arg1) = σ (Proc.tc.devRef main_arg1) := by
  unfold opsC
  simp only [hostOps0_2, List.take_succ_cons, List.take_zero, List.drop_succ_cons, List.drop_zero]
  entry_read
  rfl
theorem rd_D_arg1 : StableHlo.after opsD σ (Proc.tc.devRef main_arg1) = σ (Proc.tc.devRef main_arg1) := by
  unfold opsD
  simp only [hostOps0_2, List.take_succ_cons, List.take_zero, List.drop_succ_cons, List.drop_zero]
  rw [StableHlo.after_cons, StableHlo.after_nil, StableHlo.nary_result_ne]
  decide
theorem rd_P_arg2 : StableHlo.after hostOps0 σ (Proc.tc.devRef main_arg2) = σ (Proc.tc.devRef main_arg2) := by
  simp only [hostOps0]
  entry_read
  rfl
theorem rd_Q_arg2 : StableHlo.after hostOps0_1 σ (Proc.tc.devRef main_arg2) = σ (Proc.tc.devRef main_arg2) := by
  simp only [hostOps0_1]
  entry_read
  rfl
theorem rd_A_arg2 : StableHlo.after opsA σ (Proc.tc.devRef main_arg2) = σ (Proc.tc.devRef main_arg2) := by
  unfold opsA
  simp only [hostOps0_2, List.take_succ_cons, List.take_zero, List.drop_succ_cons, List.drop_zero]
  entry_read
  rfl
theorem rd_B_arg2 : StableHlo.after opsB σ (Proc.tc.devRef main_arg2) = σ (Proc.tc.devRef main_arg2) := by
  unfold opsB
  simp only [hostOps0_2, List.take_succ_cons, List.take_zero, List.drop_succ_cons, List.drop_zero]
  rw [StableHlo.after_cons, StableHlo.after_nil, StableHlo.nary_result_ne]
  decide
theorem rd_C_arg2 : StableHlo.after opsC σ (Proc.tc.devRef main_arg2) = σ (Proc.tc.devRef main_arg2) := by
  unfold opsC
  simp only [hostOps0_2, List.take_succ_cons, List.take_zero, List.drop_succ_cons, List.drop_zero]
  entry_read
  rfl
theorem rd_D_arg2 : StableHlo.after opsD σ (Proc.tc.devRef main_arg2) = σ (Proc.tc.devRef main_arg2) := by
  unfold opsD
  simp only [hostOps0_2, List.take_succ_cons, List.take_zero, List.drop_succ_cons, List.drop_zero]
  rw [StableHlo.after_cons, StableHlo.after_nil, StableHlo.nary_result_ne]
  decide
theorem rd_E_arg2 : StableHlo.after opsE σ (Proc.tc.devRef main_arg2) = σ (Proc.tc.devRef main_arg2) := by
  unfold opsE
  simp only [hostOps0_2, List.take_succ_cons, List.take_zero, List.drop_succ_cons, List.drop_zero]
  entry_read
  rfl
theorem rd_G_arg2 : StableHlo.after opsG σ (Proc.tc.devRef main_arg2) = σ (Proc.tc.devRef main_arg2) := by
  unfold opsG
  simp only [hostOps0_2, List.take_succ_cons, List.take_zero, List.drop_succ_cons, List.drop_zero]
  rw [StableHlo.after_cons, StableHlo.after_nil, StableHlo.nary_result_ne]
  decide
theorem rd_P_arg3 : StableHlo.after hostOps0 σ (Proc.tc.devRef main_arg3) = σ (Proc.tc.devRef main_arg3) := by
  simp only [hostOps0]
  entry_read
  rfl
theorem rd_Q_v2 : StableHlo.after hostOps0_1 σ (Proc.tc.devRef main_v2) = σ (Proc.tc.devRef main_v2) := by
  simp only [hostOps0_1]
  entry_read
  rfl
theorem rd_Q_v1 : StableHlo.after hostOps0_1 σ (Proc.tc.devRef main_v1) = σ (Proc.tc.devRef main_v1) := by
  simp only [hostOps0_1]
  entry_read
  rfl
theorem rd_C_v21 : StableHlo.after opsC σ (Proc.tc.devRef main_v21) = σ (Proc.tc.devRef main_v21) := by
  unfold opsC
  simp only [hostOps0_2, List.take_succ_cons, List.take_zero, List.drop_succ_cons, List.drop_zero]
  entry_read
  rfl
theorem rd_D_v21 : StableHlo.after opsD σ (Proc.tc.devRef main_v21) = σ (Proc.tc.devRef main_v21) := by
  unfold opsD
  simp only [hostOps0_2, List.take_succ_cons, List.take_zero, List.drop_succ_cons, List.drop_zero]
  rw [StableHlo.after_cons, StableHlo.after_nil, StableHlo.nary_result_ne]
  decide
theorem rd_D_v22 : StableHlo.after opsD σ (Proc.tc.devRef main_v22) = σ (Proc.tc.devRef main_v22) := by
  unfold opsD
  simp only [hostOps0_2, List.take_succ_cons, List.take_zero, List.drop_succ_cons, List.drop_zero]
  rw [StableHlo.after_cons, StableHlo.after_nil, StableHlo.nary_result_ne]
  decide
theorem rd_E_v22 : StableHlo.after opsE σ (Proc.tc.devRef main_v22) = σ (Proc.tc.devRef main_v22) := by
  unfold opsE
  simp only [hostOps0_2, List.take_succ_cons, List.take_zero, List.drop_succ_cons, List.drop_zero]
  entry_read
  rfl

/-! ## The operands of the call -/
section
variable (m : (ℓ : Loc nD τ sig) → Buf (Elt Ideal) ℓ) (c : Dev nD)
/-- The queries, keys, values and log forget gates of device `c`. -/
def argQ : FVec Ideal S2x8192x8x64 .f32 := m (c, (Proc.tc.devRef main_arg0))
@[inherit_doc argQ] def argK : FVec Ideal S2x8192x8x64 .f32 := m (c, (Proc.tc.devRef main_arg1))
@[inherit_doc argQ] def argV : FVec Ideal S2x8192x8x64 .f32 := m (c, (Proc.tc.devRef main_arg2))
@[inherit_doc argQ] def argF : FVec Ideal S2x8192x8 .f32 := m (c, (Proc.tc.devRef main_arg3))
/-- The three roundings of the cumulative log forget gates, side by side. -/
def g3 (F : FVec Ideal S2x8192x8 .f32) (k1 : FVec Ideal S_ .f32) : FVec Ideal S2x8192x8x3 .bf16 :=
  cat3 (col (gHi F k1)) (col (gMid F k1)) (col (gLo F k1))
theorem V_eq (b : DevRef τ sig) : StableHlo.after (List.flatten [hostOps0, hostOps0_1, hostOps0_2]) (fun b => m (c, b)) b
    = StableHlo.after opsH (StableHlo.after opsG (StableHlo.after opsE (StableHlo.after opsD (StableHlo.after opsC (StableHlo.after opsB (StableHlo.after opsA (StableHlo.after hostOps0_1 (StableHlo.after hostOps0 (fun b => m (c, b)))))))))) b := by
  rw [ops_eq]
  simp only [StableHlo.after_append]
/-- The call's queries. -/
theorem Vv17 : (V m c main_v17 : FVec Ideal S2x512x8192 .bf16) = qT k2h (argQ m c) := by
  refine (V_eq m c (Proc.tc.devRef main_v17)).trans ?_
  rw [rd_H_v17, rd_G_v17, rd_E_v17, rd_D_v17, rd_C_v17, rd_B_v17, rd_A17, rd_Q_v2, rd_P2, rd_Q_arg0, rd_P_arg0]
  rfl
/-- The call's extra query rows. -/
theorem Vv26 : (V m c main_v26 : FVec Ideal S2x128x8192 .bf16) = eT (cat16 ones3 (g3 (cum (argF m c)) k1h) zeros10) := by
  refine (V_eq m c (Proc.tc.devRef main_v26)).trans ?_
  rw [rd_H_v26, rd_G_v26, rd_E26, rd_D24, rd_C22, rd_C_v21, rd_B21, rd_C23, rd_A18, rd_A19, rd_A20, rd_Q3, rd_P_arg3, rd_Q_v1, rd_P1]
  rfl
/-- The call's values. -/
theorem Vv33 : (V m c main_v33 : FVec Ideal S2x8x32x64x256 .bf16) = vT (argV m c) := by
  refine (V_eq m c (Proc.tc.devRef main_v33)).trans ?_
  rw [rd_H33, rd_G_arg2, rd_E_arg2, rd_D_arg2, rd_C_arg2, rd_B_arg2, rd_A_arg2, rd_Q_arg2, rd_P_arg2]
  rfl
/-- The call's keys. -/
theorem Vv34 : (V m c main_v34 : FVec Ideal S2x8192x1024 .bf16) = kT (cat128 (truncf (F := Ideal) .bf16 (argK m c) bitsLt_bf16_f32 : FVec Ideal S2x8192x8x64 .bf16) (Host.negf (F := Ideal) (g3 (cum (argF m c)) k1h) : FVec Ideal S2x8192x8x3 .bf16) ones3 zeros58) := by
  refine (V_eq m c (Proc.tc.devRef main_v34)).trans ?_
  rw [rd_H34, rd_G30, rd_E27, rd_D_arg1, rd_C_arg1, rd_B_arg1, rd_A_arg1, rd_Q_arg1, rd_P_arg1, rd_E28, rd_D_v21, rd_C_v21, rd_B21, rd_A18, rd_A19, rd_A20, rd_Q3, rd_P_arg3, rd_Q_v1, rd_P1, rd_E_v22, rd_D_v22, rd_C22, rd_E29]
  rfl
end
-- ==== Proof.HostAt.lean ====
module
public import proofs.«01_k».proof.Proof.Host
public import Idealize.ShloMosaic.Lib.Pointwise
@[expose] public section
/-! # The prepared arrays, entry by entry

The three roundings of a cumulative gate become the gate itself, what is left of it, and what is left of that. -/
set_option maxRecDepth 16384
noncomputable section
namespace Cert.Attn
open Cert.KernelIdeal Cert.KernelIdeal.Gen Idealize.ShloMosaic Idealize.ShloMosaic.TcCoe Idealize.ShloMosaic.Tactic
variable (F : FVec Ideal S2x8192x8 .f32) (k1 k2 : FVec Ideal S_ .f32) (q : FVec Ideal S2x8192x8x64 .f32)
theorem qT_at (b : Fin 2) (n : Fin 8) (d : Fin 64) (s : Fin 8192) :
    qT k2 q (ix3 b ⟨64 * n.val + d.val, by omega⟩ s) = q (ix4 b s n d) * k2 ix0 := by
  pointwise [qT]
theorem vT_at (b : Fin 2) (n : Fin 8) (j : Fin 32) (d : Fin 64) (r : Fin 256) :
    vT q (ix5 b n j d r) = q (ix4 b ⟨j * 256 + r, by omega⟩ n d) := by
  pointwise [vT]
theorem eT_at (x : FVec Ideal S2x8192x8x16 .bf16) (b : Fin 2) (n : Fin 8) (e : Fin 16) (s : Fin 8192) :
    eT x (ix3 b ⟨16 * n.val + e.val, by omega⟩ s) = x (ix4 b s n e) := by
  pointwise [eT]
theorem kT_at (x : FVec Ideal S2x8192x8x128 .bf16) (b : Fin 2) (n : Fin 8) (e : Fin 128) (s : Fin 8192) :
    kT x (ix3 b s ⟨128 * n.val + e.val, by omega⟩) = x (ix4 b s n e) := by
  pointwise [kT]
/-- A number, what is left of it after itself, and what is left then. -/
def three (g : EReal) (e : Nat) : EReal := if e = 0 then g else if e = 1 then g - g else (g - g) - (g - g)
theorem g3_at (b : Fin 2) (s : Fin 8192) (n : Fin 8) (e : Fin 3) :
    g3 F k1 (ix4 b s n e) = three (F (ix3 b s n) * k1 ix0) e.val := by
  unfold three
  match e with
  | 0 => pointwise [g3, cat3, col, gHi, gMid, gLo, gR, gv]
  | 1 => pointwise [g3, cat3, col, gHi, gMid, gLo, gR, gv]
  | 2 => pointwise [g3, cat3, col, gHi, gMid, gLo, gR, gv]
/-- An entry of the extra query columns: three ones, the three parts of the gate, zeros. -/
theorem ext_at (b : Fin 2) (s : Fin 8192) (n : Fin 8) (e : Fin 16) :
    cat16 ones3 (g3 F k1) zeros10 (ix4 b s n e) = if e.val < 3 then 1 else if e.val < 6 then three (F (ix3 b s n) * k1 ix0) (e.val - 3) else 0 := by
  have h : cat16 ones3 (g3 F k1) zeros10 (ix4 b s n e) = (if h : e.val < 3 then ones3 (ix4 b s n ⟨e.val, h⟩)
    else if h : e.val - 3 < 3 then g3 F k1 (ix4 b s n ⟨e.val - 3, h⟩) else zeros10 (ix4 b s n ⟨e.val - 3 - 3, by omega⟩)) := by
    generalize g3 F k1 = y
    generalize ones3 = x
    generalize zeros10 = z
    pointwise [cat16]
  have h1 : ∀ i, ones3 i = 1 := fun i => by pointwise [ones3]
  have h0 : ∀ i, zeros10 i = 0 := fun i => by pointwise [zeros10]
  rw [h]
  simp only [h1, h0, g3_at]
  split
  · rfl
  · refine if_congr (by omega) rfl rfl
/-- An entry of a key column: the key, the three parts of the gate negated, three ones, zeros. -/
theorem key_at (k : FVec Ideal S2x8192x8x64 .f32) (b : Fin 2) (s : Fin 8192) (n : Fin 8) (e : Fin 128) :
    cat128 (truncf (F := Ideal) .bf16 k bitsLt_bf16_f32 : FVec Ideal S2x8192x8x64 .bf16) (Host.negf (F := Ideal) (g3 F k1) : FVec Ideal S2x8192x8x3 .bf16) ones3 zeros58 (ix4 b s n e)
      = if h : e.val < 64 then k (ix4 b s n ⟨e.val, h⟩) else if e.val < 67 then - three (F (ix3 b s n) * k1 ix0) (e.val - 64) else if e.val < 70 then 1 else 0 := by
  have h : ∀ x : FVec Ideal S2x8192x8x64 .bf16, ∀ y : FVec Ideal S2x8192x8x3 .bf16, cat128 x y ones3 zeros58 (ix4 b s n e) = (if h : e.val < 64 then x (ix4 b s n ⟨e.val, h⟩)
    else if h : e.val - 64 < 3 then y (ix4 b s n ⟨e.val - 64, h⟩) else if h : e.val - 64 - 3 < 3 then ones3 (ix4 b s n ⟨e.val - 64 - 3, h⟩) else zeros58 (ix4 b s n ⟨e.val - 64 - 3 - 3, by omega⟩)) := by
    intro x y
    generalize ones3 = u
    generalize zeros58 = z
    pointwise [cat128]
  have h1 : ∀ i, ones3 i = 1 := fun i => by pointwise [ones3]
  have h0 : ∀ i, zeros58 i = 0 := fun i => by pointwise [zeros58]
  rw [h]
  have hn : ∀ e, (Host.negf (F := Ideal) (g3 F k1) : FVec Ideal S2x8192x8x3 .bf16) (ix4 b s n e) = - three (F (ix3 b s n) * k1 ix0) e.val := fun e => by
    rw [← g3_at]; rfl
  simp only [h1, h0, hn]
  split
  · rfl
  · refine if_congr (by omega) rfl (if_congr (by omega) rfl rfl)
theorem bits_two : Ideal.ofBits FTy.f32 1073741824#32 = ((2 : ℝ) : EReal) := by
  simp [Ideal.ofBits, Ideal.ieee, -EReal.coe_mul]; norm_num
theorem bits_eighth : Ideal.ofBits FTy.f32 1040187392#32 = ((1 / 8 : ℝ) : EReal) := by
  simp [Ideal.ofBits, Ideal.ieee, -EReal.coe_mul]; norm_num
theorem log_two : Ideal.log (Ideal.ofBits FTy.f32 1073741824#32) = ((Real.log 2 : ℝ) : EReal) := by
  rw [bits_two]
  exact if_neg (by norm_num)
/-- The first factor is the inverse of the logarithm of two. -/
theorem k1h_at : k1h ix0 = (((Real.log 2)⁻¹ : ℝ) : EReal) := by
  have h : k1h ix0 = Ideal.div 1 (Ideal.log (Ideal.ofBits FTy.f32 1073741824#32)) := by pointwise [k1h]
  rw [h, log_two, Ideal.div, if_neg (by exact fun h => (Real.log_pos one_lt_two).ne' (EReal.coe_eq_zero.mp h)), one_mul, EReal.coe_inv]
/-- The second is an eighth of it. -/
theorem k2h_at : k2h ix0 = ((1 / 8 * (Real.log 2)⁻¹ : ℝ) : EReal) := by
  have h : k2h ix0 = Ideal.ofBits FTy.f32 1040187392#32 * k1h ix0 := by pointwise [k2h]
  rw [h, k1h_at, EReal.coe_mul]
  congr 1
  exact bits_eighth
end Cert.Attn
-- ==== Proof.Finite.lean ====
module
public import proofs.«01_k».proof.Proof.HostAt
public import proofs.«01_k».proof.Defs
public import proofs.«01_k».proof.Proof.Gen.Pre_finite
@[expose] public section
/-! # What the precondition gives

Queries, keys and log forget gates are real numbers, and so are the cumulative sums of the gates. -/
set_option maxRecDepth 16384
noncomputable section
namespace Cert.Attn
open Cert.KernelIdeal Cert.KernelIdeal.Gen Idealize.ShloMosaic Idealize.ShloMosaic.TcCoe Idealize.ShloMosaic.Tactic

/-- A real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem foldl_real {β : Type} (l : List β) (f : EReal → β → EReal) (x : EReal) (hx : IsReal x) (hf : ∀ r n, IsReal r → IsReal (f r n)) : IsReal (l.foldl f x) := by
  induction l generalizing x with
  | nil => exact hx
  | cons a l ih => exact ih _ (hf _ _ hx)

/-- A cumulative sum of reals is real. -/
theorem cum_real (f : FVec Ideal S2x8192x8 .f32) (hf : ∀ i, IsReal (f i)) (i : S2x8192x8.Idx) : IsReal (cum f i) := by
  unfold cum Host.reduceWindowAdd
  rw [Ideal.hostReduceWindowAdd_def]
  have h0 : ∀ i, IsReal ((broadcastInDim S_ ![] bcast_S_S_ (constant (F := Ideal) S_ .f32 0#32) : FVec Ideal S_ .f32) i) := fun i => ⟨0, by
    show Ideal.ofBits .f32 0#32 = _
    rw [Ideal.ofBits_zero_f32, EReal.coe_zero]⟩
  unfold Ideal.hostReduceWindowAdd Host.reduceWindow
  refine foldl_real _ _ _ (h0 _) fun r n hr => ?_
  refine hr.add ?_
  split
  · exact hf _
  · exact h0 _

theorem bits_inf : Ideal.ofBits FTy.f32 2139095040#32 = ⊤ := by
  simp [Ideal.ofBits, Ideal.ieee]
/-- A number whose magnitude is less than infinity is real. -/
theorem real_of_abs (x : EReal) (h : Ideal.cmp .olt (max x (-x)) (Ideal.ofBits .f32 2139095040#32) = 1#1) : IsReal x := by
  rw [bits_inf] at h
  induction x using EReal.rec with
  | bot => exact absurd h (by simp [Ideal.cmp])
  | top => exact absurd h (by simp [Ideal.cmp])
  | coe x => exact ⟨x, rfl⟩
/-- The precondition, entry by entry. -/
theorem pre (m : (ℓ : Loc nD τ sig) → Buf (Elt Ideal) ℓ) (h : Pre_KernelIdeal_finite m) (c : Dev nD) :
    (∀ i, IsReal (argQ m c i)) ∧ (∀ i, IsReal (argK m c i)) ∧ (∀ i, IsReal (argF m c i)) := by
  obtain ⟨h0, h1, h2⟩ := h c
  exact ⟨fun i => real_of_abs _ (congrFun h0 i), fun i => real_of_abs _ (congrFun h1 i), fun i => real_of_abs _ (congrFun h2 i)⟩
end Cert.Attn
-- ==== Proof.Blocks.lean ====
module
public import proofs.«01_k».proof.Proof.Query
public import Idealize.ShloMosaic.Lib.Pipeline.ValueKit
@[expose] public section
/-! # Where the blocks lie

The entry of the array that an entry of a block is, for each of the five windows at each grid point. -/
set_option maxRecDepth 16384
noncomputable section
namespace Cert.Attn
open Cert.KernelIdeal Cert.KernelIdeal.Gen Idealize.ShloMosaic Idealize.ShloMosaic.TcCoe Idealize.ShloMosaic.Tactic
/-- The block indices of the inputs at a grid point. -/
theorem index_in : ∀ t : Fin cfg0.N, win0_0.index t = ![(grid0.coords t 0).val, (grid0.coords t 1).val, (grid0.coords t 2).val]
    ∧ win0_1.index t = ![(grid0.coords t 0).val, (grid0.coords t 1).val, (grid0.coords t 2).val]
    ∧ win0_2.index t = ![(grid0.coords t 0).val, 0, (grid0.coords t 1).val]
    ∧ win0_3.index t = ![(grid0.coords t 0).val, (grid0.coords t 1).val, 0, 0, 0]
    ∧ win0_4.index t = ![(grid0.coords t 0).val, (grid0.coords t 1).val, (grid0.coords t 2).val] :=
  (by decide +kernel : ∀ t : Fin grid0.N, _)
/-- Where an entry of the block of queries lies. -/
theorem emb0 (t : Fin cfg0.N) (a : Fin 256) (y : Fin 256) (j : S2x512x8192.Idx) (h0 : (j 0).val = (grid0.coords t 0).val * 1 + 0) (h1 : (j 1).val = (grid0.coords t 1).val * 256 + a.val) (h2 : (j 2).val = (grid0.coords t 2).val * 256 + y.val) :
    (win0_0.rect t).emb (ix3 0 a y) = j := by
  funext b
  refine Fin.ext ?_
  refine (win0_0.rect_emb_val t (ix3 0 a y) b rfl).trans ?_
  rw [(index_in t).1]
  match b with
  | 0 => exact h0.symm
  | 1 => exact h1.symm
  | 2 => exact h2.symm
theorem read0 (A : (Pipeline.arrRef spec0 0).ty.Contents (Elt Ideal)) (t : Fin cfg0.N) (x : ((cfg0.win 0).xblock (cfg0.grid.coords t)).Idx) (j : S2x512x8192.Idx) (e : (win0_0.rect t).emb x = j) :
    View.read (Elt Ideal) ((cfg0.win 0).blk t).view A x = A j := e ▸ rfl
/-- An entry of the block of queries is one of the array. -/
theorem blk0 (A : Vec Ideal S2x512x8192 .bf16) (t : Fin cfg0.N) (a : Fin 256) (y : Fin 256) (j : S2x512x8192.Idx) (h0 : (j 0).val = (grid0.coords t 0).val * 1 + 0) (h1 : (j 1).val = (grid0.coords t 1).val * 256 + a.val) (h2 : (j 2).val = (grid0.coords t 2).val * 256 + y.val) :
    (View.read (Elt Ideal) ((cfg0.win 0).blk t).view A : Vec Ideal S1x256x256 .bf16) (ix3 0 a y) = A j :=
  read0 A t (ix3 0 a y) j (emb0 t a y j h0 h1 h2)
/-- Where an entry of the block of extra query rows lies. -/
theorem emb1 (t : Fin cfg0.N) (a : Fin 64) (y : Fin 256) (j : S2x128x8192.Idx) (h0 : (j 0).val = (grid0.coords t 0).val * 1 + 0) (h1 : (j 1).val = (grid0.coords t 1).val * 64 + a.val) (h2 : (j 2).val = (grid0.coords t 2).val * 256 + y.val) :
    (win0_1.rect t).emb (ix3 0 a y) = j := by
  funext b
  refine Fin.ext ?_
  refine (win0_1.rect_emb_val t (ix3 0 a y) b rfl).trans ?_
  rw [(index_in t).2.1]
  match b with
  | 0 => exact h0.symm
  | 1 => exact h1.symm
  | 2 => exact h2.symm
theorem read1 (A : (Pipeline.arrRef spec0 1).ty.Contents (Elt Ideal)) (t : Fin cfg0.N) (x : ((cfg0.win 1).xblock (cfg0.grid.coords t)).Idx) (j : S2x128x8192.Idx) (e : (win0_1.rect t).emb x = j) :
    View.read (Elt Ideal) ((cfg0.win 1).blk t).view A x = A j := e ▸ rfl
/-- An entry of the block of extra query rows is one of the array. -/
theorem blk1 (A : Vec Ideal S2x128x8192 .bf16) (t : Fin cfg0.N) (a : Fin 64) (y : Fin 256) (j : S2x128x8192.Idx) (h0 : (j 0).val = (grid0.coords t 0).val * 1 + 0) (h1 : (j 1).val = (grid0.coords t 1).val * 64 + a.val) (h2 : (j 2).val = (grid0.coords t 2).val * 256 + y.val) :
    (View.read (Elt Ideal) ((cfg0.win 1).blk t).view A : Vec Ideal S1x64x256 .bf16) (ix3 0 a y) = A j :=
  read1 A t (ix3 0 a y) j (emb1 t a y j h0 h1 h2)
/-- Where an entry of the block of keys lies. -/
theorem emb2 (t : Fin cfg0.N) (s : Fin 8192) (a : Fin 512) (j : S2x8192x1024.Idx) (h0 : (j 0).val = (grid0.coords t 0).val * 1 + 0) (h1 : (j 1).val = 0 * 8192 + s.val) (h2 : (j 2).val = (grid0.coords t 1).val * 512 + a.val) :
    (win0_2.rect t).emb (ix3 0 s a) = j := by
  funext b
  refine Fin.ext ?_
  refine (win0_2.rect_emb_val t (ix3 0 s a) b rfl).trans ?_
  rw [(index_in t).2.2.1]
  match b with
  | 0 => exact h0.symm
  | 1 => exact h1.symm
  | 2 => exact h2.symm
theorem read2 (A : (Pipeline.arrRef spec0 2).ty.Contents (Elt Ideal)) (t : Fin cfg0.N) (x : ((cfg0.win 2).xblock (cfg0.grid.coords t)).Idx) (j : S2x8192x1024.Idx) (e : (win0_2.rect t).emb x = j) :
    View.read (Elt Ideal) ((cfg0.win 2).blk t).view A x = A j := e ▸ rfl
/-- An entry of the block of keys is one of the array. -/
theorem blk2 (A : Vec Ideal S2x8192x1024 .bf16) (t : Fin cfg0.N) (s : Fin 8192) (a : Fin 512) (j : S2x8192x1024.Idx) (h0 : (j 0).val = (grid0.coords t 0).val * 1 + 0) (h1 : (j 1).val = 0 * 8192 + s.val) (h2 : (j 2).val = (grid0.coords t 1).val * 512 + a.val) :
    (View.read (Elt Ideal) ((cfg0.win 2).blk t).view A : Vec Ideal S1x8192x512 .bf16) (ix3 0 s a) = A j :=
  read2 A t (ix3 0 s a) j (emb2 t s a j h0 h1 h2)
/-- Where an entry of the block of values lies. -/
theorem emb3 (t : Fin cfg0.N) (h : Fin 4) (i : Fin 32) (d : Fin 64) (r : Fin 256) (j : S2x8x32x64x256.Idx) (h0 : (j 0).val = (grid0.coords t 0).val * 1 + 0) (h1 : (j 1).val = (grid0.coords t 1).val * 4 + h.val) (h2 : (j 2).val = 0 * 32 + i.val) (h3 : (j 3).val = 0 * 64 + d.val) (h4 : (j 4).val = 0 * 256 + r.val) :
    (win0_3.rect t).emb (ix5 0 h i d r) = j := by
  funext b
  refine Fin.ext ?_
  refine (win0_3.rect_emb_val t (ix5 0 h i d r) b rfl).trans ?_
  rw [(index_in t).2.2.2.1]
  match b with
  | 0 => exact h0.symm
  | 1 => exact h1.symm
  | 2 => exact h2.symm
  | 3 => exact h3.symm
  | 4 => exact h4.symm
theorem read3 (A : (Pipeline.arrRef spec0 3).ty.Contents (Elt Ideal)) (t : Fin cfg0.N) (x : ((cfg0.win 3).xblock (cfg0.grid.coords t)).Idx) (j : S2x8x32x64x256.Idx) (e : (win0_3.rect t).emb x = j) :
    View.read (Elt Ideal) ((cfg0.win 3).blk t).view A x = A j := e ▸ rfl
/-- An entry of the block of values is one of the array. -/
theorem blk3 (A : Vec Ideal S2x8x32x64x256 .bf16) (t : Fin cfg0.N) (h : Fin 4) (i : Fin 32) (d : Fin 64) (r : Fin 256) (j : S2x8x32x64x256.Idx) (h0 : (j 0).val = (grid0.coords t 0).val * 1 + 0) (h1 : (j 1).val = (grid0.coords t 1).val * 4 + h.val) (h2 : (j 2).val = 0 * 32 + i.val) (h3 : (j 3).val = 0 * 64 + d.val) (h4 : (j 4).val = 0 * 256 + r.val) :
    (View.read (Elt Ideal) ((cfg0.win 3).blk t).view A : Vec Ideal S1x4x32x64x256 .bf16) (ix5 0 h i d r) = A j :=
  read3 A t (ix5 0 h i d r) j (emb3 t h i d r j h0 h1 h2 h3 h4)
/-- Where an entry of the block of results lies. -/
theorem emb4 (t : Fin cfg0.N) (a : Fin 256) (y : Fin 256) (j : S2x512x8192.Idx) (h0 : (j 0).val = (grid0.coords t 0).val * 1 + 0) (h1 : (j 1).val = (grid0.coords t 1).val * 256 + a.val) (h2 : (j 2).val = (grid0.coords t 2).val * 256 + y.val) :
    (win0_4.rect t).emb (ix3 0 a y) = j := by
  funext b
  refine Fin.ext ?_
  refine (win0_4.rect_emb_val t (ix3 0 a y) b rfl).trans ?_
  rw [(index_in t).2.2.2.2]
  match b with
  | 0 => exact h0.symm
  | 1 => exact h1.symm
  | 2 => exact h2.symm
end Cert.Attn
-- ==== Proof.Score.lean ====
module
public import proofs.«01_k».proof.Proof.Finite
public import proofs.«01_k».proof.Proof.Blocks
@[expose] public section
/-! # A product of 128 terms

One key column by one query column over the reals. -/
set_option maxRecDepth 16384
noncomputable section
namespace Cert.Attn
open Cert.KernelIdeal Cert.KernelIdeal.Gen Idealize.ShloMosaic Idealize.ShloMosaic.TcCoe Idealize.ShloMosaic.Tactic

theorem three_zero (g : ℝ) : three (g : EReal) 0 = (g : EReal) := if_pos rfl
theorem three_one (g : ℝ) : three (g : EReal) 1 = ((0 : ℝ) : EReal) := by
  unfold three
  rw [if_neg (by decide), if_pos rfl, ← EReal.coe_sub, sub_self]
theorem three_two (g : ℝ) : three (g : EReal) 2 = ((0 : ℝ) : EReal) := by
  unfold three
  rw [if_neg (by decide), if_neg (by decide), ← EReal.coe_sub, sub_self, ← EReal.coe_sub, sub_self]

/-- A key column by a query row: the product of the features, less the key's cumulative gate, plus the query's. -/
theorem dot (k q : Fin 64 → ℝ) (gk gq : ℝ) (K Q : Fin 128 → EReal)
    (hK : ∀ e : Fin 128, K e = if h : e.val < 64 then (k ⟨e.val, h⟩ : EReal) else if e.val < 67 then - three (gk : EReal) (e.val - 64) else if e.val < 70 then 1 else 0)
    (hQ : ∀ e : Fin 128, Q e = if h : e.val < 64 then (q ⟨e.val, h⟩ : EReal) else if e.val < 80 then (if e.val - 64 < 3 then 1 else if e.val - 64 < 6 then three (gq : EReal) (e.val - 64 - 3) else 0) else 0) :
    ∑ e, K e * Q e = ((∑ d, k d * q d - gk + gq : ℝ) : EReal) := by
  rw [Fin.sum_univ_add (a := 64) (b := 64) (fun e => K e * Q e)]
  have h1 : ∑ i : Fin 64, K (Fin.castAdd 64 i) * Q (Fin.castAdd 64 i) = ((∑ d, k d * q d : ℝ) : EReal) := by
    rw [← coe_sum']
    refine Finset.sum_congr rfl fun d _ => ?_
    rw [hK, hQ, dif_pos (show (Fin.castAdd 64 d).val < 64 from d.isLt), dif_pos (show (Fin.castAdd 64 d).val < 64 from d.isLt), EReal.coe_mul]
    rfl
  have h2 : ∑ i : Fin 64, K (Fin.natAdd 64 i) * Q (Fin.natAdd 64 i) = ((- gk + gq : ℝ) : EReal) := by
    rw [Fin.sum_univ_add (a := 6) (b := 58) (fun i : Fin 64 => K (Fin.natAdd 64 i) * Q (Fin.natAdd 64 i))]
    have z : ∑ i : Fin 58, K (Fin.natAdd 64 (Fin.natAdd 6 i)) * Q (Fin.natAdd 64 (Fin.natAdd 6 i)) = 0 := by
      refine Finset.sum_eq_zero fun i _ => ?_
      have e : (Fin.natAdd 64 (Fin.natAdd 6 i) : Fin 128).val = 64 + (6 + i.val) := rfl
      rw [hK, dif_neg (by omega), if_neg (by omega), if_neg (by omega), zero_mul]
    have k0 : K (Fin.natAdd 64 (Fin.castAdd 58 (0 : Fin 6))) = ((-gk : ℝ) : EReal) := by
      rw [hK]; refine (dif_neg (by decide)).trans ((if_pos (by decide)).trans ?_); exact (congrArg Neg.neg (three_zero gk)).trans (EReal.coe_neg gk).symm
    have k1 : K (Fin.natAdd 64 (Fin.castAdd 58 (1 : Fin 6))) = ((0 : ℝ) : EReal) := by
      rw [hK]; refine (dif_neg (by decide)).trans ((if_pos (by decide)).trans ?_); refine (congrArg Neg.neg (three_one gk)).trans ?_; rw [← EReal.coe_neg, neg_zero]
    have k2 : K (Fin.natAdd 64 (Fin.castAdd 58 (2 : Fin 6))) = ((0 : ℝ) : EReal) := by
      rw [hK]; refine (dif_neg (by decide)).trans ((if_pos (by decide)).trans ?_); refine (congrArg Neg.neg (three_two gk)).trans ?_; rw [← EReal.coe_neg, neg_zero]
    have k3 : ∀ i : Fin 6, 3 ≤ i.val → K (Fin.natAdd 64 (Fin.castAdd 58 i)) = ((1 : ℝ) : EReal) := fun i hi => by
      have e : (Fin.natAdd 64 (Fin.castAdd 58 i) : Fin 128).val = 64 + i.val := rfl
      rw [hK]; exact (dif_neg (by omega)).trans ((if_neg (by omega)).trans (if_pos (by omega)))
    have q0 : ∀ i : Fin 6, i.val < 3 → Q (Fin.natAdd 64 (Fin.castAdd 58 i)) = ((1 : ℝ) : EReal) := fun i hi => by
      have e : (Fin.natAdd 64 (Fin.castAdd 58 i) : Fin 128).val = 64 + i.val := rfl
      rw [hQ]; exact (dif_neg (by omega)).trans ((if_pos (by omega)).trans (if_pos (by omega)))
    have q3 : ∀ i : Fin 6, 3 ≤ i.val → Q (Fin.natAdd 64 (Fin.castAdd 58 i)) = three (gq : EReal) (i.val - 3) := fun i hi => by
      have e : (Fin.natAdd 64 (Fin.castAdd 58 i) : Fin 128).val = 64 + i.val := rfl
      rw [hQ]; refine (dif_neg (by omega)).trans ((if_pos (by omega)).trans ((if_neg (by omega)).trans ((if_pos (by omega)).trans ?_)))
      congr 1; omega
    rw [z, add_zero, Fin.sum_univ_six, k0, k1, k2, k3 3 (by decide), k3 4 (by decide), k3 5 (by decide), q0 0 (by decide), q0 1 (by decide), q0 2 (by decide),
      q3 3 (by decide), q3 4 (by decide), q3 5 (by decide)]
    have t0 : three (gq : EReal) ((3 : Fin 6).val - 3) = ((gq : ℝ) : EReal) := three_zero gq
    have t1 : three (gq : EReal) ((4 : Fin 6).val - 3) = ((0 : ℝ) : EReal) := three_one gq
    have t2 : three (gq : EReal) ((5 : Fin 6).val - 3) = ((0 : ℝ) : EReal) := three_two gq
    rw [t0, t1, t2]
    simp only [← EReal.coe_mul, ← EReal.coe_add]
    congr 1
    ring
  rw [h1, h2, ← EReal.coe_add]
  congr 1
  ring
end Cert.Attn
-- ==== Proof.Raw.lean ====
module
public import proofs.«01_k».proof.Proof.Score
@[expose] public section
/-! # The scores at a grid point

A key column of the block times a query column is the reference's score over the logarithm of two. -/
set_option maxRecDepth 16384
noncomputable section
namespace Cert.Attn
open Cert.KernelIdeal Cert.KernelIdeal.Gen Idealize.ShloMosaic Idealize.ShloMosaic.TcCoe Idealize.ShloMosaic.Tactic
variable (m : (ℓ : Loc nD τ sig) → Buf (Elt Ideal) ℓ) (c : Dev nD) (t : Fin cfg0.N)

/-- The batch entry of a grid point. -/
abbrev bt : Fin 2 := grid0.coords t 0
/-- The group of heads of a grid point. -/
abbrev gt : Fin 2 := grid0.coords t 1
/-- Head `o` of the group. -/
def hd (o : Fin 4) : Fin 8 := ⟨4 * (gt t).val + o.val, by have := (gt t).isLt; omega⟩

/-- The four blocks a grid point reads. -/
abbrev X0 : Vec Ideal S1x256x256 .bf16 := iblk m c 0 t
@[inherit_doc X0] abbrev X1 : Vec Ideal S1x64x256 .bf16 := iblk m c 1 t
@[inherit_doc X0] abbrev X2 : Vec Ideal S1x8192x512 .bf16 := iblk m c 2 t
@[inherit_doc X0] abbrev X3 : Vec Ideal S1x4x32x64x256 .bf16 := iblk m c 3 t

/-- The reference's score of query `s` and key `k`, before the mask. -/
def sc0 (q k : FVec Ideal S2x8192x8x64 .f32) (F : FVec Ideal S2x8192x8 .f32) (b : Fin 2) (n : Fin 8) (s u : Fin 8192) : EReal :=
  (∑ d : Fin 64, q (ix4 b s n d) * k (ix4 b u n d)) * ((1 / 8 : ℝ) : EReal) + (F (ix3 b s n) - F (ix3 b u n))

/-- An entry of the block of queries, from the argument. -/
theorem x0_at (o : Fin 4) (d : Fin 64) (y : Fin 256) : X0 m c t (ix3 0 ⟨64 * o.val + d.val, by omega⟩ y)
    = argQ m c (ix4 (bt t) (enc (qi (grid0.coords t)) y) (hd t o) d) * ((1 / 8 * (Real.log 2)⁻¹ : ℝ) : EReal) := by
  refine (blk0 (V m c main_v17) t ⟨64 * o.val + d.val, by omega⟩ y (ix3 (bt t) ⟨64 * (hd t o).val + d.val, by have := (hd t o).isLt; omega⟩ (enc (qi (grid0.coords t)) y)) ?_ ?_ ?_).trans ?_
  · show (bt t).val = (bt t).val * 1 + 0; omega
  · show 64 * (4 * (gt t).val + o.val) + d.val = (gt t).val * 256 + (64 * o.val + d.val); omega
  · show 256 * (qi (grid0.coords t)).val + y.val = (qi (grid0.coords t)).val * 256 + y.val; omega
  · refine (congrFun (Vv17 m c) _).trans ?_
    rw [qT_at, k2h_at]

/-- An entry of the extra query rows, from the argument. -/
theorem x1_at (o : Fin 4) (e : Fin 16) (y : Fin 256) : X1 m c t (ix3 0 ⟨16 * o.val + e.val, by omega⟩ y)
    = if e.val < 3 then 1 else if e.val < 6 then three (cum (argF m c) (ix3 (bt t) (enc (qi (grid0.coords t)) y) (hd t o)) * (((Real.log 2)⁻¹ : ℝ) : EReal)) (e.val - 3) else 0 := by
  refine (blk1 (V m c main_v26) t ⟨16 * o.val + e.val, by omega⟩ y (ix3 (bt t) ⟨16 * (hd t o).val + e.val, by have := (hd t o).isLt; omega⟩ (enc (qi (grid0.coords t)) y)) ?_ ?_ ?_).trans ?_
  · show (bt t).val = (bt t).val * 1 + 0; omega
  · show 16 * (4 * (gt t).val + o.val) + e.val = (gt t).val * 64 + (16 * o.val + e.val); omega
  · show 256 * (qi (grid0.coords t)).val + y.val = (qi (grid0.coords t)).val * 256 + y.val; omega
  · refine (congrFun (Vv26 m c) _).trans ?_
    rw [eT_at, ext_at, k1h_at]

/-- An entry of the keys, from the arguments. -/
theorem x2_at (o : Fin 4) (e : Fin 128) (u : Fin 8192) : X2 m c t (ix3 0 u ⟨128 * o.val + e.val, by omega⟩)
    = if h : e.val < 64 then argK m c (ix4 (bt t) u (hd t o) ⟨e.val, h⟩) else if e.val < 67 then - three (cum (argF m c) (ix3 (bt t) u (hd t o)) * (((Real.log 2)⁻¹ : ℝ) : EReal)) (e.val - 64) else if e.val < 70 then 1 else 0 := by
  refine (blk2 (V m c main_v34) t u ⟨128 * o.val + e.val, by omega⟩ (ix3 (bt t) u ⟨128 * (hd t o).val + e.val, by have := (hd t o).isLt; omega⟩) ?_ ?_ ?_).trans ?_
  · show (bt t).val = (bt t).val * 1 + 0; omega
  · show u.val = 0 * 8192 + u.val; omega
  · show 128 * (4 * (gt t).val + o.val) + e.val = (gt t).val * 512 + (128 * o.val + e.val); omega
  · refine (congrFun (Vv34 m c) _).trans ?_
    rw [kT_at, key_at, k1h_at]

/-- An entry of the values, from the argument. -/
theorem x3_at (o : Fin 4) (d : Fin 64) (j : Fin 32) (r : Fin 256) : vals o (X3 m c t) d j r = argV m c (ix4 (bt t) (enc j r) (hd t o) d) := by
  refine (blk3 (V m c main_v33) t o j d r (ix5 (bt t) (hd t o) j d r) ?_ ?_ ?_ ?_ ?_).trans ?_
  · show (bt t).val = (bt t).val * 1 + 0; omega
  · show 4 * (gt t).val + o.val = (gt t).val * 4 + o.val; omega
  · show j.val = 0 * 32 + j.val; omega
  · show d.val = 0 * 64 + d.val; omega
  · show r.val = 0 * 256 + r.val; omega
  · refine (congrFun (Vv33 m c) _).trans ?_
    rw [vT_at]
    congr 2
    exact Fin.ext (Nat.add_right_cancel_iff.mpr (Nat.mul_comm _ _))

/-- The kernel's scores are the reference's, scaled. -/
theorem raw_eq (hq : ∀ i, IsReal (argQ m c i)) (hk : ∀ i, IsReal (argK m c i)) (hF : ∀ i, IsReal (cum (argF m c) i)) (o : Fin 4) (y : Fin 256) (j : Fin 32) (r : Fin 256) :
    IsReal (sc0 (argQ m c) (argK m c) (cum (argF m c)) (bt t) (hd t o) (enc (qi (grid0.coords t)) y) (enc j r))
    ∧ raw o (Qh o t c (X0 m c t) (X1 m c t)) (X2 m c t) y j r
      = cst * sc0 (argQ m c) (argK m c) (cum (argF m c)) (bt t) (hd t o) (enc (qi (grid0.coords t)) y) (enc j r) := by
  choose q hq using fun d => hq (ix4 (bt t) (enc (qi (grid0.coords t)) y) (hd t o) d)
  choose k hk using fun d => hk (ix4 (bt t) (enc j r) (hd t o) d)
  obtain ⟨fq, hfq⟩ := hF (ix3 (bt t) (enc (qi (grid0.coords t)) y) (hd t o))
  obtain ⟨fk, hfk⟩ := hF (ix3 (bt t) (enc j r) (hd t o))
  have hs : sc0 (argQ m c) (argK m c) (cum (argF m c)) (bt t) (hd t o) (enc (qi (grid0.coords t)) y) (enc j r)
      = (((∑ d, q d * k d) * (1 / 8) + (fq - fk) : ℝ) : EReal) := by
    unfold sc0
    rw [hfq, hfk]
    simp only [hq, hk, ← EReal.coe_mul]
    rw [coe_sum', ← EReal.coe_mul, ← EReal.coe_sub, ← EReal.coe_add]
  refine ⟨⟨_, hs⟩, ?_⟩
  unfold raw
  rw [hs, cst, ← EReal.coe_mul]
  refine (dot k (fun d => q d * (1 / 8 * (Real.log 2)⁻¹)) (fk * (Real.log 2)⁻¹) (fq * (Real.log 2)⁻¹) _ _ (fun e => ?_) (fun e => ?_)).trans ?_
  · rw [EReal.coe_mul, ← hfk]
    exact (x2_at m c t o e (enc j r)).trans (dite_congr rfl (fun h => hk ⟨e.val, h⟩) fun h => rfl)
  · rw [Qh_apply]
    unfold qrow
    refine dite_congr rfl (fun h => ?_) (fun h => dite_congr rfl (fun h' => ?_) fun h' => rfl)
    · refine (x0_at m c t o ⟨e.val, h⟩ y).trans ?_
      rw [hq, ← EReal.coe_mul]
    · refine (x1_at m c t o ⟨e.val - 64, by omega⟩ y).trans ?_
      rw [hfq, ← EReal.coe_mul]
  · refine EReal.coe_eq_coe_iff.mpr ?_
    have : ∑ d, k d * (q d * (1 / 8 * (Real.log 2)⁻¹)) = (1 / 8 * (Real.log 2)⁻¹) * ∑ d, q d * k d := by
      rw [Finset.mul_sum]
      exact Finset.sum_congr rfl fun d _ => by ring
    rw [this]
    ring
end Cert.Attn
-- ==== Proof.Ref.lean ====
module
public import proofs.«01_k».proof.Proof.Softmax
public import proofs.«01_k».proof.Proof.Gen.ReferenceIdeal
public import proofs.«01_k».proof.Proof.Gen.ReferenceIdeal.Run
public import proofs.«01_k».proof.Proof.Gen.ReferenceIdeal.Read
public import Idealize.ShloMosaic.Lib.Pointwise
@[expose] public section
/-! # What the reference computes

One entry of it, as a quotient of sums over the keys. -/
set_option maxRecDepth 16384
noncomputable section
namespace Cert.Attn
open Cert.ReferenceIdeal Cert.ReferenceIdeal.Gen Cert.ReferenceIdeal.Read Idealize.ShloMosaic Idealize.ShloMosaic.TcCoe Idealize.ShloMosaic.Tactic
namespace Ref
variable (q k v : FVec Ideal S2x8192x8x64 .f32) (f : FVec Ideal S2x8192x8 .f32) (b : Fin 2) (n : Fin 8) (s u : Fin 8192)

theorem bits_neg_inf : Ideal.ofBits FTy.f32 4286578688#32 = ⊥ := by
  simp [Ideal.ofBits, Ideal.ieee]
theorem bits_eighth' : Ideal.ofBits FTy.f32 1040187392#32 = ((1 / 8 : ℝ) : EReal) := by
  simp [Ideal.ofBits, Ideal.ieee, -EReal.coe_mul]; norm_num

/-- The difference of the cumulative gates. -/
theorem gate_at : val_main_v9 (F := Ideal) f (ix4 b n s u) = val_main_v0 (F := Ideal) f (ix3 b s n) - val_main_v0 (F := Ideal) f (ix3 b u n) := by
  unfold val_main_v9 val_main_v8 val_main_v7 val_main_v6 val_main_v5 val_main_v1
  generalize val_main_v0 (F := Ideal) f = G
  pointwise

theorem mask_at : val_main_call1_v1 (F := Ideal) (ix4 b n s u) = IntOp.cmpi CmpIPredicate.sle (BitVec.ofNat 32 u.val) (BitVec.ofNat 32 s.val) := by
  unfold val_main_call1_v1 val_main_v17 val_main_v16 val_main_v15 val_main_v14 val_main_v13 val_main_v12 val_main_v11
  pointwise

/-- The product of a query and a key. -/
theorem prod_at : val_main_v2 (F := Ideal) q k (ix4 b n s u) = ∑ d : Fin 64, q (ix4 b s n d) * k (ix4 b u n d) := by
  unfold val_main_v2
  pointwise

/-- Whether key `u` is not after query `s`. -/
theorem le_word : IntOp.cmpi CmpIPredicate.sle (BitVec.ofNat 32 u.val) (BitVec.ofNat 32 s.val) = if u ≤ s then 1#1 else 0#1 := by
  have hu : (BitVec.ofNat 32 u.val).toInt = u.val := by
    have := u.isLt
    rw [BitVec.toInt_eq_toNat_of_lt (by rw [BitVec.toNat_ofNat]; omega), BitVec.toNat_ofNat]
    omega
  have hs : (BitVec.ofNat 32 s.val).toInt = s.val := by
    have := s.isLt
    rw [BitVec.toInt_eq_toNat_of_lt (by rw [BitVec.toNat_ofNat]; omega), BitVec.toNat_ofNat]
    omega
  simp only [IntOp.cmpi, BitVec.sle, hu, hs]
  by_cases h : u ≤ s
  · rw [if_pos h, decide_eq_true (by exact_mod_cast h)]; rfl
  · rw [if_neg h, decide_eq_false (by intro h'; exact h (by exact_mod_cast h'))]; rfl

/-- The reference's masked score. -/
def sc : EReal := if u ≤ s then (∑ d : Fin 64, q (ix4 b s n d) * k (ix4 b u n d)) * ((1 / 8 : ℝ) : EReal)
  + (val_main_v0 (F := Ideal) f (ix3 b s n) - val_main_v0 (F := Ideal) f (ix3 b u n)) else ⊥

/-- The reference's masked scores, entry by entry. -/
theorem sc_at : val_main_v18 (F := Ideal) q k f (ix4 b n s u) = sc q k f b n s u := by
  have h : val_main_v18 (F := Ideal) q k f (ix4 b n s u) = Scalar.select (val_main_call1_v1 (F := Ideal) (ix4 b n s u))
      (val_main_v2 (F := Ideal) q k (ix4 b n s u) * Ideal.ofBits FTy.f32 1040187392#32 + val_main_v9 (F := Ideal) f (ix4 b n s u)) (Ideal.ofBits FTy.f32 4286578688#32) := by
    unfold val_main_v18 val_main_v10 val_main_v4 val_main_v3 val_main_cst val_main_call1_v2 val_main_call1_v0 val_main_cst_0
    generalize val_main_v2 (F := Ideal) q k = D
    generalize val_main_v9 (F := Ideal) f = G
    generalize val_main_call1_v1 (F := Ideal) = M
    pointwise
    rfl
  rw [h, mask_at, le_word, prod_at, gate_at, bits_neg_inf, bits_eighth']
  unfold sc
  by_cases hu : u ≤ s
  · rw [if_pos hu, if_pos hu]; rfl
  · rw [if_neg hu, if_neg hu]; rfl

theorem red_at (w : FVec Ideal S2x8x8192x8192 .f32) (i0 : FVec Ideal S_ .f32) : Host.reduce (FloatOps.maximumf (F := Ideal) (φ := .f32)) w i0 reducesTo_S2x8x8192x8192_S2x8x8192_d3 h_S_ (ix3 b n s)
    = Finset.fold max (i0 (Shape.Idx.first h_S_)) (fun x => w (ix4 b n s x)) Finset.univ := by
  pointwise

theorem max_at : val_main_v19 (F := Ideal) q k f (ix3 b n s) = rmax (sc q k f b n s) := by
  unfold val_main_v19
  refine (red_at b n s _ _).trans ?_
  simp only [sc_at]
  have h0 : val_main_cst_1 (F := Ideal) (Shape.Idx.first h_S_) = ⊥ := bits_neg_inf
  rw [h0]
  rfl

theorem neg_inf_at : val_main_v20 (F := Ideal) (ix3 b n s) = ⊥ := by
  unfold val_main_v20 val_main_cst_2
  refine Eq.trans ?_ bits_neg_inf
  pointwise

theorem top_at : val_main_v23 (F := Ideal) q k f (ix4 b n s u) = rmax (sc q k f b n s) := by
  have h : val_main_v23 (F := Ideal) q k f (ix4 b n s u) = val_main_v21 (F := Ideal) q k f (ix3 b n s) := by
    unfold val_main_v23 val_main_v22
    generalize val_main_v21 (F := Ideal) q k f = A
    pointwise
  rw [h]
  refine (val_main_v21_apply (F := Ideal) q k f (ix3 b n s)).trans ?_
  rw [neg_inf_at, max_at]
  exact bot_sup_eq _

theorem exp_at : val_main_v25 (F := Ideal) q k f (ix4 b n s u) = Ideal.exp (sc q k f b n s u - rmax (sc q k f b n s)) := by
  rw [← sc_at, ← top_at q k f b n s u]
  rfl

theorem add_at (A : FVec Ideal S2x8x8192x8192 .f32) (i0 : FVec Ideal S_ .f32) : (Host.reduceAdd (F := Ideal) A i0 reducesTo_S2x8x8192x8192_S2x8x8192_d3 h_S_ : FVec Ideal S2x8x8192 .f32) (ix3 b n s)
    = i0 (Shape.Idx.first h_S_) + ∑ x, A (ix4 b n s x) := by
  pointwise

theorem sum_at : val_main_v26 (F := Ideal) q k f (ix3 b n s) = ∑ x, Ideal.exp (sc q k f b n s x - rmax (sc q k f b n s)) := by
  unfold val_main_v26
  refine (add_at b n s _ _).trans ?_
  simp only [exp_at]
  have h0 : val_main_cst_3 (F := Ideal) (Shape.Idx.first h_S_) = 0 := Ideal.ofBits_zero_f32
  rw [h0, zero_add]

theorem soft_at : val_main_v29 (F := Ideal) q k f (ix4 b n s u)
    = Ideal.div (Ideal.exp (sc q k f b n s u - rmax (sc q k f b n s))) (∑ x, Ideal.exp (sc q k f b n s x - rmax (sc q k f b n s))) := by
  rw [← exp_at, ← sum_at]
  unfold val_main_v29 val_main_v28 val_main_v27
  generalize val_main_v26 (F := Ideal) q k f = B
  generalize val_main_v25 (F := Ideal) q k f = A
  pointwise

/-- The reference at an index: the softmax-weighted sum of the values. -/
theorem out_at (d : Fin 64) : val_main_v32 (F := Ideal) q k v f (ix3 b ⟨64 * n.val + d.val, by omega⟩ s)
    = ∑ u : Fin 8192, Ideal.div (Ideal.exp (sc q k f b n s u - rmax (sc q k f b n s))) (∑ x, Ideal.exp (sc q k f b n s x - rmax (sc q k f b n s))) * v (ix4 b u n d) := by
  simp only [← soft_at]
  unfold val_main_v32 val_main_v31 val_main_v30
  generalize val_main_v29 (F := Ideal) q k f = A
  pointwise
end Ref
end Cert.Attn
-- ==== Proof.Out.lean ====
module
public import proofs.«01_k».proof.Proof.Raw
public import proofs.«01_k».proof.Proof.Ref
@[expose] public section
/-! # One entry of the result

The block that a grid point writes holds the reference's entries. -/
set_option maxRecDepth 16384
noncomputable section
namespace Cert.Attn
open Cert.KernelIdeal Cert.KernelIdeal.Gen Idealize.ShloMosaic Idealize.ShloMosaic.TcCoe Idealize.ShloMosaic.Tactic
variable (m : (ℓ : Loc nD τ sig) → Buf (Elt Ideal) ℓ) (c : Dev nD) (t : Fin cfg0.N)

/-- Both programs take the same cumulative sum. -/
theorem cum_eq (f : FVec Ideal S2x8192x8 .f32) : (Cert.ReferenceIdeal.Read.val_main_v0 (F := Ideal) f : FVec Ideal S2x8192x8 .f32) = cum f := by
  unfold Cert.ReferenceIdeal.Read.val_main_v0
  rfl

/-- The reference's score, with the mask. -/
theorem sc_eq (q k : FVec Ideal S2x8192x8x64 .f32) (f : FVec Ideal S2x8192x8 .f32) (b : Fin 2) (n : Fin 8) (s u : Fin 8192) :
    Ref.sc q k f b n s u = if u ≤ s then sc0 q k (cum f) b n s u else ⊥ := by
  unfold Ref.sc sc0
  rw [cum_eq]

theorem enc_le (i j : Fin 32) (y r : Fin 256) (h : j ≤ i) : enc j r ≤ enc i y ↔ ¬ (j = i ∧ y < r) := by
  have := y.isLt
  have := r.isLt
  simp only [Fin.le_def, Fin.lt_def, Fin.ext_iff, enc] at h ⊢
  omega

theorem enc_lt (i j : Fin 32) (y r : Fin 256) (h : i < j) : ¬ enc j r ≤ enc i y := by
  have := y.isLt
  have := r.isLt
  simp only [Fin.le_def, Fin.lt_def, enc] at h ⊢
  omega

/-- The reference's result on the kernel's arguments. -/
def want : FVec Ideal S2x512x8192 .f32 := Cert.ReferenceIdeal.Read.val_main_v32 (F := Ideal) (argQ m c) (argK m c) (argV m c) (argF m c)

/-- One entry of the block a grid point writes. -/
theorem point (hq : ∀ i, IsReal (argQ m c i)) (hk : ∀ i, IsReal (argK m c i)) (hf : ∀ i, IsReal (argF m c i)) (o : Fin 4) (d : Fin 64) (y : Fin 256) :
    outsAt0 m c t (ix3 0 ⟨64 * o.val + d.val, by omega⟩ y)
      = want m c (ix3 (bt t) ⟨64 * (hd t o).val + d.val, by have := (hd t o).isLt; omega⟩ (enc (qi (grid0.coords t)) y)) := by
  have hF := cum_real _ hf
  have hr := fun o y j r => raw_eq m c t hq hk hF o y j r
  have ht : ∀ o y j r, raw o (Qh o t c (X0 m c t) (X1 m c t)) (X2 m c t) y j r ≠ ⊤ := fun o y j r => by
    obtain ⟨⟨x, hx⟩, e⟩ := hr o y j r
    rw [e, hx, cst, ← EReal.coe_mul]
    exact EReal.coe_ne_top _
  refine (out_apply (x3 := X3 m c t) c t (X0 m c t) (X1 m c t) ht o d y).trans ?_
  refine Eq.trans ?_ (Ref.out_at (argQ m c) (argK m c) (argV m c) (argF m c) (bt t) (hd t o) (enc (qi (grid0.coords t)) y) d).symm
  unfold rowOut
  refine quotient (Ref.sc (argQ m c) (argK m c) (argF m c) (bt t) (hd t o) (enc (qi (grid0.coords t)) y)) (fun u => argV m c (ix4 (bt t) u (hd t o) d))
    (qi (grid0.coords t)) _ _ ?_ ⟨enc (qi (grid0.coords t)) y, ?_⟩ ?_ ?_ ?_
  · intro u
    rw [sc_eq]
    split
    · obtain ⟨j, r, rfl⟩ := exists_enc u
      obtain ⟨⟨x, hx⟩, _⟩ := hr o y j r
      rw [hx]
      exact EReal.coe_ne_top _
    · exact bot_ne_top
  · rw [sc_eq, if_pos le_rfl]
    obtain ⟨⟨x, hx⟩, _⟩ := hr o y (qi (grid0.coords t)) y
    rw [hx]
    exact EReal.coe_ne_bot _
  · intro j hj r
    rw [sc_eq]
    unfold msk
    by_cases h : j = qi (grid0.coords t) ∧ y < r
    · rw [if_pos h, if_neg (fun h' => (enc_le _ _ _ _ hj).mp h' h)]
      exact (EReal.coe_mul_bot_of_pos cst_pos).symm
    · rw [if_neg h, if_pos ((enc_le _ _ _ _ hj).mpr h)]
      exact (hr o y j r).2
  · intro j hj r
    rw [sc_eq, if_neg (enc_lt _ _ _ _ hj)]
  · intro j _ r
    exact x3_at m c t o d j r
end Cert.Attn
-- ==== Proof.Whole.lean ====
module
public import proofs.«01_k».proof.Proof.Out
public import proofs.«01_k».proof.Proof.Gen.KernelIdeal.Value
public import Idealize.ShloMosaic.Lib.Pipeline.ValueKit
@[expose] public section
/-! # The whole array

Every entry is written by one grid point, so that the array after the run is the reference's result. -/
set_option maxRecDepth 16384
noncomputable section
namespace Cert.Attn
open Cert.KernelIdeal Cert.KernelIdeal.Gen Idealize.ShloMosaic Idealize.ShloMosaic.TcCoe Idealize.ShloMosaic.Tactic
open Idealize.ShloMosaic.Pipeline (Dat)
variable (m : (ℓ : Loc nD τ sig) → Buf (Elt Ideal) ℓ) (c : Dev nD)

/-- Where entry `y` of the block of grid point `t` lies in the array. -/
theorem place (t : Fin cfg0.N) (o : Fin 4) (d : Fin 64) (y : Fin 256) : (win0_4.rect t).emb (ix3 0 ⟨64 * o.val + d.val, by omega⟩ y)
    = (ix3 (bt t) ⟨64 * (hd t o).val + d.val, by have := (hd t o).isLt; omega⟩ (enc (qi (grid0.coords t)) y) : S2x512x8192.Idx) := by
  refine emb4 t _ y _ ?_ ?_ ?_
  · show (bt t).val = (bt t).val * 1 + 0; omega
  · show 64 * (4 * (gt t).val + o.val) + d.val = (gt t).val * 256 + (64 * o.val + d.val); omega
  · show 256 * (qi (grid0.coords t)).val + y.val = (qi (grid0.coords t)).val * 256 + y.val; omega

/-- The array after the run is the reference's result. -/
theorem array (hq : ∀ i, IsReal (argQ m c i)) (hk : ∀ i, IsReal (argK m c i)) (hf : ∀ i, IsReal (argF m c i)) :
    (dats m 0 c).arrAt 4 cfg0.N = want m c := by
  refine Dat.arrAt_eq_of_covers (dats m 0 c) 4 (want m c) (by decide +kernel) (fun t hfl y => ?_)
  have key : ∀ y : S1x256x256.Idx, outsAt0 m c t y = want m c ((win0_4.rect t).emb y) := by
    intro y
    obtain ⟨a, b, e, rfl⟩ : ∃ (a : Fin 1) (b : Fin 256) (e : Fin 256), y = ix3 a b e := ⟨y 0, y 1, y 2, by
      funext k; match k with | 0 => rfl | 1 => rfl | 2 => rfl⟩
    obtain ⟨o, d, rfl⟩ : ∃ (o : Fin 4) (d : Fin 64), b = ⟨64 * o.val + d.val, by omega⟩ :=
      ⟨⟨b.val / 64, by omega⟩, ⟨b.val % 64, by omega⟩, Fin.ext (by show b.val = 64 * (b.val / 64) + b.val % 64; omega)⟩
    obtain rfl : a = 0 := Fin.fin_one_eq_zero a
    rw [point m c t hq hk hf, place]
  blk_simp
  rw [after0_4]
  exact key _
end Cert.Attn
-- ==== Proof.ProjRunA.lean ====
module

public import proofs.«01_k».proof.Proof.Gen.Kernel2Ideal.Frame.Runs

/-!
# The projection call: the body at the first point of a sequence
-/

@[expose] public section

set_option maxRecDepth 16384

noncomputable section

namespace Cert.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's run at the first point of a sequence, where the running sums start afresh: the pieces its stores
    leave in each output block and in the scratch (last first), with the proof that the body, called on whole buffers, ends with
    the inputs unchanged and those pieces written. -/
noncomputable def kernelRun0_A (c : Dev nD) (i : grid0.Coords) (arg2 : Memref sig .tc .vmem S1x256x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x3200 .bf16) (harg6 : arg6.IsWhole) (arg7 : Memref sig .tc .vmem S2048x1024 .bf16) (harg7 : arg7.IsWhole) (arg8 : Memref sig .tc .vmem S1x128 .f32) (harg8 : arg8.IsWhole) (arg9 : Memref sig .tc .vmem S3x256x128 .f32) (harg9 : arg9.IsWhole) (arg10 : Memref sig .tc .vmem S2x8x256 .f32) (harg10 : arg10.IsWhole) (arg11 : Memref sig .tc .vmem S256x256 .bf16) (harg11 : arg11.IsWhole) (arg12 : Memref sig .tc .vmem S128x1024 .bf16) (harg12 : arg12.IsWhole) (arg13 : Memref sig .tc .vmem S128x128 .bf16) (harg13 : arg13.IsWhole) (arg14 : Memref sig .tc .vmem S1x256x512 .f32) (harg14 : arg14.IsWhole) (arg15 : Memref sig .tc .vmem S1x256x512 .f32) (harg15 : arg15.IsWhole) (arg16 : Memref sig .tc .vmem S1x256x512 .f32) (harg16 : arg16.IsWhole) (arg17 : Memref sig .tc .vmem S1x256x512 .f32) (harg17 : arg17.IsWhole) (arg18 : Memref sig .tc .vmem S1x256x128 .f32) (harg18 : arg18.IsWhole) (arg19 : Memref sig .tc .vmem S1x256x1024 .bf16) (harg19 : arg19.IsWhole) (arg20 : Memref sig .tc .vmem S1x256x1024 .bf16) (harg20 : arg20.IsWhole) (arg21 : Memref sig .tc .vmem S1x512x256 .bf16) (harg21 : arg21.IsWhole) (arg22 : Memref sig .tc .vmem S1x512x256 .f32) (harg22 : arg22.IsWhole) (arg23 : Memref sig .tc .vmem S1x512x256 .bf16) (harg23 : arg23.IsWhole) (arg24 : Memref sig .tc .vmem S1x128x256 .bf16) (harg24 : arg24.IsWhole) (arg25 : Memref sig .tc .vmem S1x8x1x64x256 .bf16) (harg25 : arg25.IsWhole) (arg26 : Memref sig .tc .vmem S1x8x1x64x256 .bf16) (harg26 : arg26.IsWhole) (arg27 : Memref sig .tc .vmem S1x1x1x1024 .f32) (harg27 : arg27.IsWhole) (arg28 : Memref sig .tc .vmem S8x128 .f32) (harg28 : arg28.IsWhole) (hc0 : cond0_0 i)
    (x0 : Vec F S1x256x1024 .f32) (x1 : Vec F S1x1x1024 .f32) (x2 : Vec F S1x1x1024 .f32) (x3 : Vec F S1x1024 .f32) (x4 : Vec F S1024x3200 .bf16) (x5 : Vec F S2048x1024 .bf16) (x6 : Vec F S1x128 .f32) (x7 : Vec F S3x256x128 .f32) (x8 : Vec F S2x8x256 .f32) (x9 : Vec F S256x256 .bf16) (x10 : Vec F S128x1024 .bf16) (x11 : Vec F S128x128 .bf16) :
    Σ' (L12 : List (View.Piece (Elt F) S1x256x512 .f32)), Σ' (L13 : List (View.Piece (Elt F) S1x256x512 .f32)), Σ' (L14 : List (View.Piece (Elt F) S1x256x512 .f32)), Σ' (L15 : List (View.Piece (Elt F) S1x256x512 .f32)), Σ' (L16 : List (View.Piece (Elt F) S1x256x128 .f32)), Σ' (L17 : List (View.Piece (Elt F) S1x256x1024 .bf16)), Σ' (L18 : List (View.Piece (Elt F) S1x256x1024 .bf16)), Σ' (L19 : List (View.Piece (Elt F) S1x512x256 .bf16)), Σ' (L20 : List (View.Piece (Elt F) S1x512x256 .f32)), Σ' (L21 : List (View.Piece (Elt F) S1x512x256 .bf16)), Σ' (L22 : List (View.Piece (Elt F) S1x128x256 .bf16)), Σ' (L23 : List (View.Piece (Elt F) S1x8x1x64x256 .bf16)), Σ' (L24 : List (View.Piece (Elt F) S1x8x1x64x256 .bf16)), Σ' (L25 : List (View.Piece (Elt F) S1x1x1x1024 .f32)), { LS0 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f LS0)) -∗ K ⟨⟩))
          ⊢ wp frame (wpE (defs₀ (F := F)) Variants.none c none) E (cc0_inproj_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, ?_, ?_, ?_, ?_, ?_, ?_, ?_, ?_, ?_, ?_, fun E K => ?run⟩
  case run =>
    simp only [cc0_inproj_prompt_eq_skeleton]; unfold cc0_inproj_prompt_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    iexists _; iexact HS0

end Cert.Proj
-- ==== Proof.ProjRunB.lean ====
module

public import proofs.«01_k».proof.Proof.Gen.Kernel2Ideal.Frame.Runs

/-!
# The projection call: the body at the other points
-/

@[expose] public section

set_option maxRecDepth 16384

noncomputable section

namespace Cert.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body's run at any other point, where the running sums go on from the scratch's contents: the pieces its stores
    leave in each output block and in the scratch (last first), with the proof that the body, called on whole buffers, ends with
    the inputs unchanged and those pieces written. -/
noncomputable def kernelRun0_B (c : Dev nD) (i : grid0.Coords) (arg2 : Memref sig .tc .vmem S1x256x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1024 .f32) (harg5 : arg5.IsWhole) (arg6 : Memref sig .tc .vmem S1024x3200 .bf16) (harg6 : arg6.IsWhole) (arg7 : Memref sig .tc .vmem S2048x1024 .bf16) (harg7 : arg7.IsWhole) (arg8 : Memref sig .tc .vmem S1x128 .f32) (harg8 : arg8.IsWhole) (arg9 : Memref sig .tc .vmem S3x256x128 .f32) (harg9 : arg9.IsWhole) (arg10 : Memref sig .tc .vmem S2x8x256 .f32) (harg10 : arg10.IsWhole) (arg11 : Memref sig .tc .vmem S256x256 .bf16) (harg11 : arg11.IsWhole) (arg12 : Memref sig .tc .vmem S128x1024 .bf16) (harg12 : arg12.IsWhole) (arg13 : Memref sig .tc .vmem S128x128 .bf16) (harg13 : arg13.IsWhole) (arg14 : Memref sig .tc .vmem S1x256x512 .f32) (harg14 : arg14.IsWhole) (arg15 : Memref sig .tc .vmem S1x256x512 .f32) (harg15 : arg15.IsWhole) (arg16 : Memref sig .tc .vmem S1x256x512 .f32) (harg16 : arg16.IsWhole) (arg17 : Memref sig .tc .vmem S1x256x512 .f32) (harg17 : arg17.IsWhole) (arg18 : Memref sig .tc .vmem S1x256x128 .f32) (harg18 : arg18.IsWhole) (arg19 : Memref sig .tc .vmem S1x256x1024 .bf16) (harg19 : arg19.IsWhole) (arg20 : Memref sig .tc .vmem S1x256x1024 .bf16) (harg20 : arg20.IsWhole) (arg21 : Memref sig .tc .vmem S1x512x256 .bf16) (harg21 : arg21.IsWhole) (arg22 : Memref sig .tc .vmem S1x512x256 .f32) (harg22 : arg22.IsWhole) (arg23 : Memref sig .tc .vmem S1x512x256 .bf16) (harg23 : arg23.IsWhole) (arg24 : Memref sig .tc .vmem S1x128x256 .bf16) (harg24 : arg24.IsWhole) (arg25 : Memref sig .tc .vmem S1x8x1x64x256 .bf16) (harg25 : arg25.IsWhole) (arg26 : Memref sig .tc .vmem S1x8x1x64x256 .bf16) (harg26 : arg26.IsWhole) (arg27 : Memref sig .tc .vmem S1x1x1x1024 .f32) (harg27 : arg27.IsWhole) (arg28 : Memref sig .tc .vmem S8x128 .f32) (harg28 : arg28.IsWhole) (hc0 : ¬cond0_0 i)
    (x0 : Vec F S1x256x1024 .f32) (x1 : Vec F S1x1x1024 .f32) (x2 : Vec F S1x1x1024 .f32) (x3 : Vec F S1x1024 .f32) (x4 : Vec F S1024x3200 .bf16) (x5 : Vec F S2048x1024 .bf16) (x6 : Vec F S1x128 .f32) (x7 : Vec F S3x256x128 .f32) (x8 : Vec F S2x8x256 .f32) (x9 : Vec F S256x256 .bf16) (x10 : Vec F S128x1024 .bf16) (x11 : Vec F S128x128 .bf16) (xs0 : Vec F S8x128 .f32) :
    Σ' (L12 : List (View.Piece (Elt F) S1x256x512 .f32)), Σ' (L13 : List (View.Piece (Elt F) S1x256x512 .f32)), Σ' (L14 : List (View.Piece (Elt F) S1x256x512 .f32)), Σ' (L15 : List (View.Piece (Elt F) S1x256x512 .f32)), Σ' (L16 : List (View.Piece (Elt F) S1x256x128 .f32)), Σ' (L17 : List (View.Piece (Elt F) S1x256x1024 .bf16)), Σ' (L18 : List (View.Piece (Elt F) S1x256x1024 .bf16)), Σ' (L19 : List (View.Piece (Elt F) S1x512x256 .bf16)), Σ' (L20 : List (View.Piece (Elt F) S1x512x256 .f32)), Σ' (L21 : List (View.Piece (Elt F) S1x512x256 .bf16)), Σ' (L22 : List (View.Piece (Elt F) S1x128x256 .bf16)), Σ' (L23 : List (View.Piece (Elt F) S1x8x1x64x256 .bf16)), Σ' (L24 : List (View.Piece (Elt F) S1x8x1x64x256 .bf16)), Σ' (L25 : List (View.Piece (Elt F) S1x1x1x1024 .f32)), { LS0 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ owns (c : Thread nD τ) arg28 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (arg28.view.loc (c : Thread nD τ) ↦[arg28.view.set]{fullShare} arg28.view.writes (Elt F) (harg28.unread xs0) LS0)) -∗ K ⟨⟩))
          ⊢ wp frame (wpE (defs₀ (F := F)) Variants.none c none) E (cc0_inproj_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K } := by
  refine ⟨?_, ?_, ?_, ?_, ?_, ?_, ?_, ?_, ?_, ?_, ?_, ?_, ?_, ?_, ?_, fun E K => ?run⟩
  case run =>
    simp only [cc0_inproj_prompt_eq_skeleton]; unfold cc0_inproj_prompt_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg28.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    iexact HS0

end Cert.Proj
-- ==== Proof.ProjOuts.lean ====
module

public import proofs.«01_k».proof.Proof.ProjRunA
public import proofs.«01_k».proof.Proof.ProjRunB
public import Idealize.ShloMosaic.Lib.Claim

/-!
# The projection call: its whole run

The call's grid has 64 points. At a point the body reads its input blocks and writes fourteen output blocks;
the running sums it keeps in a scratch buffer start afresh at the first point of each sequence. Below is what each
point leaves in its output blocks and in the scratch, and from it the run of the whole program, over any values.
-/

@[expose] public section

set_option maxRecDepth 16384

noncomputable section

namespace Cert.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents of the fourteen output blocks, then of the scratch. -/
abbrev Left (F : FTy → Type) [FloatOps F] : Type := Vec F S1x256x512 .f32 × Vec F S1x256x512 .f32 × Vec F S1x256x512 .f32 × Vec F S1x256x512 .f32 × Vec F S1x256x128 .f32 × Vec F S1x256x1024 .bf16 × Vec F S1x256x1024 .bf16 × Vec F S1x512x256 .bf16 × Vec F S1x512x256 .f32 × Vec F S1x512x256 .bf16 × Vec F S1x128x256 .bf16 × Vec F S1x8x1x64x256 .bf16 × Vec F S1x8x1x64x256 .bf16 × Vec F S1x1x1x1024 .f32 × Vec F S8x128 .f32

/-- The body's run at the first point of a sequence. -/
def runA (c : Dev nD) (t : Fin cfg0.N) (h0 : t.val % 32 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

/-- The body's run at any other point, over the scratch contents `s`. -/
def runB (c : Dev nD) (t : Fin cfg0.N) (h0 : ¬t.val % 32 = 0) (s : Vec F S8x128 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s

/-! ## The pieces each run writes cover each output block -/

theorem coverA_12 (c : Dev nD) (t : Fin cfg0.N) (h0 : t.val % 32 = 0) (y : S1x256x512.Idx) :
    ∃ pc ∈ (runA m c t h0).1, y ∈ pc.1.set :=
  View.cover_of_tiledL (runA m c t h0).1 S1x256x128.size (by sl_kernel_rfl) y

theorem coverA_13 (c : Dev nD) (t : Fin cfg0.N) (h0 : t.val % 32 = 0) (y : S1x256x512.Idx) :
    ∃ pc ∈ (runA m c t h0).2.1, y ∈ pc.1.set :=
  View.cover_of_tiledL (runA m c t h0).2.1 S1x256x512.size (by sl_kernel_rfl) y

theorem coverA_14 (c : Dev nD) (t : Fin cfg0.N) (h0 : t.val % 32 = 0) (y : S1x256x512.Idx) :
    ∃ pc ∈ (runA m c t h0).2.2.1, y ∈ pc.1.set :=
  View.cover_of_tiledL (runA m c t h0).2.2.1 S1x256x128.size (by sl_kernel_rfl) y

theorem coverA_15 (c : Dev nD) (t : Fin cfg0.N) (h0 : t.val % 32 = 0) (y : S1x256x512.Idx) :
    ∃ pc ∈ (runA m c t h0).2.2.2.1, y ∈ pc.1.set :=
  View.cover_of_tiledL (runA m c t h0).2.2.2.1 S1x256x512.size (by sl_kernel_rfl) y

theorem coverA_16 (c : Dev nD) (t : Fin cfg0.N) (h0 : t.val % 32 = 0) (y : S1x256x128.Idx) :
    ∃ pc ∈ (runA m c t h0).2.2.2.2.1, y ∈ pc.1.set :=
  View.cover_of_tiledL (runA m c t h0).2.2.2.2.1 S1x256x128.size (by sl_kernel_rfl) y

theorem coverA_17 (c : Dev nD) (t : Fin cfg0.N) (h0 : t.val % 32 = 0) (y : S1x256x1024.Idx) :
    ∃ pc ∈ (runA m c t h0).2.2.2.2.2.1, y ∈ pc.1.set :=
  View.cover_of_tiledL (runA m c t h0).2.2.2.2.2.1 S1x256x128.size (by sl_kernel_rfl) y

theorem coverA_18 (c : Dev nD) (t : Fin cfg0.N) (h0 : t.val % 32 = 0) (y : S1x256x1024.Idx) :
    ∃ pc ∈ (runA m c t h0).2.2.2.2.2.2.1, y ∈ pc.1.set :=
  View.cover_of_tiledL (runA m c t h0).2.2.2.2.2.2.1 S1x256x1024.size (by sl_kernel_rfl) y

theorem coverA_19 (c : Dev nD) (t : Fin cfg0.N) (h0 : t.val % 32 = 0) (y : S1x512x256.Idx) :
    ∃ pc ∈ (runA m c t h0).2.2.2.2.2.2.2.1, y ∈ pc.1.set :=
  View.cover_of_tiledL (runA m c t h0).2.2.2.2.2.2.2.1 S1x512x256.size (by sl_kernel_rfl) y

theorem coverA_20 (c : Dev nD) (t : Fin cfg0.N) (h0 : t.val % 32 = 0) (y : S1x512x256.Idx) :
    ∃ pc ∈ (runA m c t h0).2.2.2.2.2.2.2.2.1, y ∈ pc.1.set :=
  View.cover_of_tiledL (runA m c t h0).2.2.2.2.2.2.2.2.1 S1x512x256.size (by sl_kernel_rfl) y

theorem coverA_21 (c : Dev nD) (t : Fin cfg0.N) (h0 : t.val % 32 = 0) (y : S1x512x256.Idx) :
    ∃ pc ∈ (runA m c t h0).2.2.2.2.2.2.2.2.2.1, y ∈ pc.1.set :=
  View.cover_of_tiledL (runA m c t h0).2.2.2.2.2.2.2.2.2.1 S1x512x256.size (by sl_kernel_rfl) y

theorem coverA_22 (c : Dev nD) (t : Fin cfg0.N) (h0 : t.val % 32 = 0) (y : S1x128x256.Idx) :
    ∃ pc ∈ (runA m c t h0).2.2.2.2.2.2.2.2.2.2.1, y ∈ pc.1.set :=
  View.cover_of_tiledL (runA m c t h0).2.2.2.2.2.2.2.2.2.2.1 S1x128x256.size (by sl_kernel_rfl) y

theorem coverA_23 (c : Dev nD) (t : Fin cfg0.N) (h0 : t.val % 32 = 0) (y : S1x8x1x64x256.Idx) :
    ∃ pc ∈ (runA m c t h0).2.2.2.2.2.2.2.2.2.2.2.1, y ∈ pc.1.set :=
  View.cover_of_tiledL (runA m c t h0).2.2.2.2.2.2.2.2.2.2.2.1 S1x1x1x64x256.size (by sl_kernel_rfl) y

theorem coverA_24 (c : Dev nD) (t : Fin cfg0.N) (h0 : t.val % 32 = 0) (y : S1x8x1x64x256.Idx) :
    ∃ pc ∈ (runA m c t h0).2.2.2.2.2.2.2.2.2.2.2.2.1, y ∈ pc.1.set :=
  View.cover_of_tiledL (runA m c t h0).2.2.2.2.2.2.2.2.2.2.2.2.1 S1x1x1x64x256.size (by sl_kernel_rfl) y

theorem coverA_25 (c : Dev nD) (t : Fin cfg0.N) (h0 : t.val % 32 = 0) (y : S1x1x1x1024.Idx) :
    ∃ pc ∈ (runA m c t h0).2.2.2.2.2.2.2.2.2.2.2.2.2.1, y ∈ pc.1.set :=
  View.cover_of_tiledL (runA m c t h0).2.2.2.2.2.2.2.2.2.2.2.2.2.1 S1x1x1x128.size (by sl_kernel_rfl) y

theorem coverA_s (c : Dev nD) (t : Fin cfg0.N) (h0 : t.val % 32 = 0) (y : S8x128.Idx) :
    ∃ pc ∈ (runA m c t h0).2.2.2.2.2.2.2.2.2.2.2.2.2.2.1, y ∈ pc.1.set :=
  View.cover_of_wholeMem (runA m c t h0).2.2.2.2.2.2.2.2.2.2.2.2.2.2.1 (by sl_whole_mem) y

theorem coverB_12 (c : Dev nD) (t : Fin cfg0.N) (h0 : ¬t.val % 32 = 0) (s : Vec F S8x128 .f32) (y : S1x256x512.Idx) :
    ∃ pc ∈ (runB m c t h0 s).1, y ∈ pc.1.set :=
  View.cover_of_tiledL (runB m c t h0 s).1 S1x256x128.size (by sl_kernel_rfl) y

theorem coverB_13 (c : Dev nD) (t : Fin cfg0.N) (h0 : ¬t.val % 32 = 0) (s : Vec F S8x128 .f32) (y : S1x256x512.Idx) :
    ∃ pc ∈ (runB m c t h0 s).2.1, y ∈ pc.1.set :=
  View.cover_of_tiledL (runB m c t h0 s).2.1 S1x256x512.size (by sl_kernel_rfl) y

theorem coverB_14 (c : Dev nD) (t : Fin cfg0.N) (h0 : ¬t.val % 32 = 0) (s : Vec F S8x128 .f32) (y : S1x256x512.Idx) :
    ∃ pc ∈ (runB m c t h0 s).2.2.1, y ∈ pc.1.set :=
  View.cover_of_tiledL (runB m c t h0 s).2.2.1 S1x256x128.size (by sl_kernel_rfl) y

theorem coverB_15 (c : Dev nD) (t : Fin cfg0.N) (h0 : ¬t.val % 32 = 0) (s : Vec F S8x128 .f32) (y : S1x256x512.Idx) :
    ∃ pc ∈ (runB m c t h0 s).2.2.2.1, y ∈ pc.1.set :=
  View.cover_of_tiledL (runB m c t h0 s).2.2.2.1 S1x256x512.size (by sl_kernel_rfl) y

theorem coverB_16 (c : Dev nD) (t : Fin cfg0.N) (h0 : ¬t.val % 32 = 0) (s : Vec F S8x128 .f32) (y : S1x256x128.Idx) :
    ∃ pc ∈ (runB m c t h0 s).2.2.2.2.1, y ∈ pc.1.set :=
  View.cover_of_tiledL (runB m c t h0 s).2.2.2.2.1 S1x256x128.size (by sl_kernel_rfl) y

theorem coverB_17 (c : Dev nD) (t : Fin cfg0.N) (h0 : ¬t.val % 32 = 0) (s : Vec F S8x128 .f32) (y : S1x256x1024.Idx) :
    ∃ pc ∈ (runB m c t h0 s).2.2.2.2.2.1, y ∈ pc.1.set :=
  View.cover_of_tiledL (runB m c t h0 s).2.2.2.2.2.1 S1x256x128.size (by sl_kernel_rfl) y

theorem coverB_18 (c : Dev nD) (t : Fin cfg0.N) (h0 : ¬t.val % 32 = 0) (s : Vec F S8x128 .f32) (y : S1x256x1024.Idx) :
    ∃ pc ∈ (runB m c t h0 s).2.2.2.2.2.2.1, y ∈ pc.1.set :=
  View.cover_of_tiledL (runB m c t h0 s).2.2.2.2.2.2.1 S1x256x1024.size (by sl_kernel_rfl) y

theorem coverB_19 (c : Dev nD) (t : Fin cfg0.N) (h0 : ¬t.val % 32 = 0) (s : Vec F S8x128 .f32) (y : S1x512x256.Idx) :
    ∃ pc ∈ (runB m c t h0 s).2.2.2.2.2.2.2.1, y ∈ pc.1.set :=
  View.cover_of_tiledL (runB m c t h0 s).2.2.2.2.2.2.2.1 S1x512x256.size (by sl_kernel_rfl) y

theorem coverB_20 (c : Dev nD) (t : Fin cfg0.N) (h0 : ¬t.val % 32 = 0) (s : Vec F S8x128 .f32) (y : S1x512x256.Idx) :
    ∃ pc ∈ (runB m c t h0 s).2.2.2.2.2.2.2.2.1, y ∈ pc.1.set :=
  View.cover_of_tiledL (runB m c t h0 s).2.2.2.2.2.2.2.2.1 S1x512x256.size (by sl_kernel_rfl) y

theorem coverB_21 (c : Dev nD) (t : Fin cfg0.N) (h0 : ¬t.val % 32 = 0) (s : Vec F S8x128 .f32) (y : S1x512x256.Idx) :
    ∃ pc ∈ (runB m c t h0 s).2.2.2.2.2.2.2.2.2.1, y ∈ pc.1.set :=
  View.cover_of_tiledL (runB m c t h0 s).2.2.2.2.2.2.2.2.2.1 S1x512x256.size (by sl_kernel_rfl) y

theorem coverB_22 (c : Dev nD) (t : Fin cfg0.N) (h0 : ¬t.val % 32 = 0) (s : Vec F S8x128 .f32) (y : S1x128x256.Idx) :
    ∃ pc ∈ (runB m c t h0 s).2.2.2.2.2.2.2.2.2.2.1, y ∈ pc.1.set :=
  View.cover_of_tiledL (runB m c t h0 s).2.2.2.2.2.2.2.2.2.2.1 S1x128x256.size (by sl_kernel_rfl) y

theorem coverB_23 (c : Dev nD) (t : Fin cfg0.N) (h0 : ¬t.val % 32 = 0) (s : Vec F S8x128 .f32) (y : S1x8x1x64x256.Idx) :
    ∃ pc ∈ (runB m c t h0 s).2.2.2.2.2.2.2.2.2.2.2.1, y ∈ pc.1.set :=
  View.cover_of_tiledL (runB m c t h0 s).2.2.2.2.2.2.2.2.2.2.2.1 S1x1x1x64x256.size (by sl_kernel_rfl) y

theorem coverB_24 (c : Dev nD) (t : Fin cfg0.N) (h0 : ¬t.val % 32 = 0) (s : Vec F S8x128 .f32) (y : S1x8x1x64x256.Idx) :
    ∃ pc ∈ (runB m c t h0 s).2.2.2.2.2.2.2.2.2.2.2.2.1, y ∈ pc.1.set :=
  View.cover_of_tiledL (runB m c t h0 s).2.2.2.2.2.2.2.2.2.2.2.2.1 S1x1x1x64x256.size (by sl_kernel_rfl) y

theorem coverB_25 (c : Dev nD) (t : Fin cfg0.N) (h0 : ¬t.val % 32 = 0) (s : Vec F S8x128 .f32) (y : S1x1x1x1024.Idx) :
    ∃ pc ∈ (runB m c t h0 s).2.2.2.2.2.2.2.2.2.2.2.2.2.1, y ∈ pc.1.set :=
  View.cover_of_tiledL (runB m c t h0 s).2.2.2.2.2.2.2.2.2.2.2.2.2.1 S1x1x1x128.size (by sl_kernel_rfl) y

/-! ## What the outputs and the scratch hold after each point -/

/-- After the first point of a sequence. -/
def outsA (c : Dev nD) (t : Fin cfg0.N) (h0 : t.val % 32 = 0) : Left F :=
  (VO0_12.read (Elt F) (VO0_12.writes (Elt F) VO0_12.junk (runA m c t h0).1),
   VO0_13.read (Elt F) (VO0_13.writes (Elt F) VO0_13.junk (runA m c t h0).2.1),
   VO0_14.read (Elt F) (VO0_14.writes (Elt F) VO0_14.junk (runA m c t h0).2.2.1),
   VO0_15.read (Elt F) (VO0_15.writes (Elt F) VO0_15.junk (runA m c t h0).2.2.2.1),
   VO0_16.read (Elt F) (VO0_16.writes (Elt F) VO0_16.junk (runA m c t h0).2.2.2.2.1),
   VO0_17.read (Elt F) (VO0_17.writes (Elt F) VO0_17.junk (runA m c t h0).2.2.2.2.2.1),
   VO0_18.read (Elt F) (VO0_18.writes (Elt F) VO0_18.junk (runA m c t h0).2.2.2.2.2.2.1),
   VO0_19.read (Elt F) (VO0_19.writes (Elt F) VO0_19.junk (runA m c t h0).2.2.2.2.2.2.2.1),
   VO0_20.read (Elt F) (VO0_20.writes (Elt F) VO0_20.junk (runA m c t h0).2.2.2.2.2.2.2.2.1),
   VO0_21.read (Elt F) (VO0_21.writes (Elt F) VO0_21.junk (runA m c t h0).2.2.2.2.2.2.2.2.2.1),
   VO0_22.read (Elt F) (VO0_22.writes (Elt F) VO0_22.junk (runA m c t h0).2.2.2.2.2.2.2.2.2.2.1),
   VO0_23.read (Elt F) (VO0_23.writes (Elt F) VO0_23.junk (runA m c t h0).2.2.2.2.2.2.2.2.2.2.2.1),
   VO0_24.read (Elt F) (VO0_24.writes (Elt F) VO0_24.junk (runA m c t h0).2.2.2.2.2.2.2.2.2.2.2.2.1),
   VO0_25.read (Elt F) (VO0_25.writes (Elt F) VO0_25.junk (runA m c t h0).2.2.2.2.2.2.2.2.2.2.2.2.2.1),
   VS0_0.read (Elt F) (VS0_0.writes (Elt F) VS0_0.junk (runA m c t h0).2.2.2.2.2.2.2.2.2.2.2.2.2.2.1))

/-- After any other point, from the scratch contents `s`. -/
def outsB (c : Dev nD) (t : Fin cfg0.N) (h0 : ¬t.val % 32 = 0) (s : Vec F S8x128 .f32) : Left F :=
  (VO0_12.read (Elt F) (VO0_12.writes (Elt F) VO0_12.junk (runB m c t h0 s).1),
   VO0_13.read (Elt F) (VO0_13.writes (Elt F) VO0_13.junk (runB m c t h0 s).2.1),
   VO0_14.read (Elt F) (VO0_14.writes (Elt F) VO0_14.junk (runB m c t h0 s).2.2.1),
   VO0_15.read (Elt F) (VO0_15.writes (Elt F) VO0_15.junk (runB m c t h0 s).2.2.2.1),
   VO0_16.read (Elt F) (VO0_16.writes (Elt F) VO0_16.junk (runB m c t h0 s).2.2.2.2.1),
   VO0_17.read (Elt F) (VO0_17.writes (Elt F) VO0_17.junk (runB m c t h0 s).2.2.2.2.2.1),
   VO0_18.read (Elt F) (VO0_18.writes (Elt F) VO0_18.junk (runB m c t h0 s).2.2.2.2.2.2.1),
   VO0_19.read (Elt F) (VO0_19.writes (Elt F) VO0_19.junk (runB m c t h0 s).2.2.2.2.2.2.2.1),
   VO0_20.read (Elt F) (VO0_20.writes (Elt F) VO0_20.junk (runB m c t h0 s).2.2.2.2.2.2.2.2.1),
   VO0_21.read (Elt F) (VO0_21.writes (Elt F) VO0_21.junk (runB m c t h0 s).2.2.2.2.2.2.2.2.2.1),
   VO0_22.read (Elt F) (VO0_22.writes (Elt F) VO0_22.junk (runB m c t h0 s).2.2.2.2.2.2.2.2.2.2.1),
   VO0_23.read (Elt F) (VO0_23.writes (Elt F) VO0_23.junk (runB m c t h0 s).2.2.2.2.2.2.2.2.2.2.2.1),
   VO0_24.read (Elt F) (VO0_24.writes (Elt F) VO0_24.junk (runB m c t h0 s).2.2.2.2.2.2.2.2.2.2.2.2.1),
   VO0_25.read (Elt F) (VO0_25.writes (Elt F) VO0_25.junk (runB m c t h0 s).2.2.2.2.2.2.2.2.2.2.2.2.2.1),
   scM0_0.view.read (Elt F) (scM0_0.view.writes (Elt F) ((Memref.isWhole_whole cc0_scratch0).unread s) (runB m c t h0 s).2.2.2.2.2.2.2.2.2.2.2.2.2.2.1))

/-- After the point at position `n`. -/
def outsAt0 (c : Dev nD) : (n : ℕ) → n < cfg0.N → Left F
  | 0, hn => outsA m c ⟨0, hn⟩ (Nat.zero_mod _)
  | n + 1, hn =>
    if h0 : (n + 1) % 32 = 0 then outsA m c ⟨n + 1, hn⟩ h0
    else outsB m c ⟨n + 1, hn⟩ h0 (outsAt0 c n (Nat.lt_of_succ_lt hn)).2.2.2.2.2.2.2.2.2.2.2.2.2.2

theorem outsAt0_A (c : Dev nD) (t : Fin cfg0.N) (h0 : t.val % 32 = 0) :
    outsAt0 m c t.val t.isLt = outsA m c t h0 := by
  obtain ⟨n, hn⟩ := t
  cases n with
  | zero => exact rfl
  | succ n => exact (dif_pos h0).trans rfl

theorem outsAt0_B (c : Dev nD) (t : Fin cfg0.N) (h0 : ¬t.val % 32 = 0) :
    outsAt0 m c t.val t.isLt = outsB m c t h0
      (outsAt0 m c (t.val - 1) (Nat.lt_of_le_of_lt (Nat.sub_le _ _) t.isLt)).2.2.2.2.2.2.2.2.2.2.2.2.2.2 := by
  obtain ⟨n, hn⟩ := t
  cases n with
  | zero => exact absurd (Nat.zero_mod _) h0
  | succ n => exact (dif_neg h0).trans rfl

/-- What holds between points: before the first, the scratch at anything; afterwards, at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2.2.2.2.2.2)) ∗ (∃ r, prngReg c r)) := by
  cases n with
  | zero => exact absurd rfl hz
  | succ n => rfl

/-- The arrays as the call finds them, and what each staging buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
    | ⟨15, _⟩ => (outsAt0 m c t.val t.isLt).2.2.2.1
    | ⟨16, _⟩ => (outsAt0 m c t.val t.isLt).2.2.2.2.1
    | ⟨17, _⟩ => (outsAt0 m c t.val t.isLt).2.2.2.2.2.1
    | ⟨18, _⟩ => (outsAt0 m c t.val t.isLt).2.2.2.2.2.2.1
    | ⟨19, _⟩ => (outsAt0 m c t.val t.isLt).2.2.2.2.2.2.2.1
    | ⟨20, _⟩ => (outsAt0 m c t.val t.isLt).2.2.2.2.2.2.2.2.1
    | ⟨21, _⟩ => (outsAt0 m c t.val t.isLt).2.2.2.2.2.2.2.2.2.1
    | ⟨22, _⟩ => (outsAt0 m c t.val t.isLt).2.2.2.2.2.2.2.2.2.2.1
    | ⟨23, _⟩ => (outsAt0 m c t.val t.isLt).2.2.2.2.2.2.2.2.2.2.2.1
    | ⟨24, _⟩ => (outsAt0 m c t.val t.isLt).2.2.2.2.2.2.2.2.2.2.2.2.1
    | ⟨25, _⟩ => (outsAt0 m c t.val t.isLt).2.2.2.2.2.2.2.2.2.2.2.2.2.1
    | ⟨_ + 26, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]
theorem after0_14 (c : Dev nD) (t : Fin cfg0.N) : (dats m 0 c).after 14 t = (outsAt0 m c t.val t.isLt).2.2.1 := by dsimp only [dats]
theorem after0_15 (c : Dev nD) (t : Fin cfg0.N) : (dats m 0 c).after 15 t = (outsAt0 m c t.val t.isLt).2.2.2.1 := by dsimp only [dats]
theorem after0_16 (c : Dev nD) (t : Fin cfg0.N) : (dats m 0 c).after 16 t = (outsAt0 m c t.val t.isLt).2.2.2.2.1 := by dsimp only [dats]
theorem after0_17 (c : Dev nD) (t : Fin cfg0.N) : (dats m 0 c).after 17 t = (outsAt0 m c t.val t.isLt).2.2.2.2.2.1 := by dsimp only [dats]
theorem after0_18 (c : Dev nD) (t : Fin cfg0.N) : (dats m 0 c).after 18 t = (outsAt0 m c t.val t.isLt).2.2.2.2.2.2.1 := by dsimp only [dats]
theorem after0_19 (c : Dev nD) (t : Fin cfg0.N) : (dats m 0 c).after 19 t = (outsAt0 m c t.val t.isLt).2.2.2.2.2.2.2.1 := by dsimp only [dats]
theorem after0_20 (c : Dev nD) (t : Fin cfg0.N) : (dats m 0 c).after 20 t = (outsAt0 m c t.val t.isLt).2.2.2.2.2.2.2.2.1 := by dsimp only [dats]
theorem after0_21 (c : Dev nD) (t : Fin cfg0.N) : (dats m 0 c).after 21 t = (outsAt0 m c t.val t.isLt).2.2.2.2.2.2.2.2.2.1 := by dsimp only [dats]
theorem after0_22 (c : Dev nD) (t : Fin cfg0.N) : (dats m 0 c).after 22 t = (outsAt0 m c t.val t.isLt).2.2.2.2.2.2.2.2.2.2.1 := by dsimp only [dats]
theorem after0_23 (c : Dev nD) (t : Fin cfg0.N) : (dats m 0 c).after 23 t = (outsAt0 m c t.val t.isLt).2.2.2.2.2.2.2.2.2.2.2.1 := by dsimp only [dats]
theorem after0_24 (c : Dev nD) (t : Fin cfg0.N) : (dats m 0 c).after 24 t = (outsAt0 m c t.val t.isLt).2.2.2.2.2.2.2.2.2.2.2.2.1 := by dsimp only [dats]
theorem after0_25 (c : Dev nD) (t : Fin cfg0.N) : (dats m 0 c).after 25 t = (outsAt0 m c t.val t.isLt).2.2.2.2.2.2.2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- What it leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

end Cert.Proj
-- ==== Proof.ProjFrame.lean ====
module

public import proofs.«01_k».proof.Proof.ProjOuts

/-!
# The projection call: the body at any point
-/

@[expose] public section

set_option maxRecDepth 16384

noncomputable section

namespace Cert.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

set_option maxHeartbeats 19200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25]
  rw [show (dats m 0 c).Φ t.succ = PhiS m c (t.val + 1) t.isLt from rfl, PhiS_succ]
  have hN : t.val < 64 := lt_of_lt_of_eq t.isLt (show cfg0.N = 64 from N_0)
  by_cases h0 : t.val % 32 = 0
  · have hΦ : (dats m 0 c).Φ t.castSucc
        ⊢ iprop(iprop((∃ d, owns (c : Thread nD τ) scM0_0 fullShare d)) ∗ (∃ r, prngReg c r)) := by
      rw [← PhiA0_eq]
      by_cases hz : t.val = 0
      · rw [PhiS_castSucc m c t, PhiS_zero m c _ _ hz]
      · exact Phi_out m c _ hz
    refine (sep_mono_left hΦ).trans ?_
    rw [outsAt0_A m c t h0]
    unfold outsA; dsimp only
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
    iapply ((runA m c t h0).2.2.2.2.2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [HS0]; · iexact HS0
    iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%es0, HS0⟩⟩
    isplitl [HS0 Hg]
    · isplitl [HS0]
      · unfold owns; iexists _; isplitr
        swap; · iexact HS0
        ipureintro; exact View.read_writes_of_cover _ _ _ _ _ (coverA_s m c t h0)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr
      swap; · iexact H12
      ipureintro; exact View.read_writes_of_cover _ _ _ _ _ (coverA_12 m c t h0)
    isplitl [H13]
    · unfold owns; iexists _; isplitr
      swap; · iexact H13
      ipureintro; exact View.read_writes_of_cover _ _ _ _ _ (coverA_13 m c t h0)
    isplitl [H14]
    · unfold owns; iexists _; isplitr
      swap; · iexact H14
      ipureintro; exact View.read_writes_of_cover _ _ _ _ _ (coverA_14 m c t h0)
    isplitl [H15]
    · unfold owns; iexists _; isplitr
      swap; · iexact H15
      ipureintro; exact View.read_writes_of_cover _ _ _ _ _ (coverA_15 m c t h0)
    isplitl [H16]
    · unfold owns; iexists _; isplitr
      swap; · iexact H16
      ipureintro; exact View.read_writes_of_cover _ _ _ _ _ (coverA_16 m c t h0)
    isplitl [H17]
    · unfold owns; iexists _; isplitr
      swap; · iexact H17
      ipureintro; exact View.read_writes_of_cover _ _ _ _ _ (coverA_17 m c t h0)
    isplitl [H18]
    · unfold owns; iexists _; isplitr
      swap; · iexact H18
      ipureintro; exact View.read_writes_of_cover _ _ _ _ _ (coverA_18 m c t h0)
    isplitl [H19]
    · unfold owns; iexists _; isplitr
      swap; · iexact H19
      ipureintro; exact View.read_writes_of_cover _ _ _ _ _ (coverA_19 m c t h0)
    isplitl [H20]
    · unfold owns; iexists _; isplitr
      swap; · iexact H20
      ipureintro; exact View.read_writes_of_cover _ _ _ _ _ (coverA_20 m c t h0)
    isplitl [H21]
    · unfold owns; iexists _; isplitr
      swap; · iexact H21
      ipureintro; exact View.read_writes_of_cover _ _ _ _ _ (coverA_21 m c t h0)
    isplitl [H22]
    · unfold owns; iexists _; isplitr
      swap; · iexact H22
      ipureintro; exact View.read_writes_of_cover _ _ _ _ _ (coverA_22 m c t h0)
    isplitl [H23]
    · unfold owns; iexists _; isplitr
      swap; · iexact H23
      ipureintro; exact View.read_writes_of_cover _ _ _ _ _ (coverA_23 m c t h0)
    isplitl [H24]
    · unfold owns; iexists _; isplitr
      swap; · iexact H24
      ipureintro; exact View.read_writes_of_cover _ _ _ _ _ (coverA_24 m c t h0)
    unfold owns; iexists _; isplitr
    swap; · iexact H25
    ipureintro; exact View.read_writes_of_cover _ _ _ _ _ (coverA_25 m c t h0)
  · have hz : t.val ≠ 0 := fun h => h0 (by rw [h])
    rw [PhiS_castSucc m c t, PhiS_pos m c _ _ hz]
    rw [outsAt0_B m c t h0]
    unfold outsB; dsimp only
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
    iapply ((runB m c t h0 _).2.2.2.2.2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [HS0]; · iexact HS0
    iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, HS0⟩
    isplitl [HS0 Hg]
    · isplitl [HS0]
      · unfold owns; iexists _; isplitr
        swap; · iexact HS0
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr
      swap; · iexact H12
      ipureintro; exact View.read_writes_of_cover _ _ _ _ _ (coverB_12 m c t h0 _)
    isplitl [H13]
    · unfold owns; iexists _; isplitr
      swap; · iexact H13
      ipureintro; exact View.read_writes_of_cover _ _ _ _ _ (coverB_13 m c t h0 _)
    isplitl [H14]
    · unfold owns; iexists _; isplitr
      swap; · iexact H14
      ipureintro; exact View.read_writes_of_cover _ _ _ _ _ (coverB_14 m c t h0 _)
    isplitl [H15]
    · unfold owns; iexists _; isplitr
      swap; · iexact H15
      ipureintro; exact View.read_writes_of_cover _ _ _ _ _ (coverB_15 m c t h0 _)
    isplitl [H16]
    · unfold owns; iexists _; isplitr
      swap; · iexact H16
      ipureintro; exact View.read_writes_of_cover _ _ _ _ _ (coverB_16 m c t h0 _)
    isplitl [H17]
    · unfold owns; iexists _; isplitr
      swap; · iexact H17
      ipureintro; exact View.read_writes_of_cover _ _ _ _ _ (coverB_17 m c t h0 _)
    isplitl [H18]
    · unfold owns; iexists _; isplitr
      swap; · iexact H18
      ipureintro; exact View.read_writes_of_cover _ _ _ _ _ (coverB_18 m c t h0 _)
    isplitl [H19]
    · unfold owns; iexists _; isplitr
      swap; · iexact H19
      ipureintro; exact View.read_writes_of_cover _ _ _ _ _ (coverB_19 m c t h0 _)
    isplitl [H20]
    · unfold owns; iexists _; isplitr
      swap; · iexact H20
      ipureintro; exact View.read_writes_of_cover _ _ _ _ _ (coverB_20 m c t h0 _)
    isplitl [H21]
    · unfold owns; iexists _; isplitr
      swap; · iexact H21
      ipureintro; exact View.read_writes_of_cover _ _ _ _ _ (coverB_21 m c t h0 _)
    isplitl [H22]
    · unfold owns; iexists _; isplitr
      swap; · iexact H22
      ipureintro; exact View.read_writes_of_cover _ _ _ _ _ (coverB_22 m c t h0 _)
    isplitl [H23]
    · unfold owns; iexists _; isplitr
      swap; · iexact H23
      ipureintro; exact View.read_writes_of_cover _ _ _ _ _ (coverB_23 m c t h0 _)
    isplitl [H24]
    · unfold owns; iexists _; isplitr
      swap; · iexact H24
      ipureintro; exact View.read_writes_of_cover _ _ _ _ _ (coverB_24 m c t h0 _)
    unfold owns; iexists _; isplitr
    swap; · iexact H25
    ipureintro; exact View.read_writes_of_cover _ _ _ _ _ (coverB_25 m c t h0 _)

end Cert.Proj
-- ==== Proof.ProjRun.lean ====
module

public import proofs.«01_k».proof.Proof.ProjFrame
public import Idealize.ShloMosaic.Lib.Claim

/-!
# The projection call: its whole run
-/

@[expose] public section

set_option maxRecDepth 16384

noncomputable section

namespace Cert.Proj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Proj
-- ==== Proof.ProjPieces.lean ====
module

public import proofs.«01_k».proof.Proof.ProjOuts
public import Idealize.ShloMosaic.Lib.Pipeline.ValueKit

@[expose] public section

/-! # The projection call: the pieces of its first five outputs

What each of the first five output blocks is written with, as terms of the point's input blocks. -/

set_option maxRecDepth 16384

noncomputable section

namespace Cert.Proj

open Cert.Kernel2Ideal Cert.Kernel2Ideal.Gen
open Idealize.ShloMosaic Idealize.ShloMosaic.TcCoe Idealize.ShloMosaic.Tactic

variable {F : FTy → Type} [FloatOps F]

variable (m : (ℓ : Loc nD τ sig) → Buf (Elt F) ℓ)

theorem ld_x (X : Vec F S1x256x1024 .f32) (inb) : View.ld X (Rect.unit (s := S1x256x1024) ![0, 0, 0] ![1, 256, 1024] inb) = X :=
  View.ld_unit_lit (S := S1x256x1024) inb X (by decide)
theorem ld_m (X : Vec F S1x1x1024 .f32) (inb) : View.ld X (Rect.unit (s := S1x1x1024) ![0, 0, 0] ![1, 1, 1024] inb) = X :=
  View.ld_unit_lit (S := S1x1x1024) inb X (by decide)
theorem ld_g (X : Vec F S1x1024 .f32) (inb) : View.ld X (Rect.unit (s := S1x1024) ![0, 0] ![1, 1024] inb) = X :=
  View.ld_unit_lit (S := S1x1024) inb X (by decide)
theorem ld_w (X : Vec F S1024x3200 .bf16) (inb) : View.ld X (Rect.unit (s := S1024x3200) ![0, 0] ![1024, 3200] inb) = X :=
  View.ld_unit_lit (S := S1024x3200) inb X (by decide)
theorem ld_b (X : Vec F S1x128 .f32) (inb) : View.ld X (Rect.unit (s := S1x128) ![0, 0] ![1, 128] inb) = X :=
  View.ld_unit_lit (S := S1x128) inb X (by decide)

/-- The three tables of a block of rotations. -/
def rot0 (x : Vec F S3x256x128 .f32) : Vec F S1x256x128 .f32 := View.ld x (Rect.unit (s := S3x256x128) ![0, 0, 0] S1x256x128.size inb_S3x256x128_S1x256x128_0_0_0)
def rot1 (x : Vec F S3x256x128 .f32) : Vec F S1x256x128 .f32 := View.ld x (Rect.unit (s := S3x256x128) ![1, 0, 0] S1x256x128.size inb_S3x256x128_S1x256x128_1_0_0)
def rot2 (x : Vec F S3x256x128 .f32) : Vec F S1x256x128 .f32 := View.ld x (Rect.unit (s := S3x256x128) ![2, 0, 0] S1x256x128.size inb_S3x256x128_S1x256x128_2_0_0)

/-- The pieces of the block of rotated keys: two heads to a piece. -/
def kmList (v : Vec F S256x1024 .f32) (t0 t1 t2 : Vec F S1x256x128 .f32) : List (View.Piece (Elt F) S1x256x512 .f32) :=
  [⟨Rect.unit (s := S1x256x512) ![0, 0, 384] S1x256x128.size inb_S1x256x512_S1x256x128_0_0_384, k0_pay54 (k0_pay26 (k0_pay25 v) 120#32 t0 t1 t2) (k0_pay27 v t0 t1 t2)⟩,
   ⟨Rect.unit (s := S1x256x512) ![0, 0, 256] S1x256x128.size inb_S1x256x512_S1x256x128_0_0_256, k0_pay52 (k0_pay51 (k0_pay23 v t0 t1 t2) (k0_pay24 v t0 t1 t2))⟩,
   ⟨Rect.unit (s := S1x256x512) ![0, 0, 128] S1x256x128.size inb_S1x256x512_S1x256x128_0_0_128, k0_pay49 (k0_pay17 v t0 t1 t2) (k0_pay22 (k0_pay19 v) (k0_pay20 v t0) (k0_pay21 v t1) t2)⟩,
   ⟨Rect.unit (s := S1x256x512) ![0, 0, 0] S1x256x128.size inb_S1x256x512_S1x256x128_0_0_0, k0_pay47 (k0_pay12 v t0 t1 t2) (k0_pay16 (k0_pay13 v) (k0_pay14 v) (k0_pay15 v) t0 t1 t2)⟩]

/-- The pieces of the block of the second keys, likewise. -/
def kfList (v : Vec F S256x1024 .f32) : List (View.Piece (Elt F) S1x256x512 .f32) :=
  [⟨Rect.unit (s := S1x256x512) ![0, 0, 384] S1x256x128.size inb_S1x256x512_S1x256x128_0_0_384, k0_pay55 v⟩,
   ⟨Rect.unit (s := S1x256x512) ![0, 0, 256] S1x256x128.size inb_S1x256x512_S1x256x128_0_0_256, k0_pay53 v⟩,
   ⟨Rect.unit (s := S1x256x512) ![0, 0, 128] S1x256x128.size inb_S1x256x512_S1x256x128_0_0_128, k0_pay50 v⟩,
   ⟨Rect.unit (s := S1x256x512) ![0, 0, 0] S1x256x128.size inb_S1x256x512_S1x256x128_0_0_0, k0_pay48 v⟩]

/-- The pieces of the first five outputs, at the first point of a sequence. -/
theorem piecesA (c : Dev nD) (t : Fin cfg0.N) (h0 : t.val % 32 = 0) :
    (runA m c t h0).1 = kmList (k0_pay5 (iblk m c 0 t) (iblk m c 3 t) (iblk m c 2 t) (iblk m c 1 t) (iblk m c 4 t)) (rot0 (iblk m c 7 t)) (rot1 (iblk m c 7 t)) (rot2 (iblk m c 7 t))
    ∧ (runA m c t h0).2.1 = [⟨Rect.unit (s := S1x256x512) ![0, 0, 0] S1x256x512.size inb_S1x256x512_S1x256x512_0_0_0, k0_pay8 (k0_pay7 (iblk m c 0 t) (iblk m c 3 t) (iblk m c 2 t) (iblk m c 1 t) (iblk m c 4 t))⟩]
    ∧ (runA m c t h0).2.2.1 = kfList (k0_pay6 (iblk m c 0 t) (iblk m c 3 t) (iblk m c 2 t) (iblk m c 1 t) (iblk m c 4 t))
    ∧ (runA m c t h0).2.2.2.1 = [⟨Rect.unit (s := S1x256x512) ![0, 0, 0] S1x256x512.size inb_S1x256x512_S1x256x512_0_0_0, k0_pay9 (k0_pay3 (iblk m c 0 t) (iblk m c 3 t) (iblk m c 2 t) (iblk m c 1 t) (iblk m c 4 t))⟩]
    ∧ (runA m c t h0).2.2.2.2.1 = [⟨Rect.unit (s := S1x256x128) ![0, 0, 0] S1x256x128.size inb_S1x256x128_S1x256x128_0_0_0, k0_pay57 (k0_pay56 (k0_pay10 (k0_pay3 (iblk m c 0 t) (iblk m c 3 t) (iblk m c 2 t) (iblk m c 1 t) (iblk m c 4 t))) (iblk m c 6 t))⟩] := by
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_6 t).read_unread, (hs0_7 t).read_unread,
    ld_x, ld_m, ld_g, ld_w, ld_b]
  exact ⟨rfl, trivial, rfl, trivial, trivial⟩

/-- The pieces of the first five outputs, at any other point. -/
theorem piecesB (c : Dev nD) (t : Fin cfg0.N) (h0 : ¬t.val % 32 = 0) (s : Vec F S8x128 .f32) :
    (runB m c t h0 s).1 = kmList (k0_pay5 (iblk m c 0 t) (iblk m c 3 t) (iblk m c 2 t) (iblk m c 1 t) (iblk m c 4 t)) (rot0 (iblk m c 7 t)) (rot1 (iblk m c 7 t)) (rot2 (iblk m c 7 t))
    ∧ (runB m c t h0 s).2.1 = [⟨Rect.unit (s := S1x256x512) ![0, 0, 0] S1x256x512.size inb_S1x256x512_S1x256x512_0_0_0, k0_pay8 (k0_pay7 (iblk m c 0 t) (iblk m c 3 t) (iblk m c 2 t) (iblk m c 1 t) (iblk m c 4 t))⟩]
    ∧ (runB m c t h0 s).2.2.1 = kfList (k0_pay6 (iblk m c 0 t) (iblk m c 3 t) (iblk m c 2 t) (iblk m c 1 t) (iblk m c 4 t))
    ∧ (runB m c t h0 s).2.2.2.1 = [⟨Rect.unit (s := S1x256x512) ![0, 0, 0] S1x256x512.size inb_S1x256x512_S1x256x512_0_0_0, k0_pay9 (k0_pay3 (iblk m c 0 t) (iblk m c 3 t) (iblk m c 2 t) (iblk m c 1 t) (iblk m c 4 t))⟩]
    ∧ (runB m c t h0 s).2.2.2.2.1 = [⟨Rect.unit (s := S1x256x128) ![0, 0, 0] S1x256x128.size inb_S1x256x128_S1x256x128_0_0_0, k0_pay57 (k0_pay56 (k0_pay10 (k0_pay3 (iblk m c 0 t) (iblk m c 3 t) (iblk m c 2 t) (iblk m c 1 t) (iblk m c 4 t))) (iblk m c 6 t))⟩] := by
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_6 t).read_unread, (hs0_7 t).read_unread,
    ld_x, ld_m, ld_g, ld_w, ld_b]
  exact ⟨rfl, trivial, rfl, trivial, trivial⟩

end Cert.Proj
-- ==== Proof.ProjSpec.lean ====
module
public import Idealize.ShloMosaic.PureOps.Ideal
@[expose] public section
/-! # The input projection, as mathematics over the extended reals

One token's normalised and modulated input, a column of its projection, a rotated key, and a log forget gate. -/
noncomputable section
namespace Cert.Proj
open Idealize.ShloMosaic

/-- Feature `k` of a token: `x` over its root mean square, times the gain and one plus the scale, plus the shift. -/
def normed (x g sc sh : Fin 1024 → EReal) (k : Fin 1024) : EReal :=
  x k * Ideal.rsqrt (Ideal.div (∑ j, x j * x j) (Ideal.ofBits .f32 0x44800000#32) + Ideal.ofBits .f32 0x358637BD#32) * g k
    * (Ideal.ofBits .f32 0x3F800000#32 + sc k) + sh k

/-- A column of the projection of a token. -/
def proj (x g sc sh w : Fin 1024 → EReal) : EReal := ∑ k, normed x g sc sh k * w k

/-- A column of zeros projects to zero. -/
theorem proj_zero (x g sc sh w : Fin 1024 → EReal) (h : ∀ k, w k = 0) : proj x g sc sh w = 0 := by
  unfold proj
  simp only [h, mul_zero, Finset.sum_const_zero]

/-- Feature `d` of a head whose first sixteen features are rotated: the first eight with the next eight. -/
def roped (p : Nat → EReal) (co si : Nat → EReal) (d : Nat) : EReal :=
  if d < 8 then p d * co d - p (d + 8) * si d else if d < 16 then p d * co (d - 8) + p (d - 8) * si (d - 8) else p d

/-- The logarithm of the logistic function. -/
def logSig (z : EReal) : EReal := min z 0 - Ideal.log1p (Ideal.exp (0 - max z (-z)))

/-- The exponential is not negative. -/
theorem exp_nonneg (x : EReal) : 0 ≤ Ideal.exp x := by
  induction x with
  | bot => exact le_rfl
  | top => exact le_top
  | coe r => exact EReal.coe_nonneg.mpr (Real.exp_pos r).le

/-- One plus an exponential has a logarithm that is not −∞. -/
theorem log1p_ne_bot (x : EReal) : Ideal.log1p (Ideal.exp x) ≠ ⊥ := by
  unfold Ideal.log1p
  have h := exp_nonneg x
  have h1 : (1 : EReal) + Ideal.exp x = ⊤ ∨ ∃ r : ℝ, 0 < r ∧ (1 : EReal) + Ideal.exp x = (r : EReal) := by
    generalize Ideal.exp x = e at h
    induction e with
    | bot => exact absurd h (by simp)
    | top => left; rfl
    | coe r => right; exact ⟨1 + r, by have := EReal.coe_nonneg.mp h; linarith, by rw [EReal.coe_add, EReal.coe_one]⟩
  rcases h1 with h1 | ⟨r, hr, h1⟩
  · rw [h1]; exact fun h => nomatch h
  · rw [h1]
    change (if r ≤ 0 then (⊥ : EReal) else ((Real.log r : ℝ) : EReal)) ≠ ⊥
    rw [if_neg (not_le.mpr hr)]
    exact EReal.coe_ne_bot _

/-- Its usual form: minus the logarithm of one plus the exponential of `-z`, taken from the larger of `-z` and 0. -/
theorem logSig_eq (z : EReal) : - (max (-z) 0 + Ideal.log1p (Ideal.exp (- max (-z - 0) (-(-z - 0))))) = logSig z := by
  have h : max (-z - 0) (-(-z - 0)) = max z (-z) := by rw [sub_zero, neg_neg, max_comm]
  rw [h, logSig, zero_sub]
  have hb := log1p_ne_bot (- max z (-z))
  generalize Ideal.log1p (Ideal.exp (-max z (-z))) = L at hb
  have ha : max (-z) 0 ≠ ⊥ := fun h => absurd (h ▸ le_max_right (-z) 0 : (0 : EReal) ≤ ⊥) (by simp)
  rw [EReal.neg_add (.inl ha) (.inr hb)]
  congr 1
  rcases le_total z 0 with hz | hz
  · rw [min_eq_left hz, max_eq_left (EReal.le_neg_of_le_neg (by simpa using hz)), neg_neg]
  · rw [min_eq_right hz, max_eq_right (EReal.neg_le_of_neg_le (by simpa using hz)), neg_zero]
end Cert.Proj
-- ==== Proof.ProjBody.lean ====
module
public import proofs.«01_k».proof.Proof.ProjSpec
public import proofs.«01_k».proof.Proof.Gen.Kernel2Ideal.Skeleton
public import Idealize.ShloMosaic.Lib.Pointwise
@[expose] public section
/-! # One block of the projection, entry by entry -/
set_option maxRecDepth 16384
noncomputable section
namespace Cert.Proj
open Cert.Kernel2Ideal Cert.Kernel2Ideal.Gen Idealize.ShloMosaic Idealize.ShloMosaic.TcCoe Idealize.ShloMosaic.Tactic
section
variable (x : FVec Ideal S1x256x1024 .f32) (g : FVec Ideal S1x1024 .f32) (sc sh : FVec Ideal S1x1x1024 .f32) (w : FVec Ideal S1024x3200 .bf16)
/-- A normalized and modulated row. -/
theorem pay2_at (r : Fin 256) (k : Fin 1024) : k0_pay2 (F := Ideal) x g sc sh (ix2 r k)
    = normed (fun k => x (ix3 0 r k)) (fun k => g (ix2 0 k)) (fun k => sc (ix3 0 0 k)) (fun k => sh (ix3 0 0 k)) k := by
  unfold normed
  pointwise [k0_pay2]
/-- One column of the projection, for one row. -/
def pc (r : Fin 256) (c : Fin 3200) : EReal :=
  proj (fun k => x (ix3 0 r k)) (fun k => g (ix2 0 k)) (fun k => sc (ix3 0 0 k)) (fun k => sh (ix3 0 0 k)) (fun k => w (ix2 k c))
theorem pay3_at (r : Fin 256) (c : Fin 3200) : k0_pay3 (F := Ideal) x g sc sh w (ix2 r c) = pc x g sc sh w r c := by
  have h : ∀ y : FVec Ideal S256x1024 .bf16, matmul dot_S256x1024_S1024x3200_S256x3200_1_0_0_1_n_n none y (shapeCast S1024x3200 w shapeCasts_S1024x3200_S1024x3200) (constant S256x3200 .f32 0x00000000#32 : FVec Ideal S256x3200 .f32) (ix2 r c)
      = ∑ k : Fin 1024, y (ix2 r k) * w (ix2 k c) := fun y => by pointwise []
  refine (h (k0_pay2 (F := Ideal) x g sc sh)).trans ?_
  unfold pc proj
  exact Finset.sum_congr rfl fun k _ => by rw [pay2_at]
/-- The block's block keys. -/
theorem pay5_at (r : Fin 256) (c : Fin 1024) : k0_pay5 (F := Ideal) x g sc sh w (ix2 r c) = pc x g sc sh w r ⟨c.val, by omega⟩ := by
  rw [← pay3_at]
  unfold k0_pay5
  generalize k0_pay3 (F := Ideal) x g sc sh w = y
  pointwise []
/-- The block's gated keys. -/
theorem pay6_at (r : Fin 256) (c : Fin 1024) : k0_pay6 (F := Ideal) x g sc sh w (ix2 r c) = pc x g sc sh w r ⟨1024 + c.val, by omega⟩ := by
  rw [← pay3_at]
  unfold k0_pay6
  generalize k0_pay3 (F := Ideal) x g sc sh w = y
  pointwise []
/-- The block's block values. -/
theorem pay8_at (r : Fin 256) (c : Fin 512) : k0_pay8 (F := Ideal) (k0_pay7 x g sc sh w) (ix3 0 r c) = pc x g sc sh w r ⟨2048 + c.val, by omega⟩ := by
  rw [← pay3_at]
  unfold k0_pay8 k0_pay7
  generalize k0_pay3 (F := Ideal) x g sc sh w = y
  pointwise []
/-- The block's gated values. -/
theorem pay9_at (r : Fin 256) (c : Fin 512) : k0_pay9 (F := Ideal) (k0_pay3 x g sc sh w) (ix3 0 r c) = pc x g sc sh w r ⟨2560 + c.val, by omega⟩ := by
  rw [← pay3_at]
  generalize k0_pay3 (F := Ideal) x g sc sh w = y
  pointwise [k0_pay9]
/-- The block's log gates. -/
theorem pay57_at (b : FVec Ideal S1x128 .f32) (r : Fin 256) (l : Fin 128) :
    k0_pay57 (F := Ideal) (k0_pay56 (k0_pay10 (k0_pay3 x g sc sh w)) b) (ix3 0 r l)
      = if l.val < 8 then logSig (pc x g sc sh w r ⟨3072 + l.val, by omega⟩ + b (ix2 0 l)) else 0 := by
  rw [← pay3_at]
  generalize k0_pay3 (F := Ideal) x g sc sh w = y
  unfold logSig
  pointwise [k0_pay57, k0_pay56, k0_pay10]
  have hl : ∀ l : Fin 128, IntOp.cmpi .slt (BitVec.ofNat 32 l.val) 8#32 = if l.val < 8 then 1#1 else 0#1 := by decide
  rw [hl]
  split
  · rfl
  · rfl
end
section
variable (v : FVec Ideal S256x1024 .f32) (t0 t1 t2 : FVec Ideal S1x256x128 .f32)
/-- One head's lane after the rotation, its columns from `o` on. -/
def khv (o : Nat) (ho : o ≤ 896) (r : Fin 256) (e : Fin 128) : EReal :=
  v (ix2 r ⟨o + e.val, by omega⟩) * t0 (ix3 0 r e) + v (ix2 r ⟨o + (e.val + 128 - 120) % 128, by omega⟩) * t1 (ix3 0 r e)
    + v (ix2 r ⟨o + (e.val + 128 - 8) % 128, by omega⟩) * t2 (ix3 0 r e)
theorem head0 (r : Fin 256) (e : Fin 128) : k0_pay12 (F := Ideal) v t0 t1 t2 (ix2 r e) = khv v t0 t1 t2 0 (by decide) r e := by
  unfold khv
  pointwise [k0_pay12]
theorem head1 (r : Fin 256) (e : Fin 128) : k0_pay16 (F := Ideal) (k0_pay13 v) (k0_pay14 v) (k0_pay15 v) t0 t1 t2 (ix2 r e) = khv v t0 t1 t2 128 (by decide) r e := by
  unfold khv
  pointwise [k0_pay16, k0_pay13, k0_pay14, k0_pay15]
theorem head2 (r : Fin 256) (e : Fin 128) : k0_pay17 (F := Ideal) v t0 t1 t2 (ix2 r e) = khv v t0 t1 t2 256 (by decide) r e := by
  unfold khv
  pointwise [k0_pay17]
theorem head3 (r : Fin 256) (e : Fin 128) : k0_pay22 (F := Ideal) (k0_pay19 v) (k0_pay20 v t0) (k0_pay21 v t1) t2 (ix2 r e) = khv v t0 t1 t2 384 (by decide) r e := by
  unfold khv
  pointwise [k0_pay22, k0_pay19, k0_pay20, k0_pay21, k0_pay18]
theorem head4 (r : Fin 256) (e : Fin 128) : k0_pay23 (F := Ideal) v t0 t1 t2 (ix2 r e) = khv v t0 t1 t2 512 (by decide) r e := by
  unfold khv
  pointwise [k0_pay23]
theorem head5 (r : Fin 256) (e : Fin 128) : k0_pay24 (F := Ideal) v t0 t1 t2 (ix2 r e) = khv v t0 t1 t2 640 (by decide) r e := by
  unfold khv
  pointwise [k0_pay24]
theorem head6 (r : Fin 256) (e : Fin 128) : k0_pay26 (F := Ideal) (k0_pay25 v) 120#32 t0 t1 t2 (ix2 r e) = khv v t0 t1 t2 768 (by decide) r e := by
  unfold khv
  pointwise [k0_pay26, k0_pay25]
theorem head7 (r : Fin 256) (e : Fin 128) : k0_pay27 (F := Ideal) v t0 t1 t2 (ix2 r e) = khv v t0 t1 t2 896 (by decide) r e := by
  unfold khv
  pointwise [k0_pay27]
end
section
variable (a b : FVec Ideal S256x128 .f32)
theorem pair0 (r : Fin 256) (e : Fin 128) : k0_pay47 (F := Ideal) a b (ix3 0 r e) = a (ix2 r e) + b (ix2 r ⟨(e.val + 128 - 64) % 128, by omega⟩) := by
  pointwise [k0_pay47]
theorem pair1 (r : Fin 256) (e : Fin 128) : k0_pay49 (F := Ideal) a b (ix3 0 r e) = a (ix2 r e) + b (ix2 r ⟨(e.val + 128 - 64) % 128, by omega⟩) := by
  pointwise [k0_pay49]
theorem pair2 (r : Fin 256) (e : Fin 128) : k0_pay52 (F := Ideal) (k0_pay51 a b) (ix3 0 r e) = a (ix2 r e) + b (ix2 r ⟨(e.val + 128 - 64) % 128, by omega⟩) := by
  pointwise [k0_pay52, k0_pay51]
theorem pair3 (r : Fin 256) (e : Fin 128) : k0_pay54 (F := Ideal) a b (ix3 0 r e) = a (ix2 r e) + b (ix2 r ⟨(e.val + 128 - 64) % 128, by omega⟩) := by
  pointwise [k0_pay54]
end
section
variable (v : FVec Ideal S256x1024 .f32)
theorem gated0 (r : Fin 256) (e : Fin 128) : k0_pay48 (F := Ideal) v (ix3 0 r e)
    = v (ix2 r ⟨0 + e.val, by omega⟩) + v (ix2 r ⟨128 + (e.val + 128 - 64) % 128, by omega⟩) := by
  pointwise [k0_pay48]
theorem gated1 (r : Fin 256) (e : Fin 128) : k0_pay50 (F := Ideal) v (ix3 0 r e)
    = v (ix2 r ⟨256 + e.val, by omega⟩) + v (ix2 r ⟨384 + (e.val + 128 - 64) % 128, by omega⟩) := by
  pointwise [k0_pay50]
theorem gated2 (r : Fin 256) (e : Fin 128) : k0_pay53 (F := Ideal) v (ix3 0 r e)
    = v (ix2 r ⟨512 + e.val, by omega⟩) + v (ix2 r ⟨640 + (e.val + 128 - 64) % 128, by omega⟩) := by
  pointwise [k0_pay53]
theorem gated3 (r : Fin 256) (e : Fin 128) : k0_pay55 (F := Ideal) v (ix3 0 r e)
    = v (ix2 r ⟨768 + e.val, by omega⟩) + v (ix2 r ⟨896 + (e.val + 128 - 64) % 128, by omega⟩) := by
  pointwise [k0_pay55]
end
end Cert.Proj
-- ==== Proof.ProjKey.lean ====
module
public import proofs.«01_k».proof.Proof.ProjBody
public import Idealize.ShloMosaic.Lib.Pipeline.ValueKit
@[expose] public section
/-! # The projection call: two heads of keys to a tile

The kernel keeps each head of keys in 128 columns, the upper 64 of them zeros, rotates the first sixteen features
through lane shifts, and lays two heads side by side in one tile of 128 columns. -/
set_option maxRecDepth 16384
noncomputable section
namespace Cert.Proj
open Cert.Kernel2Ideal Cert.Kernel2Ideal.Gen Idealize.ShloMosaic Idealize.ShloMosaic.TcCoe Idealize.ShloMosaic.Tactic

/-- The rotation through lane shifts: a head's lane is its rotated feature, or zero above the features. -/
theorem rope_lane (u P co si : Nat → EReal) (hu : ∀ e, e < 128 → u e = if e < 64 then P e else 0) (e : Nat) (he : e < 128) :
    u e * (if e % 64 < 8 then co (e % 64) else if e % 64 < 16 then co (e % 64 - 8) else 1)
      + u ((e + 128 - 120) % 128) * (if e % 64 < 8 then - si (e % 64) else 0)
      + u ((e + 128 - 8) % 128) * (if e % 64 < 8 then 0 else if e % 64 < 16 then si (e % 64 - 8) else 0)
      = if e < 64 then roped P co si e else 0 := by
  rw [hu e he, hu _ (by omega), hu _ (by omega), roped]
  by_cases h64 : e < 64
  · have em : e % 64 = e := Nat.mod_eq_of_lt h64
    rw [em, if_pos h64, if_pos h64]
    by_cases h8 : e < 8
    · have e1 : (e + 128 - 120) % 128 = e + 8 := by omega
      rw [e1]
      simp only [h8, if_true, mul_zero, add_zero]
      rw [if_pos (by omega : e + 8 < 64), mul_neg, sub_eq_add_neg]
    · by_cases h16 : e < 16
      · have e2 : (e + 128 - 8) % 128 = e - 8 := by omega
        rw [e2]
        simp only [h8, h16, if_true, if_false, mul_zero, add_zero]
        rw [if_pos (by omega : e - 8 < 64)]
      · simp only [h8, h16, if_false, mul_zero, add_zero, mul_one]
  · rw [if_neg h64, if_neg h64, zero_mul, zero_add]
    by_cases h8 : e % 64 < 8
    · have h : ¬ (e + 128 - 120) % 128 < 64 := by omega
      simp only [h8, h, if_true, if_false, mul_zero, zero_mul, add_zero]
    · by_cases h16 : e % 64 < 16
      · have h : ¬ (e + 128 - 8) % 128 < 64 := by omega
        simp only [h8, h16, h, if_true, if_false, mul_zero, zero_mul, add_zero]
      · simp only [h8, h16, if_false, mul_zero, add_zero]

/-- Two heads side by side: of the pair `2q`, `2q+1`, the first in the lower 64 lanes, the second in the upper. -/
theorem side (A : Nat → Nat → EReal) (n : Nat) (hn : n < 8) (d : Nat) (hd : d < 64) :
    (fun n e => if e < 64 then A n e else 0) (2 * (n / 2)) (64 * (n % 2) + d)
      + (fun n e => if e < 64 then A n e else 0) (2 * (n / 2) + 1) ((64 * (n % 2) + d + 128 - 64) % 128) = A n d := by
  rcases Nat.mod_two_eq_zero_or_one n with h | h
  · have h1 : 2 * (n / 2) = n := by omega
    have h2 : 64 * (n % 2) + d = d := by omega
    have h3 : ¬ (d + 128 - 64) % 128 < 64 := by omega
    simp only [h1, h2, h3, hd, if_true, if_false, add_zero]
  · have h1 : 2 * (n / 2) + 1 = n := by omega
    have h2 : ¬ 64 * (n % 2) + d < 64 := by omega
    have h3 : (64 * (n % 2) + d + 128 - 64) % 128 = d := by omega
    simp only [h1, h2, h3, hd, if_true, if_false, zero_add]

/-- A tile of 128 columns of a block of 512: where it holds column `128 q + e`, the tile is the `q`-th. -/
theorem piece_at (o : Fin 4) (w : Vec Ideal S1x256x128 .f32) (f : Nat → Fin 256 → Nat → EReal) (hw : ∀ r (e : Fin 128), w (ix3 0 r e) = f o.val r e.val)
    (off : Fin 3 → Nat) (ho : off = ![0, 0, 128 * o.val]) (q : Fin 4) (r : Fin 256) (e : Fin 128) :
    View.TileAt (Val := Elt Ideal) (e := .f32) (ix3 0 r ⟨128 * q.val + e.val, by omega⟩ : S1x256x512.Idx) off S1x256x128.size w (f q.val r e.val) := by
  subst ho
  intro x hx
  obtain ⟨a, r', e', rfl⟩ : ∃ (a : Fin 1) (r' : Fin 256) (e' : Fin 128), x = ix3 a r' e' := ⟨x 0, x 1, x 2, by
    funext k; match k with | 0 => rfl | 1 => rfl | 2 => rfl⟩
  obtain rfl : a = 0 := Fin.fin_one_eq_zero a
  have h1 : r.val = 0 + r'.val := hx 1
  have h2 : 128 * q.val + e.val = 128 * o.val + e'.val := hx 2
  obtain rfl : r' = r := Fin.ext (by omega)
  have hq : q.val = o.val := by omega
  have he : e.val = e'.val := by omega
  rw [hw, hq, he]
end Cert.Proj
-- ==== Proof.ProjHost.lean ====
module
public import proofs.«01_k».proof.Proof.Gen.Kernel2Ideal.Frame.Runs
public import proofs.«01_k».proof.Proof.ProjSpec
public import Idealize.ShloMosaic.Lib.Claim
public import Idealize.ShloMosaic.Lib.StableHlo.RunRead
@[expose] public section
/-! # The arrays the host code prepares for the projection

Each is named as a function of the arguments, and the contents of the call's inputs are shown to be these. -/
set_option maxRecDepth 16384
noncomputable section
namespace Cert.Proj
open Cert.Kernel2Ideal Cert.Kernel2Ideal.Gen Idealize.ShloMosaic Idealize.ShloMosaic.TcCoe Idealize.ShloMosaic.Tactic

/-- Contents of the buffers. -/
abbrev Bufs := Valuation τ sig (Elt Ideal)

/-! The host operations in pieces: up to each concatenation, the concatenation, and the rest. -/
abbrev opsP0 : List (HloOp τ sig (Elt Ideal)) := hostOps0
abbrev opsP1 : List (HloOp τ sig (Elt Ideal)) := hostOps0_1
abbrev opsP2 : List (HloOp τ sig (Elt Ideal)) := hostOps0_2
abbrev opsP3 : List (HloOp τ sig (Elt Ideal)) := hostOps0_3
abbrev opsP4 : List (HloOp τ sig (Elt Ideal)) := hostOps0_4
abbrev opsP5 : List (HloOp τ sig (Elt Ideal)) := hostOps0_5
abbrev opsA6 : List (HloOp τ sig (Elt Ideal)) := List.take 1 hostOps0_6
abbrev opsB6 : List (HloOp τ sig (Elt Ideal)) := List.drop 1 hostOps0_6
abbrev opsP7 : List (HloOp τ sig (Elt Ideal)) := hostOps0_7
abbrev opsA8 : List (HloOp τ sig (Elt Ideal)) := List.take 24 hostOps0_8
abbrev opsB8 : List (HloOp τ sig (Elt Ideal)) := List.take 1 (List.drop 24 hostOps0_8)
abbrev opsC8 : List (HloOp τ sig (Elt Ideal)) := List.take 1 (List.drop 25 hostOps0_8)
abbrev opsD8 : List (HloOp τ sig (Elt Ideal)) := List.take 1 (List.drop 26 hostOps0_8)
abbrev opsE8 : List (HloOp τ sig (Elt Ideal)) := List.take 1 (List.drop 27 hostOps0_8)
abbrev opsF8 : List (HloOp τ sig (Elt Ideal)) := List.take 12 (List.drop 28 hostOps0_8)
abbrev opsG8 : List (HloOp τ sig (Elt Ideal)) := List.take 1 (List.drop 40 hostOps0_8)
abbrev opsH8 : List (HloOp τ sig (Elt Ideal)) := List.drop 41 hostOps0_8
abbrev opsP9 : List (HloOp τ sig (Elt Ideal)) := hostOps0_9
abbrev opsP10 : List (HloOp τ sig (Elt Ideal)) := hostOps0_10

theorem ops_eq : (List.flatten [hostOps0, hostOps0_1, hostOps0_2, hostOps0_3, hostOps0_4, hostOps0_5, hostOps0_6, hostOps0_7, hostOps0_8, hostOps0_9, hostOps0_10] : List (HloOp τ sig (Elt Ideal))) = opsP0 ++ (opsP1 ++ (opsP2 ++ (opsP3 ++ (opsP4 ++ (opsP5 ++ (opsA6 ++ (opsB6 ++ (opsP7 ++ (opsA8 ++ (opsB8 ++ (opsC8 ++ (opsD8 ++ (opsE8 ++ (opsF8 ++ (opsG8 ++ (opsH8 ++ (opsP9 ++ (opsP10)))))))))))))))))) := rfl

/-! Each piece leaves what it does not write. -/
variable (σ : Bufs)
theorem thruP0 {r : Ref sig .tc} (h : r ∉ [main_cst, main_cst_0, main_v0, main_v1, main_v2, main_v3, main_v4, main_v5, main_v6, main_v7, main_v8, main_v9, main_c]) : StableHlo.after opsP0 σ (Proc.tc.devRef r) = σ (Proc.tc.devRef r) := StableHlo.after_unwritten _ rfl h σ
theorem thruP1 {r : Ref sig .tc} (h : r ∉ [main_call0_v0, main_v10]) : StableHlo.after opsP1 σ (Proc.tc.devRef r) = σ (Proc.tc.devRef r) := StableHlo.after_unwritten _ rfl h σ
theorem thruP2 {r : Ref sig .tc} (h : r ∉ [main_v11, main_v12, main_c_1]) : StableHlo.after opsP2 σ (Proc.tc.devRef r) = σ (Proc.tc.devRef r) := StableHlo.after_unwritten _ rfl h σ
theorem thruP3 {r : Ref sig .tc} (h : r ∉ [main_call1_v0, main_v13]) : StableHlo.after opsP3 σ (Proc.tc.devRef r) = σ (Proc.tc.devRef r) := StableHlo.after_unwritten _ rfl h σ
theorem thruP4 {r : Ref sig .tc} (h : r ∉ [main_v14, main_c_2]) : StableHlo.after opsP4 σ (Proc.tc.devRef r) = σ (Proc.tc.devRef r) := StableHlo.after_unwritten _ rfl h σ
theorem thruP5 {r : Ref sig .tc} (h : r ∉ [main_call2_v0, main_v15]) : StableHlo.after opsP5 σ (Proc.tc.devRef r) = σ (Proc.tc.devRef r) := StableHlo.after_unwritten _ rfl h σ
theorem thruA6 {r : Ref sig .tc} (h : r ∉ [main_v16]) : StableHlo.after opsA6 σ (Proc.tc.devRef r) = σ (Proc.tc.devRef r) := StableHlo.after_unwritten _ rfl h σ
theorem thruB6 {r : Ref sig .tc} (h : r ∉ [main_v17, main_cst_3, main_v18, main_v19, main_cst_4, main_v20, main_v21, main_v22, main_v23, main_v24, main_c_5]) : StableHlo.after opsB6 σ (Proc.tc.devRef r) = σ (Proc.tc.devRef r) := StableHlo.after_unwritten _ rfl h σ
theorem thruP7 {r : Ref sig .tc} (h : r ∉ [main_call3_v0, main_v25]) : StableHlo.after opsP7 σ (Proc.tc.devRef r) = σ (Proc.tc.devRef r) := StableHlo.after_unwritten _ rfl h σ
theorem thruA8 {r : Ref sig .tc} (h : r ∉ [main_v26, main_v27, main_v28, main_v29, main_cst_6, main_v30, main_v31, main_cst_7, main_v32, main_v33, main_v34, main_v35, main_v36, main_v37, main_v38, main_v39, main_v40, main_v41, main_cst_8, main_v42, main_cst_9, main_v43, main_cst_10, main_v44]) : StableHlo.after opsA8 σ (Proc.tc.devRef r) = σ (Proc.tc.devRef r) := StableHlo.after_unwritten _ rfl h σ
theorem thruB8 {r : Ref sig .tc} (h : r ∉ [main_v45]) : StableHlo.after opsB8 σ (Proc.tc.devRef r) = σ (Proc.tc.devRef r) := StableHlo.after_unwritten _ rfl h σ
theorem thruC8 {r : Ref sig .tc} (h : r ∉ [main_v46]) : StableHlo.after opsC8 σ (Proc.tc.devRef r) = σ (Proc.tc.devRef r) := StableHlo.after_unwritten _ rfl h σ
theorem thruD8 {r : Ref sig .tc} (h : r ∉ [main_v47]) : StableHlo.after opsD8 σ (Proc.tc.devRef r) = σ (Proc.tc.devRef r) := StableHlo.after_unwritten _ rfl h σ
theorem thruE8 {r : Ref sig .tc} (h : r ∉ [main_v48]) : StableHlo.after opsE8 σ (Proc.tc.devRef r) = σ (Proc.tc.devRef r) := StableHlo.after_unwritten _ rfl h σ
theorem thruF8 {r : Ref sig .tc} (h : r ∉ [main_v49, main_v50, main_v51, main_v52, main_v53, main_v54, main_v55, main_v56, main_v57, main_v58, main_v59, main_v60]) : StableHlo.after opsF8 σ (Proc.tc.devRef r) = σ (Proc.tc.devRef r) := StableHlo.after_unwritten _ rfl h σ
theorem thruG8 {r : Ref sig .tc} (h : r ∉ [main_v61]) : StableHlo.after opsG8 σ (Proc.tc.devRef r) = σ (Proc.tc.devRef r) := StableHlo.after_unwritten _ rfl h σ
theorem thruH8 {r : Ref sig .tc} (h : r ∉ [main_v62, main_v63, main_v64, main_v65, main_v66, main_cst_11, main_v67]) : StableHlo.after opsH8 σ (Proc.tc.devRef r) = σ (Proc.tc.devRef r) := StableHlo.after_unwritten _ rfl h σ
theorem thruP9 {r : Ref sig .tc} (h : r ∉ [main_call4_v0, main_call4_c, main_call4_v1, main_call4_v2, main_call4_v3, main_call4_v4, main_call4_cst, main_call4_v5, main_v68]) : StableHlo.after opsP9 σ (Proc.tc.devRef r) = σ (Proc.tc.devRef r) := StableHlo.after_unwritten _ rfl h σ
theorem thruP10 {r : Ref sig .tc} (h : r ∉ [main_v69, main_v70]) : StableHlo.after opsP10 σ (Proc.tc.devRef r) = σ (Proc.tc.devRef r) := StableHlo.after_unwritten _ rfl h σ

/-! ## The pure functions -/
/-- One more axis in the middle. -/
def mid (x : FVec Ideal S2x1024 .f32) : FVec Ideal S2x1x1024 .f32 := broadcastInDim S2x1x1024 ![0, 2] bcast_S2x1024_S2x1x1024_0_2 x
/-- The columns of the block keys. -/
def colsK (x : FVec Ideal S1024x3080 .f32) : FVec Ideal S1024x512 .f32 := extractStridedSlice S1024x512 ![0, 512] x slices_S1024x3080_S1024x512_0_512
/-- The columns of the block values. -/
def colsV (x : FVec Ideal S1024x3080 .f32) : FVec Ideal S1024x512 .f32 := extractStridedSlice S1024x512 ![0, 1024] x slices_S1024x3080_S1024x512_0_1024
/-- The columns of the gated keys. -/
def colsF (x : FVec Ideal S1024x3080 .f32) : FVec Ideal S1024x512 .f32 := extractStridedSlice S1024x512 ![0, 2048] x slices_S1024x3080_S1024x512_0_2048
/-- The columns of the gated values. -/
def colsG (x : FVec Ideal S1024x3080 .f32) : FVec Ideal S1024x512 .f32 := extractStridedSlice S1024x512 ![0, 2560] x slices_S1024x3080_S1024x512_0_2560
/-- The columns of the gates. -/
def colsL (x : FVec Ideal S1024x3080 .f32) : FVec Ideal S1024x8 .f32 := extractStridedSlice S1024x8 ![0, 3072] x slices_S1024x3080_S1024x8_0_3072
/-- Head by head. -/
def heads (x : FVec Ideal S1024x512 .f32) : FVec Ideal S1024x8x64 .f32 := shapeCast S1024x8x64 x shapeCasts_S1024x512_S1024x8x64
/-- Each head padded to 128 columns. -/
def widen (x : FVec Ideal S1024x8x64 .f32) (z : IVec S_ 32) : FVec Ideal S1024x8x128 .f32 :=
  pad S1024x8x128 ![0, 0, 0] ![0, 0, 64] ![0, 0, 0] x (sitofp .f32 z : FVec Ideal S_ .f32) pads_S1024x8x64_S1024x8x128_000_000_0640 h_S_
/-- The heads side by side. -/
def flat (x : FVec Ideal S1024x8x128 .f32) : FVec Ideal S1024x1024 .f32 := shapeCast S1024x1024 x shapeCasts_S1024x8x128_S1024x1024
/-- Eight columns padded to 128. -/
def wide8 (x : FVec Ideal S1024x8 .f32) (z : IVec S_ 32) : FVec Ideal S1024x128 .f32 :=
  pad S1024x128 ![0, 0] ![0, 120] ![0, 0] x (sitofp .f32 z : FVec Ideal S_ .f32) pads_S1024x8_S1024x128_000_01200 h_S_
/-- Eight entries padded to 128. -/
def widen1 (x : FVec Ideal S8 .f32) (z : IVec S_ 32) : FVec Ideal S128 .f32 :=
  pad S128 ![0] ![120] ![0] x (sitofp .f32 z : FVec Ideal S_ .f32) pads_S8_S128_01200 h_S_
/-- The five groups of columns side by side. -/
def cat5 (a b : FVec Ideal S1024x1024 .f32) (c d : FVec Ideal S1024x512 .f32) (e : FVec Ideal S1024x128 .f32) : FVec Ideal S1024x3200 .f32 :=
  concatenate S1024x3200 1 [⟨S1024x1024, a⟩, ⟨S1024x1024, b⟩, ⟨S1024x512, c⟩, ⟨S1024x512, d⟩, ⟨S1024x128, e⟩] concatenates_S1024x1024_S1024x1024_S1024x512_S1024x512_S1024x128_S1024x3200_d1
/-- Rounded. -/
def rnd (x : FVec Ideal S1024x3200 .f32) : FVec Ideal S1024x3200 .bf16 := truncf .bf16 x bitsLt_bf16_f32
/-- The projection weights as the call takes them. -/
def wn (x : FVec Ideal S1024x3080 .f32) : FVec Ideal S1024x3200 .bf16 :=
  rnd (cat5 (flat (widen (heads (colsK x)) (constantI S_ 32 0#32))) (flat (widen (heads (colsF x)) (constantI S_ 32 0#32)))
    (colsV x) (colsG x) (wide8 (colsL x) (constantI S_ 32 0#32)))
/-- As one row. -/
def row128 (x : FVec Ideal S128 .f32) : FVec Ideal S1x128 .f32 := shapeCast S1x128 x shapeCasts_S128_S1x128
/-- As one row. -/
def row1024 (x : FVec Ideal S1024 .f32) : FVec Ideal S1x1024 .f32 := shapeCast S1x1024 x shapeCasts_S1024_S1x1024
/-- The angles of the rotation. -/
def angT : FVec Ideal S8192x8 .f32 :=
  mulf (broadcastInDim S8192x8 ![0, 1] bcast_S8192x1_S8192x8_0_1 (broadcastInDim S8192x1 ![0] bcast_S8192_S8192x1_0 (sitofp .f32 (iotaInDim S8192 32 0) : FVec Ideal S8192 .f32)))
    (broadcastInDim S8192x8 ![0, 1] bcast_S1x8_S8192x8_0_1 (broadcastInDim S1x8 ![1] bcast_S8_S1x8_1
      (Host.powf (F := Ideal) (broadcastInDim S8 ![] bcast_S_S8 (constant (F := Ideal) S_ .f32 0x48F42400#32))
        (Host.divf (F := Ideal) (Host.negf (F := Ideal) (sitofp .f32 (iotaInDim S8 32 0) : FVec Ideal S8 .f32)) (broadcastInDim S8 ![] bcast_S_S8 (constant (F := Ideal) S_ .f32 0x41000000#32))))))
/-- Their cosines. -/
def cosT : FVec Ideal S8192x8 .f32 := Host.cos (F := Ideal) angT
/-- Their sines. -/
def sinT : FVec Ideal S8192x8 .f32 := Host.sin (F := Ideal) angT
/-- The opposite. -/
def neg8 (x : FVec Ideal S8192x8 .f32) : FVec Ideal S8192x8 .f32 := Host.negf x
/-- Ones. -/
def onesT : FVec Ideal S8192x48 .f32 := broadcastInDim S8192x48 ![] bcast_S_S8192x48 (constant (F := Ideal) S_ .f32 0x3F800000#32)
/-- Zeros. -/
def zerosT : FVec Ideal S8192x48 .f32 := broadcastInDim S8192x48 ![] bcast_S_S8192x48 (constant (F := Ideal) S_ .f32 0x00000000#32)
/-- Zeros. -/
def zeros8 : FVec Ideal S8192x8 .f32 := broadcastInDim S8192x8 ![] bcast_S_S8192x8 (constant (F := Ideal) S_ .f32 0x00000000#32)
/-- The columns of one table. -/
def cat64 (a b : FVec Ideal S8192x8 .f32) (c : FVec Ideal S8192x48 .f32) : FVec Ideal S8192x64 .f32 :=
  concatenate S8192x64 1 [⟨S8192x8, a⟩, ⟨S8192x8, b⟩, ⟨S8192x48, c⟩] concatenates_S8192x8_S8192x8_S8192x48_S8192x64_d1
/-- A table twice side by side. -/
def tile (x : FVec Ideal S8192x64 .f32) : FVec Ideal S1x8192x128 .f32 :=
  broadcastInDim S1x8192x128 ![1, 2] bcast_S8192x128_S1x8192x128_1_2 (shapeCast S8192x128 (broadcastInDim S1x8192x2x64 ![0, 1, 2, 3] bcast_S1x8192x1x64_S1x8192x2x64_0_1_2_3
    (shapeCast S1x8192x1x64 x shapeCasts_S8192x64_S1x8192x1x64)) shapeCasts_S1x8192x2x64_S8192x128)
/-- The three tables. -/
def stack (a b c : FVec Ideal S1x8192x128 .f32) : FVec Ideal S3x8192x128 .f32 :=
  concatenate S3x8192x128 0 [⟨S1x8192x128, a⟩, ⟨S1x8192x128, b⟩, ⟨S1x8192x128, c⟩] concatenates_S1x8192x128_S1x8192x128_S1x8192x128_S3x8192x128_d0
/-- The tables of the rotation: what a column keeps, what it takes from eight columns on, and from eight columns back. -/
def tabs : FVec Ideal S3x8192x128 .f32 :=
  stack (tile (cat64 cosT cosT onesT)) (tile (cat64 (neg8 sinT) zeros8 zerosT)) (tile (cat64 zeros8 sinT zerosT))

/-! ## Each piece, from any contents -/
theorem rdP0_v0 : (StableHlo.after opsP0 σ (Proc.tc.devRef main_v0) : FVec Ideal S2x1x1024 .f32) = mid (σ (Proc.tc.devRef main_arg1) : FVec Ideal S2x1024 .f32) := by
  simp only [opsP0, hostOps0]
  entry_read
  all_goals rfl
theorem rdP0_v1 : (StableHlo.after opsP0 σ (Proc.tc.devRef main_v1) : FVec Ideal S2x1x1024 .f32) = mid (σ (Proc.tc.devRef main_arg2) : FVec Ideal S2x1024 .f32) := by
  simp only [opsP0, hostOps0]
  entry_read
  all_goals rfl
theorem rdP0_v9 : (StableHlo.after opsP0 σ (Proc.tc.devRef main_v9) : FVec Ideal S1024x8x64 .f32) = heads (colsK (σ (Proc.tc.devRef main_arg4) : FVec Ideal S1024x3080 .f32)) := by
  simp only [opsP0, hostOps0]
  entry_read
  all_goals rfl
theorem rdP0_v4 : (StableHlo.after opsP0 σ (Proc.tc.devRef main_v4) : FVec Ideal S1024x512 .f32) = colsV (σ (Proc.tc.devRef main_arg4) : FVec Ideal S1024x3080 .f32) := by
  simp only [opsP0, hostOps0]
  entry_read
  all_goals rfl
theorem rdP0_v6 : (StableHlo.after opsP0 σ (Proc.tc.devRef main_v6) : FVec Ideal S1024x512 .f32) = colsF (σ (Proc.tc.devRef main_arg4) : FVec Ideal S1024x3080 .f32) := by
  simp only [opsP0, hostOps0]
  entry_read
  all_goals rfl
theorem rdP0_v7 : (StableHlo.after opsP0 σ (Proc.tc.devRef main_v7) : FVec Ideal S1024x512 .f32) = colsG (σ (Proc.tc.devRef main_arg4) : FVec Ideal S1024x3080 .f32) := by
  simp only [opsP0, hostOps0]
  entry_read
  all_goals rfl
theorem rdP0_v8 : (StableHlo.after opsP0 σ (Proc.tc.devRef main_v8) : FVec Ideal S1024x8 .f32) = colsL (σ (Proc.tc.devRef main_arg4) : FVec Ideal S1024x3080 .f32) := by
  simp only [opsP0, hostOps0]
  entry_read
  all_goals rfl
theorem rdP0_c : (StableHlo.after opsP0 σ (Proc.tc.devRef main_c) : IVec S_ 32) = constantI S_ 32 0#32 := by
  simp only [opsP0, hostOps0]
  entry_read
  all_goals rfl
theorem rdP2_c_1 : (StableHlo.after opsP2 σ (Proc.tc.devRef main_c_1) : IVec S_ 32) = constantI S_ 32 0#32 := by
  simp only [opsP2, hostOps0_2]
  entry_read
  all_goals rfl
theorem rdP4_c_2 : (StableHlo.after opsP4 σ (Proc.tc.devRef main_c_2) : IVec S_ 32) = constantI S_ 32 0#32 := by
  simp only [opsP4, hostOps0_4]
  entry_read
  all_goals rfl
theorem rdB6_c_5 : (StableHlo.after opsB6 σ (Proc.tc.devRef main_c_5) : IVec S_ 32) = constantI S_ 32 0#32 := by
  simp only [opsB6, hostOps0_6, List.take_succ_cons, List.take_zero, List.drop_succ_cons, List.drop_zero]
  entry_read
  all_goals rfl
theorem rdP1_v10 : (StableHlo.after opsP1 σ (Proc.tc.devRef main_v10) : FVec Ideal S1024x8x128 .f32) = widen (σ (Proc.tc.devRef main_v9) : FVec Ideal S1024x8x64 .f32) (σ (Proc.tc.devRef main_c) : IVec S_ 32) := by
  simp only [opsP1, hostOps0_1]
  entry_read
  all_goals rfl
theorem rdP2_v11 : (StableHlo.after opsP2 σ (Proc.tc.devRef main_v11) : FVec Ideal S1024x1024 .f32) = flat (σ (Proc.tc.devRef main_v10) : FVec Ideal S1024x8x128 .f32) := by
  simp only [opsP2, hostOps0_2]
  entry_read
  all_goals rfl
theorem rdP2_v12 : (StableHlo.after opsP2 σ (Proc.tc.devRef main_v12) : FVec Ideal S1024x8x64 .f32) = heads (σ (Proc.tc.devRef main_v6) : FVec Ideal S1024x512 .f32) := by
  simp only [opsP2, hostOps0_2]
  entry_read
  all_goals rfl
theorem rdP3_v13 : (StableHlo.after opsP3 σ (Proc.tc.devRef main_v13) : FVec Ideal S1024x8x128 .f32) = widen (σ (Proc.tc.devRef main_v12) : FVec Ideal S1024x8x64 .f32) (σ (Proc.tc.devRef main_c_1) : IVec S_ 32) := by
  simp only [opsP3, hostOps0_3]
  entry_read
  all_goals rfl
theorem rdP4_v14 : (StableHlo.after opsP4 σ (Proc.tc.devRef main_v14) : FVec Ideal S1024x1024 .f32) = flat (σ (Proc.tc.devRef main_v13) : FVec Ideal S1024x8x128 .f32) := by
  simp only [opsP4, hostOps0_4]
  entry_read
  all_goals rfl
theorem rdP5_v15 : (StableHlo.after opsP5 σ (Proc.tc.devRef main_v15) : FVec Ideal S1024x128 .f32) = wide8 (σ (Proc.tc.devRef main_v8) : FVec Ideal S1024x8 .f32) (σ (Proc.tc.devRef main_c_2) : IVec S_ 32) := by
  simp only [opsP5, hostOps0_5]
  entry_read
  all_goals rfl
theorem rdA6_v16 : (StableHlo.after opsA6 σ (Proc.tc.devRef main_v16) : FVec Ideal S1024x3200 .f32) = cat5 (σ (Proc.tc.devRef main_v11) : FVec Ideal S1024x1024 .f32) (σ (Proc.tc.devRef main_v14) : FVec Ideal S1024x1024 .f32) (σ (Proc.tc.devRef main_v4) : FVec Ideal S1024x512 .f32) (σ (Proc.tc.devRef main_v7) : FVec Ideal S1024x512 .f32) (σ (Proc.tc.devRef main_v15) : FVec Ideal S1024x128 .f32) := by
  simp only [opsA6, hostOps0_6, List.take_succ_cons, List.take_zero, List.drop_succ_cons, List.drop_zero]
  rw [StableHlo.after_cons, StableHlo.after_nil, StableHlo.nary_result]
  all_goals rfl
theorem rdB6_v17 : (StableHlo.after opsB6 σ (Proc.tc.devRef main_v17) : FVec Ideal S1024x3200 .bf16) = rnd (σ (Proc.tc.devRef main_v16) : FVec Ideal S1024x3200 .f32) := by
  simp only [opsB6, hostOps0_6, List.take_succ_cons, List.take_zero, List.drop_succ_cons, List.drop_zero]
  entry_read
  all_goals rfl
theorem rdP7_v25 : (StableHlo.after opsP7 σ (Proc.tc.devRef main_v25) : FVec Ideal S128 .f32) = widen1 (σ (Proc.tc.devRef main_arg5) : FVec Ideal S8 .f32) (σ (Proc.tc.devRef main_c_5) : IVec S_ 32) := by
  simp only [opsP7, hostOps0_7]
  entry_read
  all_goals rfl
theorem rdA8_v26 : (StableHlo.after opsA8 σ (Proc.tc.devRef main_v26) : FVec Ideal S1x128 .f32) = row128 (σ (Proc.tc.devRef main_v25) : FVec Ideal S128 .f32) := by
  simp only [opsA8, hostOps0_8, List.take_succ_cons, List.take_zero, List.drop_succ_cons, List.drop_zero]
  entry_read
  all_goals rfl
theorem rdA8_v40 : (StableHlo.after opsA8 σ (Proc.tc.devRef main_v40) : FVec Ideal S8192x8 .f32) = cosT := by
  simp only [opsA8, hostOps0_8, List.take_succ_cons, List.take_zero, List.drop_succ_cons, List.drop_zero]
  entry_read
  all_goals rfl
theorem rdA8_v41 : (StableHlo.after opsA8 σ (Proc.tc.devRef main_v41) : FVec Ideal S8192x8 .f32) = sinT := by
  simp only [opsA8, hostOps0_8, List.take_succ_cons, List.take_zero, List.drop_succ_cons, List.drop_zero]
  entry_read
  all_goals rfl
theorem rdA8_v42 : (StableHlo.after opsA8 σ (Proc.tc.devRef main_v42) : FVec Ideal S8192x48 .f32) = onesT := by
  simp only [opsA8, hostOps0_8, List.take_succ_cons, List.take_zero, List.drop_succ_cons, List.drop_zero]
  entry_read
  all_goals rfl
theorem rdA8_v43 : (StableHlo.after opsA8 σ (Proc.tc.devRef main_v43) : FVec Ideal S8192x48 .f32) = zerosT := by
  simp only [opsA8, hostOps0_8, List.take_succ_cons, List.take_zero, List.drop_succ_cons, List.drop_zero]
  entry_read
  all_goals rfl
theorem rdA8_v44 : (StableHlo.after opsA8 σ (Proc.tc.devRef main_v44) : FVec Ideal S8192x8 .f32) = zeros8 := by
  simp only [opsA8, hostOps0_8, List.take_succ_cons, List.take_zero, List.drop_succ_cons, List.drop_zero]
  entry_read
  all_goals rfl
theorem rdB8_v45 : (StableHlo.after opsB8 σ (Proc.tc.devRef main_v45) : FVec Ideal S8192x64 .f32) = cat64 (σ (Proc.tc.devRef main_v40) : FVec Ideal S8192x8 .f32) (σ (Proc.tc.devRef main_v40) : FVec Ideal S8192x8 .f32) (σ (Proc.tc.devRef main_v42) : FVec Ideal S8192x48 .f32) := by
  simp only [opsB8, hostOps0_8, List.take_succ_cons, List.take_zero, List.drop_succ_cons, List.drop_zero]
  rw [StableHlo.after_cons, StableHlo.after_nil, StableHlo.nary_result]
  all_goals rfl
theorem rdC8_v46 : (StableHlo.after opsC8 σ (Proc.tc.devRef main_v46) : FVec Ideal S8192x8 .f32) = neg8 (σ (Proc.tc.devRef main_v41) : FVec Ideal S8192x8 .f32) := by
  simp only [opsC8, hostOps0_8, List.take_succ_cons, List.take_zero, List.drop_succ_cons, List.drop_zero]
  entry_read
  all_goals rfl
theorem rdD8_v47 : (StableHlo.after opsD8 σ (Proc.tc.devRef main_v47) : FVec Ideal S8192x64 .f32) = cat64 (σ (Proc.tc.devRef main_v46) : FVec Ideal S8192x8 .f32) (σ (Proc.tc.devRef main_v44) : FVec Ideal S8192x8 .f32) (σ (Proc.tc.devRef main_v43) : FVec Ideal S8192x48 .f32) := by
  simp only [opsD8, hostOps0_8, List.take_succ_cons, List.take_zero, List.drop_succ_cons, List.drop_zero]
  rw [StableHlo.after_cons, StableHlo.after_nil, StableHlo.nary_result]
  all_goals rfl
theorem rdE8_v48 : (StableHlo.after opsE8 σ (Proc.tc.devRef main_v48) : FVec Ideal S8192x64 .f32) = cat64 (σ (Proc.tc.devRef main_v44) : FVec Ideal S8192x8 .f32) (σ (Proc.tc.devRef main_v41) : FVec Ideal S8192x8 .f32) (σ (Proc.tc.devRef main_v43) : FVec Ideal S8192x48 .f32) := by
  simp only [opsE8, hostOps0_8, List.take_succ_cons, List.take_zero, List.drop_succ_cons, List.drop_zero]
  rw [StableHlo.after_cons, StableHlo.after_nil, StableHlo.nary_result]
  all_goals rfl
theorem rdF8_v58 : (StableHlo.after opsF8 σ (Proc.tc.devRef main_v58) : FVec Ideal S1x8192x128 .f32) = tile (σ (Proc.tc.devRef main_v45) : FVec Ideal S8192x64 .f32) := by
  simp only [opsF8, hostOps0_8, List.take_succ_cons, List.take_zero, List.drop_succ_cons, List.drop_zero]
  entry_read
  all_goals rfl
theorem rdF8_v59 : (StableHlo.after opsF8 σ (Proc.tc.devRef main_v59) : FVec Ideal S1x8192x128 .f32) = tile (σ (Proc.tc.devRef main_v47) : FVec Ideal S8192x64 .f32) := by
  simp only [opsF8, hostOps0_8, List.take_succ_cons, List.take_zero, List.drop_succ_cons, List.drop_zero]
  entry_read
  all_goals rfl
theorem rdF8_v60 : (StableHlo.after opsF8 σ (Proc.tc.devRef main_v60) : FVec Ideal S1x8192x128 .f32) = tile (σ (Proc.tc.devRef main_v48) : FVec Ideal S8192x64 .f32) := by
  simp only [opsF8, hostOps0_8, List.take_succ_cons, List.take_zero, List.drop_succ_cons, List.drop_zero]
  entry_read
  all_goals rfl
theorem rdG8_v61 : (StableHlo.after opsG8 σ (Proc.tc.devRef main_v61) : FVec Ideal S3x8192x128 .f32) = stack (σ (Proc.tc.devRef main_v58) : FVec Ideal S1x8192x128 .f32) (σ (Proc.tc.devRef main_v59) : FVec Ideal S1x8192x128 .f32) (σ (Proc.tc.devRef main_v60) : FVec Ideal S1x8192x128 .f32) := by
  simp only [opsG8, hostOps0_8, List.take_succ_cons, List.take_zero, List.drop_succ_cons, List.drop_zero]
  rw [StableHlo.after_cons, StableHlo.after_nil, StableHlo.nary_result]
  all_goals rfl
theorem rdP10_v70 : (StableHlo.after opsP10 σ (Proc.tc.devRef main_v70) : FVec Ideal S1x1024 .f32) = row1024 (σ (Proc.tc.devRef main_arg3) : FVec Ideal S1024 .f32) := by
  simp only [opsP10, hostOps0_10]
  entry_read
  all_goals rfl
section
variable (m : (ℓ : Loc nD τ sig) → Buf (Elt Ideal) ℓ) (c : Dev nD)
/-- The call's arguments. -/
abbrev aX : FVec Ideal S2x8192x1024 .f32 := m ((c.tc : Thread nD τ).loc main_arg0)
@[inherit_doc aX] abbrev aSh : FVec Ideal S2x1024 .f32 := m ((c.tc : Thread nD τ).loc main_arg1)
@[inherit_doc aX] abbrev aSc : FVec Ideal S2x1024 .f32 := m ((c.tc : Thread nD τ).loc main_arg2)
@[inherit_doc aX] abbrev aG : FVec Ideal S1024 .f32 := m ((c.tc : Thread nD τ).loc main_arg3)
@[inherit_doc aX] abbrev aW : FVec Ideal S1024x3080 .f32 := m ((c.tc : Thread nD τ).loc main_arg4)
@[inherit_doc aX] abbrev aB : FVec Ideal S8 .f32 := m ((c.tc : Thread nD τ).loc main_arg5)
theorem V_eq (b : DevRef τ sig) : StableHlo.after (List.flatten [hostOps0, hostOps0_1, hostOps0_2, hostOps0_3, hostOps0_4, hostOps0_5, hostOps0_6, hostOps0_7, hostOps0_8, hostOps0_9, hostOps0_10]) (fun b => m (c, b)) b
    = StableHlo.after opsP10 (StableHlo.after opsP9 (StableHlo.after opsH8 (StableHlo.after opsG8 (StableHlo.after opsF8 (StableHlo.after opsE8 (StableHlo.after opsD8 (StableHlo.after opsC8 (StableHlo.after opsB8 (StableHlo.after opsA8 (StableHlo.after opsP7 (StableHlo.after opsB6 (StableHlo.after opsA6 (StableHlo.after opsP5 (StableHlo.after opsP4 (StableHlo.after opsP3 (StableHlo.after opsP2 (StableHlo.after opsP1 (StableHlo.after opsP0 (fun b => m (c, b)))))))))))))))))))) b := by
  rw [ops_eq]
  simp only [StableHlo.after_append]
/-- The call's shift. -/
theorem Vv0 : (V m c main_v0 : FVec Ideal S2x1x1024 .f32) = mid (aSh m c) := by
  refine (V_eq m c (Proc.tc.devRef main_v0)).trans ?_
  rw [thruP10 (r := main_v0) _ (by decide), thruP9 (r := main_v0) _ (by decide), thruH8 (r := main_v0) _ (by decide), thruG8 (r := main_v0) _ (by decide), thruF8 (r := main_v0) _ (by decide), thruE8 (r := main_v0) _ (by decide), thruD8 (r := main_v0) _ (by decide), thruC8 (r := main_v0) _ (by decide), thruB8 (r := main_v0) _ (by decide), thruA8 (r := main_v0) _ (by decide), thruP7 (r := main_v0) _ (by decide), thruB6 (r := main_v0) _ (by decide), thruA6 (r := main_v0) _ (by decide), thruP5 (r := main_v0) _ (by decide), thruP4 (r := main_v0) _ (by decide), thruP3 (r := main_v0) _ (by decide), thruP2 (r := main_v0) _ (by decide), thruP1 (r := main_v0) _ (by decide), rdP0_v0]
  all_goals rfl
/-- The call's scale. -/
theorem Vv1 : (V m c main_v1 : FVec Ideal S2x1x1024 .f32) = mid (aSc m c) := by
  refine (V_eq m c (Proc.tc.devRef main_v1)).trans ?_
  rw [thruP10 (r := main_v1) _ (by decide), thruP9 (r := main_v1) _ (by decide), thruH8 (r := main_v1) _ (by decide), thruG8 (r := main_v1) _ (by decide), thruF8 (r := main_v1) _ (by decide), thruE8 (r := main_v1) _ (by decide), thruD8 (r := main_v1) _ (by decide), thruC8 (r := main_v1) _ (by decide), thruB8 (r := main_v1) _ (by decide), thruA8 (r := main_v1) _ (by decide), thruP7 (r := main_v1) _ (by decide), thruB6 (r := main_v1) _ (by decide), thruA6 (r := main_v1) _ (by decide), thruP5 (r := main_v1) _ (by decide), thruP4 (r := main_v1) _ (by decide), thruP3 (r := main_v1) _ (by decide), thruP2 (r := main_v1) _ (by decide), thruP1 (r := main_v1) _ (by decide), rdP0_v1]
  all_goals rfl
/-- The call's norm weights. -/
theorem Vv70 : (V m c main_v70 : FVec Ideal S1x1024 .f32) = row1024 (aG m c) := by
  refine (V_eq m c (Proc.tc.devRef main_v70)).trans ?_
  rw [rdP10_v70, thruP9 (r := main_arg3) _ (by decide), thruH8 (r := main_arg3) _ (by decide), thruG8 (r := main_arg3) _ (by decide), thruF8 (r := main_arg3) _ (by decide), thruE8 (r := main_arg3) _ (by decide), thruD8 (r := main_arg3) _ (by decide), thruC8 (r := main_arg3) _ (by decide), thruB8 (r := main_arg3) _ (by decide), thruA8 (r := main_arg3) _ (by decide), thruP7 (r := main_arg3) _ (by decide), thruB6 (r := main_arg3) _ (by decide), thruA6 (r := main_arg3) _ (by decide), thruP5 (r := main_arg3) _ (by decide), thruP4 (r := main_arg3) _ (by decide), thruP3 (r := main_arg3) _ (by decide), thruP2 (r := main_arg3) _ (by decide), thruP1 (r := main_arg3) _ (by decide), thruP0 (r := main_arg3) _ (by decide)]
  all_goals rfl
/-- The call's projection weights. -/
theorem Vv17 : (V m c main_v17 : FVec Ideal S1024x3200 .bf16) = wn (aW m c) := by
  refine (V_eq m c (Proc.tc.devRef main_v17)).trans ?_
  rw [thruP10 (r := main_v17) _ (by decide), thruP9 (r := main_v17) _ (by decide), thruH8 (r := main_v17) _ (by decide), thruG8 (r := main_v17) _ (by decide), thruF8 (r := main_v17) _ (by decide), thruE8 (r := main_v17) _ (by decide), thruD8 (r := main_v17) _ (by decide), thruC8 (r := main_v17) _ (by decide), thruB8 (r := main_v17) _ (by decide), thruA8 (r := main_v17) _ (by decide), thruP7 (r := main_v17) _ (by decide), rdB6_v17, rdA6_v16, thruP5 (r := main_v11) _ (by decide), thruP4 (r := main_v11) _ (by decide), thruP3 (r := main_v11) _ (by decide), rdP2_v11, rdP1_v10, rdP0_v9, rdP0_c, thruP5 (r := main_v14) _ (by decide), rdP4_v14, rdP3_v13, rdP2_v12, thruP1 (r := main_v6) _ (by decide), rdP0_v6, rdP2_c_1, thruP5 (r := main_v4) _ (by decide), thruP4 (r := main_v4) _ (by decide), thruP3 (r := main_v4) _ (by decide), thruP2 (r := main_v4) _ (by decide), thruP1 (r := main_v4) _ (by decide), rdP0_v4, thruP5 (r := main_v7) _ (by decide), thruP4 (r := main_v7) _ (by decide), thruP3 (r := main_v7) _ (by decide), thruP2 (r := main_v7) _ (by decide), thruP1 (r := main_v7) _ (by decide), rdP0_v7, rdP5_v15, thruP4 (r := main_v8) _ (by decide), thruP3 (r := main_v8) _ (by decide), thruP2 (r := main_v8) _ (by decide), thruP1 (r := main_v8) _ (by decide), rdP0_v8, rdP4_c_2]
  all_goals rfl
/-- The call's gate biases. -/
theorem Vv26 : (V m c main_v26 : FVec Ideal S1x128 .f32) = row128 (widen1 (aB m c) (constantI S_ 32 0#32)) := by
  refine (V_eq m c (Proc.tc.devRef main_v26)).trans ?_
  rw [thruP10 (r := main_v26) _ (by decide), thruP9 (r := main_v26) _ (by decide), thruH8 (r := main_v26) _ (by decide), thruG8 (r := main_v26) _ (by decide), thruF8 (r := main_v26) _ (by decide), thruE8 (r := main_v26) _ (by decide), thruD8 (r := main_v26) _ (by decide), thruC8 (r := main_v26) _ (by decide), thruB8 (r := main_v26) _ (by decide), rdA8_v26, rdP7_v25, thruB6 (r := main_arg5) _ (by decide), thruA6 (r := main_arg5) _ (by decide), thruP5 (r := main_arg5) _ (by decide), thruP4 (r := main_arg5) _ (by decide), thruP3 (r := main_arg5) _ (by decide), thruP2 (r := main_arg5) _ (by decide), thruP1 (r := main_arg5) _ (by decide), thruP0 (r := main_arg5) _ (by decide), rdB6_c_5]
  all_goals rfl
/-- The call's rotation tables. -/
theorem Vv61 : (V m c main_v61 : FVec Ideal S3x8192x128 .f32) = tabs := by
  refine (V_eq m c (Proc.tc.devRef main_v61)).trans ?_
  rw [thruP10 (r := main_v61) _ (by decide), thruP9 (r := main_v61) _ (by decide), thruH8 (r := main_v61) _ (by decide), rdG8_v61, rdF8_v58, thruE8 (r := main_v45) _ (by decide), thruD8 (r := main_v45) _ (by decide), thruC8 (r := main_v45) _ (by decide), rdB8_v45, rdA8_v40, rdA8_v42, rdF8_v59, thruE8 (r := main_v47) _ (by decide), rdD8_v47, rdC8_v46, thruB8 (r := main_v41) _ (by decide), rdA8_v41, thruC8 (r := main_v44) _ (by decide), thruB8 (r := main_v44) _ (by decide), rdA8_v44, thruC8 (r := main_v43) _ (by decide), thruB8 (r := main_v43) _ (by decide), rdA8_v43, rdF8_v60, rdE8_v48, thruD8 (r := main_v44) _ (by decide), thruD8 (r := main_v41) _ (by decide), thruC8 (r := main_v41) _ (by decide), thruD8 (r := main_v43) _ (by decide)]
  all_goals rfl
end
end Cert.Proj
-- ==== Proof.ProjRef.lean ====
module
public import proofs.«01_k».proof.Proof.ProjSpec
public import proofs.«01_k».proof.Proof.Gen.Reference2Ideal
public import proofs.«01_k».proof.Proof.Gen.Reference2Ideal.Run
public import proofs.«01_k».proof.Proof.Gen.Reference2Ideal.Read
public import Idealize.ShloMosaic.Lib.Pointwise
@[expose] public section
/-! # What the reference's input projection computes

Its five results, entry by entry. -/
set_option maxRecDepth 16384
noncomputable section
namespace Cert.Proj
open Cert.Reference2Ideal Cert.Reference2Ideal.Gen Cert.Reference2Ideal.Read Idealize.ShloMosaic Idealize.ShloMosaic.TcCoe Idealize.ShloMosaic.Tactic
namespace Ref
variable (x : FVec Ideal S2x8192x1024 .f32) (sh sc : FVec Ideal S2x1024 .f32) (g : FVec Ideal S1024 .f32) (w : FVec Ideal S1024x3080 .f32) (bf : FVec Ideal S8 .f32)
  (b : Fin 2) (s : Fin 8192)

/-- Column `c` of the projection of token `(b, s)`. -/
def col (c : Fin 3080) : EReal := proj (fun k => x (ix3 b s k)) (fun k => g (ix1 k)) (fun k => sc (ix2 b k)) (fun k => sh (ix2 b k)) (fun k => w (ix2 k c))

theorem sum_at (A : FVec Ideal S2x8192x1024 .f32) (i0 : FVec Ideal S_ .f32) : (Host.reduceAdd (F := Ideal) A i0 reducesTo_S2x8192x1024_S2x8192_d2 h_S_ : FVec Ideal S2x8192 .f32) (ix2 b s)
    = i0 (Shape.Idx.first h_S_) + ∑ k, A (ix3 b s k) := by
  pointwise

theorem sq_at : val_main_v1 (F := Ideal) x (ix2 b s) = ∑ k : Fin 1024, x (ix3 b s k) * x (ix3 b s k) := by
  unfold val_main_v1
  refine (sum_at b s _ _).trans ?_
  have h0 : val_main_cst (F := Ideal) (Shape.Idx.first h_S_) = 0 := Ideal.ofBits_zero_f32
  rw [h0, zero_add]
  rfl

theorem rms_at : val_main_v7 (F := Ideal) x (ix3 b s 0) = Ideal.rsqrt (Ideal.div (∑ k : Fin 1024, x (ix3 b s k) * x (ix3 b s k)) (Ideal.ofBits .f32 0x44800000#32) + Ideal.ofBits .f32 0x358637BD#32) := by
  rw [← sq_at]
  unfold val_main_v7 val_main_v6 val_main_v4 val_main_v5 val_main_v3 val_main_v2 val_main_cst_0 val_main_cst_1
  generalize val_main_v1 (F := Ideal) x = A
  pointwise

theorem norm_at (k : Fin 1024) : val_main_v20 (F := Ideal) x sh sc g (ix3 b s k)
    = normed (fun k => x (ix3 b s k)) (fun k => g (ix1 k)) (fun k => sc (ix2 b k)) (fun k => sh (ix2 b k)) k := by
  unfold normed
  rw [← rms_at]
  unfold val_main_v20 val_main_v19 val_main_v18 val_main_v17 val_main_v16 val_main_v15 val_main_v14 val_main_v13 val_main_v12 val_main_v11 val_main_v10 val_main_v9 val_main_v8 val_main_cst_2
  generalize val_main_v7 (F := Ideal) x = A
  pointwise

theorem dot_at (A : FVec Ideal S2x8192x1024 .f32) (c : Fin 3080) : (Host.dotGeneral (F := Ideal) dot_S2x8192x1024_S1024x3080_S2x8192x3080_2_0_01_1_n_n none A w : FVec Ideal S2x8192x3080 .f32) (ix3 b s c)
    = ∑ k : Fin 1024, A (ix3 b s k) * w (ix2 k c) := by
  pointwise

theorem proj_at (c : Fin 3080) : val_main_v21 (F := Ideal) x sh sc g w (ix3 b s c) = col x sh sc g w b s c := by
  unfold val_main_v21
  refine (dot_at w b s _ c).trans ?_
  simp only [norm_at]
  rfl

/-- The values of the first group of heads. -/
theorem vm_at (e : Fin 512) : val_main_v24 (F := Ideal) x sh sc g w (ix3 b s e) = col x sh sc g w b s ⟨1024 + e.val, by omega⟩ := by
  rw [← proj_at]
  unfold val_main_v24
  generalize val_main_v21 (F := Ideal) x sh sc g w = A
  pointwise
/-- The keys of the second group of heads. -/
theorem kf_at (e : Fin 512) : val_main_v26 (F := Ideal) x sh sc g w (ix3 b s e) = col x sh sc g w b s ⟨2048 + e.val, by omega⟩ := by
  rw [← proj_at]
  unfold val_main_v26
  generalize val_main_v21 (F := Ideal) x sh sc g w = A
  pointwise
/-- The values of the second group of heads. -/
theorem vf_at (e : Fin 512) : val_main_v27 (F := Ideal) x sh sc g w (ix3 b s e) = col x sh sc g w b s ⟨2560 + e.val, by omega⟩ := by
  rw [← proj_at]
  unfold val_main_v27
  generalize val_main_v21 (F := Ideal) x sh sc g w = A
  pointwise

/-- The forget gate's logit. -/
theorem gate_at (l : Fin 8) : val_main_v64 (F := Ideal) x sh sc g w bf (ix3 b s l) = col x sh sc g w b s ⟨3072 + l.val, by omega⟩ + bf (ix1 l) := by
  rw [← proj_at]
  unfold val_main_v64 val_main_v63 val_main_v62 val_main_v28
  generalize val_main_v21 (F := Ideal) x sh sc g w = A
  pointwise

theorem sig_at (i : S2x8192x8.Idx) : val_main_v65 (F := Ideal) x sh sc g w bf i = logSig (val_main_v64 (F := Ideal) x sh sc g w bf i) := by
  rw [← logSig_eq]
  unfold val_main_v65 val_main_call0_v1 val_main_call0_call0_v11 val_main_call0_call0_v10 val_main_call0_call0_v9 val_main_call0_call0_v8 val_main_call0_call0_v7 val_main_call0_call0_v6
    val_main_call0_call0_v5 val_main_call0_call0_v4 val_main_call0_call0_v3 val_main_call0_call0_v2 val_main_call0_call0_v1 val_main_call0_call0_v0 val_main_call0_call0_cst val_main_call0_v0
  generalize val_main_v64 (F := Ideal) x sh sc g w bf = A
  pointwise
  rw [if_neg (fun h => h rfl)]
  rfl

/-- The word of zero, as a number. -/
theorem zero_word : (FloatOps.sitofp FTy.f32 0#32 : Ideal .f32) = (0 : EReal) := by
  change (((BitVec.toInt 0#32 : ℤ) : ℝ) : EReal) = 0
  simp

/-- The log forget gates, beside zeros. -/
theorem logf_at (l : Fin 128) : val_main_v67 (F := Ideal) x sh sc g w bf (ix3 b s l)
    = if h : l.val < 8 then logSig (col x sh sc g w b s ⟨3072 + l.val, by omega⟩ + bf (ix1 ⟨l.val, h⟩)) else 0 := by
  have key : val_main_v67 (F := Ideal) x sh sc g w bf (ix3 b s l) = if h : l.val < 8 then val_main_v65 (F := Ideal) x sh sc g w bf (ix3 b s ⟨l.val, h⟩) else 0 := by
    unfold val_main_v67 val_main_call1_v0 val_main_c
    generalize val_main_v65 (F := Ideal) x sh sc g w bf = A
    pointwise
    rw [zero_word]
  rw [key]
  simp only [sig_at, gate_at]

/-! ## The rotated keys -/
/-- The cosine of the angle of token `s` and feature `d`. -/
def co (d : Nat) : EReal := if h : d < 8 then val_main_v43 (F := Ideal) (ix2 s ⟨d, h⟩) else 0
/-- The sine of the angle of token `s` and feature `d`. -/
def si (d : Nat) : EReal := if h : d < 8 then val_main_v45 (F := Ideal) (ix2 s ⟨d, h⟩) else 0
/-- The key of head `n`, before the rotation. -/
def key (n : Fin 8) (d : Nat) : EReal := if h : d < 64 then col x sh sc g w b s ⟨512 + (64 * n.val + d), by omega⟩ else 0

theorem key_at (n : Fin 8) (d : Fin 64) : val_main_v29 (F := Ideal) x sh sc g w (ix4 b s n d) = key x sh sc g w b s n d.val := by
  unfold key
  rw [dif_pos d.isLt, ← proj_at]
  unfold val_main_v29 val_main_v23
  generalize val_main_v21 (F := Ideal) x sh sc g w = A
  pointwise
  exact congrArg A (congrArg (ix3 b s) (Fin.ext (by show 512 + (n.val * 64 + d.val) = 512 + (64 * n.val + d.val); omega)))

theorem lo_at (n : Fin 8) (d : Fin 8) : val_main_v53 (F := Ideal) x sh sc g w (ix4 b s n d)
    = key x sh sc g w b s n d.val * co s d.val - key x sh sc g w b s n (d.val + 8) * si s d.val := by
  have e1 := key_at x sh sc g w b s n ⟨d.val, by omega⟩
  have e2 := key_at x sh sc g w b s n ⟨d.val + 8, by omega⟩
  dsimp only at e1 e2
  unfold co si
  rw [dif_pos d.isLt, dif_pos d.isLt, ← e1, ← e2]
  unfold val_main_v53 val_main_v52 val_main_v51 val_main_v50 val_main_v49 val_main_v48 val_main_v47 val_main_v46 val_main_v44
  generalize val_main_v29 (F := Ideal) x sh sc g w = A
  generalize val_main_v43 (F := Ideal) = B
  generalize val_main_v45 (F := Ideal) = C
  pointwise
  all_goals simp only [Nat.add_comm]

theorem hi_at (n : Fin 8) (d : Fin 8) : val_main_v58 (F := Ideal) x sh sc g w (ix4 b s n d)
    = key x sh sc g w b s n (d.val + 8) * co s d.val + key x sh sc g w b s n d.val * si s d.val := by
  have e1 := key_at x sh sc g w b s n ⟨d.val, by omega⟩
  have e2 := key_at x sh sc g w b s n ⟨d.val + 8, by omega⟩
  dsimp only at e1 e2
  unfold co si
  rw [dif_pos d.isLt, dif_pos d.isLt, ← e1, ← e2]
  unfold val_main_v58 val_main_v57 val_main_v56 val_main_v55 val_main_v54 val_main_v48 val_main_v47 val_main_v46 val_main_v44
  generalize val_main_v29 (F := Ideal) x sh sc g w = A
  generalize val_main_v43 (F := Ideal) = B
  generalize val_main_v45 (F := Ideal) = C
  pointwise
  all_goals simp only [Nat.add_comm]

theorem cat_at (n : Fin 8) (d : Fin 64) : val_main_v61 (F := Ideal) x sh sc g w (ix4 b s n d)
    = if h : d.val < 8 then val_main_v53 (F := Ideal) x sh sc g w (ix4 b s n ⟨d.val, h⟩)
      else if h : d.val < 16 then val_main_v58 (F := Ideal) x sh sc g w (ix4 b s n ⟨d.val - 8, by omega⟩)
      else val_main_v29 (F := Ideal) x sh sc g w (ix4 b s n d) := by
  have e59 : ∀ e : Fin 16, val_main_v59 (F := Ideal) x sh sc g w (ix4 b s n e) = if h : e.val < 8 then val_main_v53 (F := Ideal) x sh sc g w (ix4 b s n ⟨e.val, h⟩)
      else val_main_v58 (F := Ideal) x sh sc g w (ix4 b s n ⟨e.val - 8, by omega⟩) := by
    intro e
    unfold val_main_v59
    generalize val_main_v53 (F := Ideal) x sh sc g w = A
    generalize val_main_v58 (F := Ideal) x sh sc g w = B
    pointwise
  have e61 : val_main_v61 (F := Ideal) x sh sc g w (ix4 b s n d) = if h : d.val < 16 then val_main_v59 (F := Ideal) x sh sc g w (ix4 b s n ⟨d.val, h⟩)
      else val_main_v60 (F := Ideal) x sh sc g w (ix4 b s n ⟨d.val - 16, by omega⟩) := by
    unfold val_main_v61
    generalize val_main_v59 (F := Ideal) x sh sc g w = A
    generalize val_main_v60 (F := Ideal) x sh sc g w = B
    pointwise
  have e60 : ∀ e : Fin 48, val_main_v60 (F := Ideal) x sh sc g w (ix4 b s n e) = val_main_v29 (F := Ideal) x sh sc g w (ix4 b s n ⟨16 + e.val, by omega⟩) := by
    intro e
    unfold val_main_v60
    generalize val_main_v29 (F := Ideal) x sh sc g w = A
    pointwise
  rw [e61]
  by_cases h8 : d.val < 8
  · rw [dif_pos (by omega), e59, dif_pos h8, dif_pos h8]
  · by_cases h16 : d.val < 16
    · rw [dif_pos h16, e59, dif_neg h8, dif_neg h8, dif_pos h16]
    · rw [dif_neg h16, e60, dif_neg h8, dif_neg h16]
      exact congrArg (fun z => val_main_v29 (F := Ideal) x sh sc g w (ix4 b s n z)) (Fin.ext (by show 16 + (d.val - 16) = d.val; omega))

/-- The rotated keys of the first group of heads. -/
theorem km_at (n : Fin 8) (d : Fin 64) : val_main_v66 (F := Ideal) x sh sc g w (ix3 b s ⟨64 * n.val + d.val, by omega⟩)
    = roped (key x sh sc g w b s n) (co s) (si s) d.val := by
  have h : val_main_v66 (F := Ideal) x sh sc g w (ix3 b s ⟨64 * n.val + d.val, by omega⟩) = val_main_v61 (F := Ideal) x sh sc g w (ix4 b s n d) := by
    unfold val_main_v66
    generalize val_main_v61 (F := Ideal) x sh sc g w = A
    pointwise
  rw [h, cat_at, roped]
  by_cases h8 : d.val < 8
  · rw [dif_pos h8, if_pos h8, lo_at]
  · by_cases h16 : d.val < 16
    · rw [dif_neg h8, dif_pos h16, if_neg h8, if_pos h16, hi_at]
      dsimp only
      rw [Nat.sub_add_cancel (by omega)]
    · rw [dif_neg h8, dif_neg h16, if_neg h8, if_neg h16, key_at]
end Ref
end Cert.Proj
-- ==== Proof.ProjHostAt.lean ====
module
public import proofs.«01_k».proof.Proof.ProjHost
public import proofs.«01_k».proof.Proof.ProjRef
@[expose] public section
/-! # The prepared arrays of the projection, entry by entry -/
set_option maxRecDepth 16384
noncomputable section
namespace Cert.Proj
open Cert.Kernel2Ideal Cert.Kernel2Ideal.Gen Idealize.ShloMosaic Idealize.ShloMosaic.TcCoe Idealize.ShloMosaic.Tactic
/-- The zero a pad writes. -/
theorem zero_word : (FloatOps.sitofp FTy.f32 0#32 : Ideal .f32) = 0 := Ref.zero_word
section
variable (x : FVec Ideal S1024x3080 .f32)
theorem mid_at (x : FVec Ideal S2x1024 .f32) (b : Fin 2) (k : Fin 1024) : mid x (ix3 b 0 k) = x (ix2 b k) := by
  pointwise [mid]
theorem row1024_at (x : FVec Ideal S1024 .f32) (k : Fin 1024) : row1024 x (ix2 0 k) = x (ix1 k) := by
  pointwise [row1024]
theorem bias_at (x : FVec Ideal S8 .f32) (l : Fin 128) : row128 (widen1 x (constantI S_ 32 0#32)) (ix2 0 l)
    = if h : l.val < 8 then x (ix1 ⟨l.val, h⟩) else 0 := by
  have h : row128 (widen1 x (constantI S_ 32 0#32)) (ix2 0 l) = if h : l.val < 8 then x (ix1 ⟨l.val, h⟩) else (FloatOps.sitofp FTy.f32 0#32 : Ideal .f32) := by
    pointwise [row128, widen1]
  rw [h, zero_word]
/-- A head's padded columns. -/
theorem spread_at (y : FVec Ideal S1024x512 .f32) (k : Fin 1024) (n : Fin 8) (e : Fin 128) :
    flat (widen (heads y) (constantI S_ 32 0#32)) (ix2 k ⟨128 * n.val + e.val, by omega⟩)
      = if h : e.val < 64 then y (ix2 k ⟨64 * n.val + e.val, by omega⟩) else 0 := by
  have h1 : flat (widen (heads y) (constantI S_ 32 0#32)) (ix2 k ⟨128 * n.val + e.val, by omega⟩) = widen (heads y) (constantI S_ 32 0#32) (ix3 k n e) := by
    generalize widen (heads y) (constantI S_ 32 0#32) = z
    pointwise [flat]
  have h2 : widen (heads y) (constantI S_ 32 0#32) (ix3 k n e) = if h : e.val < 64 then heads y (ix3 k n ⟨e.val, h⟩) else (FloatOps.sitofp FTy.f32 0#32 : Ideal .f32) := by
    generalize heads y = z
    pointwise [widen]
  have h3 : ∀ d : Fin 64, heads y (ix3 k n d) = y (ix2 k ⟨64 * n.val + d.val, by omega⟩) := fun d => by
    pointwise [heads]
    exact congrArg y (congrArg (ix2 k) (Fin.ext (by show n.val * 64 + d.val = 64 * n.val + d.val; omega)))
  rw [h1, h2, zero_word]
  simp only [h3]
theorem gates_at (y : FVec Ideal S1024x8 .f32) (k : Fin 1024) (l : Fin 128) :
    wide8 y (constantI S_ 32 0#32) (ix2 k l) = if h : l.val < 8 then y (ix2 k ⟨l.val, h⟩) else 0 := by
  have h : wide8 y (constantI S_ 32 0#32) (ix2 k l) = if h : l.val < 8 then y (ix2 k ⟨l.val, h⟩) else (FloatOps.sitofp FTy.f32 0#32 : Ideal .f32) := by
    pointwise [wide8]
  rw [h, zero_word]
theorem cat5_at (a b : FVec Ideal S1024x1024 .f32) (c d : FVec Ideal S1024x512 .f32) (e : FVec Ideal S1024x128 .f32) (k : Fin 1024) (i : Fin 3200) :
    rnd (cat5 a b c d e) (ix2 k i) = if h : i.val < 1024 then a (ix2 k ⟨i.val, h⟩) else if h : i.val - 1024 < 1024 then b (ix2 k ⟨i.val - 1024, h⟩)
      else if h : i.val - 1024 - 1024 < 512 then c (ix2 k ⟨i.val - 1024 - 1024, h⟩) else if h : i.val - 1024 - 1024 - 512 < 512 then d (ix2 k ⟨i.val - 1024 - 1024 - 512, h⟩)
      else e (ix2 k ⟨i.val - 1024 - 1024 - 512 - 512, by omega⟩) := by
  pointwise [rnd, cat5]
/-- The weights of the block keys, each head padded. -/
theorem wn_k (k : Fin 1024) (n : Fin 8) (e : Fin 128) : wn x (ix2 k ⟨128 * n.val + e.val, by omega⟩)
    = if h : e.val < 64 then x (ix2 k ⟨512 + (64 * n.val + e.val), by omega⟩) else 0 := by
  have hc : ∀ i : Fin 512, colsK x (ix2 k i) = x (ix2 k ⟨512 + i.val, by omega⟩) := fun i => by pointwise [colsK]
  unfold wn
  rw [cat5_at, dif_pos (by show 128 * n.val + e.val < 1024; omega)]
  refine (spread_at _ k n e).trans ?_
  simp only [hc]
/-- The weights of the gated keys, each head padded. -/
theorem wn_f (k : Fin 1024) (n : Fin 8) (e : Fin 128) : wn x (ix2 k ⟨1024 + (128 * n.val + e.val), by omega⟩)
    = if h : e.val < 64 then x (ix2 k ⟨2048 + (64 * n.val + e.val), by omega⟩) else 0 := by
  have hc : ∀ i : Fin 512, colsF x (ix2 k i) = x (ix2 k ⟨2048 + i.val, by omega⟩) := fun i => by pointwise [colsF]
  unfold wn
  rw [cat5_at, dif_neg (by show ¬1024 + (128 * n.val + e.val) < 1024; omega), dif_pos (by show 1024 + (128 * n.val + e.val) - 1024 < 1024; omega)]
  refine Eq.trans (congrArg _ (congrArg (ix2 k) (Fin.ext ?_))) ((spread_at _ k n e).trans ?_)
  · show 1024 + (128 * n.val + e.val) - 1024 = 128 * n.val + e.val
    omega
  · simp only [hc]
/-- The weights of the block values. -/
theorem wn_v (k : Fin 1024) (e : Fin 512) : wn x (ix2 k ⟨2048 + e.val, by omega⟩) = x (ix2 k ⟨1024 + e.val, by omega⟩) := by
  have hc : ∀ i : Fin 512, colsV x (ix2 k i) = x (ix2 k ⟨1024 + i.val, by omega⟩) := fun i => by pointwise [colsV]
  unfold wn
  rw [cat5_at, dif_neg (by show ¬2048 + e.val < 1024; omega), dif_neg (by show ¬2048 + e.val - 1024 < 1024; omega),
    dif_pos (by show 2048 + e.val - 1024 - 1024 < 512; omega), hc]
  exact congrArg x (congrArg (ix2 k) (Fin.ext (by show 1024 + (2048 + e.val - 1024 - 1024) = 1024 + e.val; omega)))
/-- The weights of the gated values. -/
theorem wn_g (k : Fin 1024) (e : Fin 512) : wn x (ix2 k ⟨2560 + e.val, by omega⟩) = x (ix2 k ⟨2560 + e.val, by omega⟩) := by
  have hc : ∀ i : Fin 512, colsG x (ix2 k i) = x (ix2 k ⟨2560 + i.val, by omega⟩) := fun i => by pointwise [colsG]
  unfold wn
  rw [cat5_at, dif_neg (by show ¬2560 + e.val < 1024; omega), dif_neg (by show ¬2560 + e.val - 1024 < 1024; omega),
    dif_neg (by show ¬2560 + e.val - 1024 - 1024 < 512; omega), dif_pos (by show 2560 + e.val - 1024 - 1024 - 512 < 512; omega), hc]
  exact congrArg x (congrArg (ix2 k) (Fin.ext (by show 2560 + (2560 + e.val - 1024 - 1024 - 512) = 2560 + e.val; omega)))
/-- The weights of the gates, padded. -/
theorem wn_l (k : Fin 1024) (l : Fin 128) : wn x (ix2 k ⟨3072 + l.val, by omega⟩)
    = if h : l.val < 8 then x (ix2 k ⟨3072 + l.val, by omega⟩) else 0 := by
  have hc : ∀ i : Fin 8, colsL x (ix2 k i) = x (ix2 k ⟨3072 + i.val, by omega⟩) := fun i => by pointwise [colsL]
  unfold wn
  rw [cat5_at, dif_neg (by show ¬3072 + l.val < 1024; omega), dif_neg (by show ¬3072 + l.val - 1024 < 1024; omega),
    dif_neg (by show ¬3072 + l.val - 1024 - 1024 < 512; omega), dif_neg (by show ¬3072 + l.val - 1024 - 1024 - 512 < 512; omega)]
  refine Eq.trans (congrArg _ (congrArg (ix2 k) (Fin.ext ?_))) ((gates_at _ k l).trans ?_)
  · show 3072 + l.val - 1024 - 1024 - 512 - 512 = l.val
    omega
  · simp only [hc]
end
/-! ## The rotation tables -/
theorem cos_eq : cosT = Cert.Reference2Ideal.Read.val_main_v43 (F := Ideal) := by
  unfold cosT angT
  rfl
theorem sin_eq : sinT = Cert.Reference2Ideal.Read.val_main_v45 (F := Ideal) := by
  unfold sinT angT
  rfl
theorem tile_at (y : FVec Ideal S8192x64 .f32) (s : Fin 8192) (e : Fin 128) : tile y (ix3 0 s e) = y (ix2 s ⟨e.val % 64, by omega⟩) := by
  pointwise [tile]
theorem cat64_at (a b : FVec Ideal S8192x8 .f32) (c : FVec Ideal S8192x48 .f32) (s : Fin 8192) (d : Fin 64) :
    cat64 a b c (ix2 s d) = if h : d.val < 8 then a (ix2 s ⟨d.val, h⟩) else if h : d.val - 8 < 8 then b (ix2 s ⟨d.val - 8, h⟩)
      else c (ix2 s ⟨d.val - 8 - 8, by omega⟩) := by
  pointwise [cat64]
theorem stack_at (a b c : FVec Ideal S1x8192x128 .f32) (s : Fin 8192) (e : Fin 128) :
    stack a b c (ix3 0 s e) = a (ix3 0 s e) ∧ stack a b c (ix3 1 s e) = b (ix3 0 s e) ∧ stack a b c (ix3 2 s e) = c (ix3 0 s e) := by
  refine ⟨?_, ?_, ?_⟩
  · pointwise [stack]
  · pointwise [stack]
  · pointwise [stack]
/-- What a column keeps. -/
theorem tab0 (s : Fin 8192) (e : Fin 128) : tabs (ix3 0 s e)
    = if e.val % 64 < 8 then Ref.co s (e.val % 64) else if e.val % 64 < 16 then Ref.co s (e.val % 64 - 8) else 1 := by
  have h1 : ∀ i, onesT i = 1 := fun i => by pointwise [onesT]
  unfold tabs
  rw [(stack_at _ _ _ s e).1, tile_at, cat64_at]
  simp only [h1]
  unfold Ref.co
  rw [← cos_eq]
  by_cases h : e.val % 64 < 8
  · simp only [h, if_true, dif_pos]
  · by_cases h' : e.val % 64 < 16
    · simp only [h, h', if_true, if_false, dif_neg, not_false_eq_true, dif_pos (show e.val % 64 - 8 < 8 by omega)]
    · simp only [h, h', if_false, dif_neg, not_false_eq_true, dif_neg (show ¬e.val % 64 - 8 < 8 by omega)]
/-- What a column takes from eight columns on. -/
theorem tab1 (s : Fin 8192) (e : Fin 128) : tabs (ix3 1 s e) = if e.val % 64 < 8 then - Ref.si s (e.val % 64) else 0 := by
  have h1 : ∀ i, zerosT i = 0 := fun i => by pointwise [zerosT]
  have h2 : ∀ i, zeros8 i = 0 := fun i => by pointwise [zeros8]
  have h3 : ∀ i, neg8 sinT i = - sinT i := fun i => rfl
  unfold tabs
  rw [(stack_at _ _ _ s e).2.1, tile_at, cat64_at]
  simp only [h1, h2, h3]
  unfold Ref.si
  rw [← sin_eq]
  by_cases h : e.val % 64 < 8
  · simp only [h, if_true, dif_pos]
  · simp only [h, if_false, dif_neg, not_false_eq_true, dite_eq_ite, ite_self]
/-- What a column takes from eight columns back. -/
theorem tab2 (s : Fin 8192) (e : Fin 128) : tabs (ix3 2 s e)
    = if e.val % 64 < 8 then 0 else if e.val % 64 < 16 then Ref.si s (e.val % 64 - 8) else 0 := by
  have h1 : ∀ i, zerosT i = 0 := fun i => by pointwise [zerosT]
  have h2 : ∀ i, zeros8 i = 0 := fun i => by pointwise [zeros8]
  unfold tabs
  rw [(stack_at _ _ _ s e).2.2, tile_at, cat64_at]
  simp only [h1, h2]
  unfold Ref.si
  rw [← sin_eq]
  by_cases h : e.val % 64 < 8
  · simp only [h, if_true, dif_pos]
  · by_cases h' : e.val % 64 < 16
    · simp only [h, h', if_true, if_false, dif_neg, not_false_eq_true, dif_pos (show e.val % 64 - 8 < 8 by omega)]
    · simp only [h, h', if_false, dif_neg, not_false_eq_true, dif_neg (show ¬e.val % 64 - 8 < 8 by omega)]
end Cert.Proj
-- ==== Proof.ProjBlocks.lean ====
module
public import proofs.«01_k».proof.Proof.ProjPieces
public import proofs.«01_k».proof.Proof.ProjKey
public import proofs.«01_k».proof.Proof.ProjHostAt
@[expose] public section
/-! # The projection call: where its blocks lie

Grid point `t` takes rows `256 (t mod 32)` to `256 (t mod 32) + 255` of sequence `t / 32`. Here are the entries of the
arrays that the entries of its blocks are. -/
set_option maxRecDepth 16384
noncomputable section
namespace Cert.Proj
open Cert.Kernel2Ideal Cert.Kernel2Ideal.Gen Idealize.ShloMosaic Idealize.ShloMosaic.TcCoe Idealize.ShloMosaic.Tactic
/-- The sequence of a grid point. -/
def bt (t : Fin cfg0.N) : Fin 2 := ⟨t.val / 32, by have := lt_of_lt_of_eq t.isLt (show cfg0.N = 64 from N_0); omega⟩
/-- The token of a row of a grid point's blocks. -/
def st (t : Fin cfg0.N) (r : Fin 256) : Fin 8192 := ⟨256 * (t.val % 32) + r.val, by omega⟩

/-- The block indices of the windows at a grid point. -/
theorem index_at : ∀ t : Fin cfg0.N, win0_0.index t = ![t.val / 32, t.val % 32, 0]
    ∧ win0_1.index t = ![t.val / 32, 0, 0]
    ∧ win0_2.index t = ![t.val / 32, 0, 0]
    ∧ win0_3.index t = ![0, 0]
    ∧ win0_4.index t = ![0, 0]
    ∧ win0_6.index t = ![0, 0]
    ∧ win0_7.index t = ![0, t.val % 32, 0]
    ∧ win0_12.index t = ![t.val / 32, t.val % 32, 0]
    ∧ win0_13.index t = ![t.val / 32, t.val % 32, 0]
    ∧ win0_14.index t = ![t.val / 32, t.val % 32, 0]
    ∧ win0_15.index t = ![t.val / 32, t.val % 32, 0]
    ∧ win0_16.index t = ![t.val / 32, t.val % 32, 0] :=
  (by decide +kernel : ∀ t : Fin grid0.N, _)

theorem emb0 (t : Fin cfg0.N) (r : Fin 256) (k : Fin 1024) : (win0_0.rect t).emb (ix3 0 r k) = (ix3 (bt t) (st t r) k : S2x8192x1024.Idx) := by
  funext b
  refine Fin.ext ?_
  refine (win0_0.rect_emb_val t (ix3 0 r k) b rfl).trans ?_
  rw [(index_at t).1]
  match b with
  | 0 => exact ((by omega : t.val / 32 = t.val / 32 * 1 + 0)).symm
  | 1 => exact ((by omega : 256 * (t.val % 32) + r.val = t.val % 32 * 256 + r.val)).symm
  | 2 => exact ((by omega : k.val = 0 * 1024 + k.val)).symm
theorem emb1 (t : Fin cfg0.N) (k : Fin 1024) : (win0_1.rect t).emb (ix3 0 0 k) = (ix3 (bt t) 0 k : S2x1x1024.Idx) := by
  funext b
  refine Fin.ext ?_
  refine (win0_1.rect_emb_val t (ix3 0 0 k) b rfl).trans ?_
  rw [(index_at t).2.1]
  match b with
  | 0 => exact ((by omega : t.val / 32 = t.val / 32 * 1 + 0)).symm
  | 1 => exact ((by omega : 0 = 0 * 1 + 0)).symm
  | 2 => exact ((by omega : k.val = 0 * 1024 + k.val)).symm
theorem emb2 (t : Fin cfg0.N) (k : Fin 1024) : (win0_2.rect t).emb (ix3 0 0 k) = (ix3 (bt t) 0 k : S2x1x1024.Idx) := by
  funext b
  refine Fin.ext ?_
  refine (win0_2.rect_emb_val t (ix3 0 0 k) b rfl).trans ?_
  rw [(index_at t).2.2.1]
  match b with
  | 0 => exact ((by omega : t.val / 32 = t.val / 32 * 1 + 0)).symm
  | 1 => exact ((by omega : 0 = 0 * 1 + 0)).symm
  | 2 => exact ((by omega : k.val = 0 * 1024 + k.val)).symm
theorem emb3 (t : Fin cfg0.N) (k : Fin 1024) : (win0_3.rect t).emb (ix2 0 k) = (ix2 0 k : S1x1024.Idx) := by
  funext b
  refine Fin.ext ?_
  refine (win0_3.rect_emb_val t (ix2 0 k) b rfl).trans ?_
  rw [(index_at t).2.2.2.1]
  match b with
  | 0 => exact ((by omega : 0 = 0 * 1 + 0)).symm
  | 1 => exact ((by omega : k.val = 0 * 1024 + k.val)).symm
theorem emb4 (t : Fin cfg0.N) (k : Fin 1024) (i : Fin 3200) : (win0_4.rect t).emb (ix2 k i) = (ix2 k i : S1024x3200.Idx) := by
  funext b
  refine Fin.ext ?_
  refine (win0_4.rect_emb_val t (ix2 k i) b rfl).trans ?_
  rw [(index_at t).2.2.2.2.1]
  match b with
  | 0 => exact ((by omega : k.val = 0 * 1024 + k.val)).symm
  | 1 => exact ((by omega : i.val = 0 * 3200 + i.val)).symm
theorem emb6 (t : Fin cfg0.N) (l : Fin 128) : (win0_6.rect t).emb (ix2 0 l) = (ix2 0 l : S1x128.Idx) := by
  funext b
  refine Fin.ext ?_
  refine (win0_6.rect_emb_val t (ix2 0 l) b rfl).trans ?_
  rw [(index_at t).2.2.2.2.2.1]
  match b with
  | 0 => exact ((by omega : 0 = 0 * 1 + 0)).symm
  | 1 => exact ((by omega : l.val = 0 * 128 + l.val)).symm
theorem emb7 (t : Fin cfg0.N) (q : Fin 3) (r : Fin 256) (e : Fin 128) : (win0_7.rect t).emb (ix3 q r e) = (ix3 q (st t r) e : S3x8192x128.Idx) := by
  funext b
  refine Fin.ext ?_
  refine (win0_7.rect_emb_val t (ix3 q r e) b rfl).trans ?_
  rw [(index_at t).2.2.2.2.2.2.1]
  match b with
  | 0 => exact ((by omega : q.val = 0 * 3 + q.val)).symm
  | 1 => exact ((by omega : 256 * (t.val % 32) + r.val = t.val % 32 * 256 + r.val)).symm
  | 2 => exact ((by omega : e.val = 0 * 128 + e.val)).symm
theorem emb12 (t : Fin cfg0.N) (r : Fin 256) (e : Fin 512) : (win0_12.rect t).emb (ix3 0 r e) = (ix3 (bt t) (st t r) e : S2x8192x512.Idx) := by
  funext b
  refine Fin.ext ?_
  refine (win0_12.rect_emb_val t (ix3 0 r e) b rfl).trans ?_
  rw [(index_at t).2.2.2.2.2.2.2.1]
  match b with
  | 0 => exact ((by omega : t.val / 32 = t.val / 32 * 1 + 0)).symm
  | 1 => exact ((by omega : 256 * (t.val % 32) + r.val = t.val % 32 * 256 + r.val)).symm
  | 2 => exact ((by omega : e.val = 0 * 512 + e.val)).symm
theorem emb13 (t : Fin cfg0.N) (r : Fin 256) (e : Fin 512) : (win0_13.rect t).emb (ix3 0 r e) = (ix3 (bt t) (st t r) e : S2x8192x512.Idx) := by
  funext b
  refine Fin.ext ?_
  refine (win0_13.rect_emb_val t (ix3 0 r e) b rfl).trans ?_
  rw [(index_at t).2.2.2.2.2.2.2.2.1]
  match b with
  | 0 => exact ((by omega : t.val / 32 = t.val / 32 * 1 + 0)).symm
  | 1 => exact ((by omega : 256 * (t.val % 32) + r.val = t.val % 32 * 256 + r.val)).symm
  | 2 => exact ((by omega : e.val = 0 * 512 + e.val)).symm
theorem emb14 (t : Fin cfg0.N) (r : Fin 256) (e : Fin 512) : (win0_14.rect t).emb (ix3 0 r e) = (ix3 (bt t) (st t r) e : S2x8192x512.Idx) := by
  funext b
  refine Fin.ext ?_
  refine (win0_14.rect_emb_val t (ix3 0 r e) b rfl).trans ?_
  rw [(index_at t).2.2.2.2.2.2.2.2.2.1]
  match b with
  | 0 => exact ((by omega : t.val / 32 = t.val / 32 * 1 + 0)).symm
  | 1 => exact ((by omega : 256 * (t.val % 32) + r.val = t.val % 32 * 256 + r.val)).symm
  | 2 => exact ((by omega : e.val = 0 * 512 + e.val)).symm
theorem emb15 (t : Fin cfg0.N) (r : Fin 256) (e : Fin 512) : (win0_15.rect t).emb (ix3 0 r e) = (ix3 (bt t) (st t r) e : S2x8192x512.Idx) := by
  funext b
  refine Fin.ext ?_
  refine (win0_15.rect_emb_val t (ix3 0 r e) b rfl).trans ?_
  rw [(index_at t).2.2.2.2.2.2.2.2.2.2.1]
  match b with
  | 0 => exact ((by omega : t.val / 32 = t.val / 32 * 1 + 0)).symm
  | 1 => exact ((by omega : 256 * (t.val % 32) + r.val = t.val % 32 * 256 + r.val)).symm
  | 2 => exact ((by omega : e.val = 0 * 512 + e.val)).symm
theorem emb16 (t : Fin cfg0.N) (r : Fin 256) (e : Fin 128) : (win0_16.rect t).emb (ix3 0 r e) = (ix3 (bt t) (st t r) e : S2x8192x128.Idx) := by
  funext b
  refine Fin.ext ?_
  refine (win0_16.rect_emb_val t (ix3 0 r e) b rfl).trans ?_
  rw [(index_at t).2.2.2.2.2.2.2.2.2.2.2]
  match b with
  | 0 => exact ((by omega : t.val / 32 = t.val / 32 * 1 + 0)).symm
  | 1 => exact ((by omega : 256 * (t.val % 32) + r.val = t.val % 32 * 256 + r.val)).symm
  | 2 => exact ((by omega : e.val = 0 * 128 + e.val)).symm
section
variable (m : (ℓ : Loc nD τ sig) → Buf (Elt Ideal) ℓ) (c : Dev nD) (t : Fin cfg0.N)
theorem read0 (A : (Pipeline.arrRef spec0 0).ty.Contents (Elt Ideal)) (t : Fin cfg0.N) (x : ((cfg0.win 0).xblock (cfg0.grid.coords t)).Idx) (j : S2x8192x1024.Idx) (e : (win0_0.rect t).emb x = j) :
    View.read (Elt Ideal) ((cfg0.win 0).blk t).view A x = A j := e ▸ rfl
theorem blk0 (r : Fin 256) (k : Fin 1024) : (iblk m c 0 t : Vec Ideal S1x256x1024 .f32) (ix3 0 r k) = aX m c (ix3 (bt t) (st t r) k) :=
  (read0 (V m c (Pipeline.arrRef spec0 0)) t (ix3 0 r k) (ix3 (bt t) (st t r) k) (emb0 t r k)).trans (congrFun (V_main_arg0 m c) _)
theorem read1 (A : (Pipeline.arrRef spec0 1).ty.Contents (Elt Ideal)) (t : Fin cfg0.N) (x : ((cfg0.win 1).xblock (cfg0.grid.coords t)).Idx) (j : S2x1x1024.Idx) (e : (win0_1.rect t).emb x = j) :
    View.read (Elt Ideal) ((cfg0.win 1).blk t).view A x = A j := e ▸ rfl
theorem blk1 (k : Fin 1024) : (iblk m c 1 t : Vec Ideal S1x1x1024 .f32) (ix3 0 0 k) = mid (aSh m c) (ix3 (bt t) 0 k) :=
  (read1 (V m c (Pipeline.arrRef spec0 1)) t (ix3 0 0 k) (ix3 (bt t) 0 k) (emb1 t k)).trans (congrFun (Vv0 m c) _)
theorem read2 (A : (Pipeline.arrRef spec0 2).ty.Contents (Elt Ideal)) (t : Fin cfg0.N) (x : ((cfg0.win 2).xblock (cfg0.grid.coords t)).Idx) (j : S2x1x1024.Idx) (e : (win0_2.rect t).emb x = j) :
    View.read (Elt Ideal) ((cfg0.win 2).blk t).view A x = A j := e ▸ rfl
theorem blk2 (k : Fin 1024) : (iblk m c 2 t : Vec Ideal S1x1x1024 .f32) (ix3 0 0 k) = mid (aSc m c) (ix3 (bt t) 0 k) :=
  (read2 (V m c (Pipeline.arrRef spec0 2)) t (ix3 0 0 k) (ix3 (bt t) 0 k) (emb2 t k)).trans (congrFun (Vv1 m c) _)
theorem read3 (A : (Pipeline.arrRef spec0 3).ty.Contents (Elt Ideal)) (t : Fin cfg0.N) (x : ((cfg0.win 3).xblock (cfg0.grid.coords t)).Idx) (j : S1x1024.Idx) (e : (win0_3.rect t).emb x = j) :
    View.read (Elt Ideal) ((cfg0.win 3).blk t).view A x = A j := e ▸ rfl
theorem blk3 (k : Fin 1024) : (iblk m c 3 t : Vec Ideal S1x1024 .f32) (ix2 0 k) = row1024 (aG m c) (ix2 0 k) :=
  (read3 (V m c (Pipeline.arrRef spec0 3)) t (ix2 0 k) (ix2 0 k) (emb3 t k)).trans (congrFun (Vv70 m c) _)
theorem read4 (A : (Pipeline.arrRef spec0 4).ty.Contents (Elt Ideal)) (t : Fin cfg0.N) (x : ((cfg0.win 4).xblock (cfg0.grid.coords t)).Idx) (j : S1024x3200.Idx) (e : (win0_4.rect t).emb x = j) :
    View.read (Elt Ideal) ((cfg0.win 4).blk t).view A x = A j := e ▸ rfl
theorem blk4 (k : Fin 1024) (i : Fin 3200) : (iblk m c 4 t : Vec Ideal S1024x3200 .bf16) (ix2 k i) = wn (aW m c) (ix2 k i) :=
  (read4 (V m c (Pipeline.arrRef spec0 4)) t (ix2 k i) (ix2 k i) (emb4 t k i)).trans (congrFun (Vv17 m c) _)
theorem read6 (A : (Pipeline.arrRef spec0 6).ty.Contents (Elt Ideal)) (t : Fin cfg0.N) (x : ((cfg0.win 6).xblock (cfg0.grid.coords t)).Idx) (j : S1x128.Idx) (e : (win0_6.rect t).emb x = j) :
    View.read (Elt Ideal) ((cfg0.win 6).blk t).view A x = A j := e ▸ rfl
theorem blk6 (l : Fin 128) : (iblk m c 6 t : Vec Ideal S1x128 .f32) (ix2 0 l) = row128 (widen1 (aB m c) (constantI S_ 32 0#32)) (ix2 0 l) :=
  (read6 (V m c (Pipeline.arrRef spec0 6)) t (ix2 0 l) (ix2 0 l) (emb6 t l)).trans (congrFun (Vv26 m c) _)
theorem read7 (A : (Pipeline.arrRef spec0 7).ty.Contents (Elt Ideal)) (t : Fin cfg0.N) (x : ((cfg0.win 7).xblock (cfg0.grid.coords t)).Idx) (j : S3x8192x128.Idx) (e : (win0_7.rect t).emb x = j) :
    View.read (Elt Ideal) ((cfg0.win 7).blk t).view A x = A j := e ▸ rfl
theorem blk7 (q : Fin 3) (r : Fin 256) (e : Fin 128) : (iblk m c 7 t : Vec Ideal S3x256x128 .f32) (ix3 q r e) = tabs (ix3 q (st t r) e) :=
  (read7 (V m c (Pipeline.arrRef spec0 7)) t (ix3 q r e) (ix3 q (st t r) e) (emb7 t q r e)).trans (congrFun (Vv61 m c) _)
end
end Cert.Proj
-- ==== Proof.ProjPoint.lean ====
module
public import proofs.«01_k».proof.Proof.ProjBlocks
@[expose] public section
/-! # The projection call: what a grid point leaves in its first five output blocks -/
set_option maxRecDepth 16384
noncomputable section
namespace Cert.Proj
open Cert.Kernel2Ideal Cert.Kernel2Ideal.Gen Idealize.ShloMosaic Idealize.ShloMosaic.TcCoe Idealize.ShloMosaic.Tactic

/-- The block of rotated keys: two heads to a tile. -/
theorem km_canon (v : FVec Ideal S256x1024 .f32) (t0 t1 t2 : FVec Ideal S1x256x128 .f32)
    (hc : ∀ y, ∃ p ∈ kmList (F := Ideal) v t0 t1 t2, y ∈ p.1.set) (kh : Nat → Fin 256 → Nat → EReal)
    (hk : ∀ (n : Fin 8) (r : Fin 256) (e : Fin 128), khv v t0 t1 t2 (128 * n.val) (by omega) r e = kh n.val r e.val)
    (q : Fin 4) (r : Fin 256) (e : Fin 128) :
    View.canon (kmList (F := Ideal) v t0 t1 t2) (ix3 0 r ⟨128 * q.val + e.val, by omega⟩)
      = kh (2 * q.val) r e.val + kh (2 * q.val + 1) r ((e.val + 128 - 64) % 128) := by
  refine View.canon_eq_of_allAt _ _ _ (hc _) ?_
  have hs : ∀ (n n' : Fin 8) (r : Fin 256) (e : Fin 128), khv v t0 t1 t2 (128 * n.val) (by omega) r e + khv v t0 t1 t2 (128 * n'.val) (by omega) r ⟨(e.val + 128 - 64) % 128, by omega⟩
      = kh n.val r e.val + kh n'.val r ((e.val + 128 - 64) % 128) := fun n n' r e => congrArg₂ (· + ·) (hk n r e) (hk n' r ⟨(e.val + 128 - 64) % 128, by omega⟩)
  let f : Nat → Fin 256 → Nat → EReal := fun q r e => kh (2 * q) r e + kh (2 * q + 1) r ((e + 128 - 64) % 128)
  unfold kmList
  refine View.allAt_cons_unit _ _ _ _ _ (piece_at 3 _ f (fun r e => ?_) _ rfl q r e) ?_
  · exact (pair3 _ _ r e).trans ((congrArg₂ (· + ·) (head6 v t0 t1 t2 r e) (head7 v t0 t1 t2 r _)).trans (hs 6 7 r e))
  refine View.allAt_cons_unit _ _ _ _ _ (piece_at 2 _ f (fun r e => ?_) _ rfl q r e) ?_
  · exact (pair2 _ _ r e).trans ((congrArg₂ (· + ·) (head4 v t0 t1 t2 r e) (head5 v t0 t1 t2 r _)).trans (hs 4 5 r e))
  refine View.allAt_cons_unit _ _ _ _ _ (piece_at 1 _ f (fun r e => ?_) _ rfl q r e) ?_
  · exact (pair1 _ _ r e).trans ((congrArg₂ (· + ·) (head2 v t0 t1 t2 r e) (head3 v t0 t1 t2 r _)).trans (hs 2 3 r e))
  refine View.allAt_cons_unit _ _ _ _ _ (piece_at 0 _ f (fun r e => ?_) _ rfl q r e) ?_
  · exact (pair0 _ _ r e).trans ((congrArg₂ (· + ·) (head0 v t0 t1 t2 r e) (head1 v t0 t1 t2 r _)).trans (hs 0 1 r e))
  exact View.allAt_nil _ _

/-- The block of the second keys, likewise. -/
theorem kf_canon (v : FVec Ideal S256x1024 .f32)
    (hc : ∀ y, ∃ p ∈ kfList (F := Ideal) v, y ∈ p.1.set) (kh : Nat → Fin 256 → Nat → EReal)
    (hk : ∀ (n : Fin 8) (r : Fin 256) (e : Fin 128), v (ix2 r ⟨128 * n.val + e.val, by omega⟩) = kh n.val r e.val)
    (q : Fin 4) (r : Fin 256) (e : Fin 128) :
    View.canon (kfList (F := Ideal) v) (ix3 0 r ⟨128 * q.val + e.val, by omega⟩)
      = kh (2 * q.val) r e.val + kh (2 * q.val + 1) r ((e.val + 128 - 64) % 128) := by
  refine View.canon_eq_of_allAt _ _ _ (hc _) ?_
  have hs : ∀ (n n' : Fin 8) (r : Fin 256) (e : Fin 128), v (ix2 r ⟨128 * n.val + e.val, by omega⟩) + v (ix2 r ⟨128 * n'.val + (e.val + 128 - 64) % 128, by omega⟩)
      = kh n.val r e.val + kh n'.val r ((e.val + 128 - 64) % 128) := fun n n' r e => congrArg₂ (· + ·) (hk n r e) (hk n' r ⟨(e.val + 128 - 64) % 128, by omega⟩)
  let f : Nat → Fin 256 → Nat → EReal := fun q r e => kh (2 * q) r e + kh (2 * q + 1) r ((e + 128 - 64) % 128)
  unfold kfList
  refine View.allAt_cons_unit _ _ _ _ _ (piece_at 3 _ f (fun r e => ?_) _ rfl q r e) ?_
  · exact (gated3 v r e).trans (hs 6 7 r e)
  refine View.allAt_cons_unit _ _ _ _ _ (piece_at 2 _ f (fun r e => ?_) _ rfl q r e) ?_
  · exact (gated2 v r e).trans (hs 4 5 r e)
  refine View.allAt_cons_unit _ _ _ _ _ (piece_at 1 _ f (fun r e => ?_) _ rfl q r e) ?_
  · exact (gated1 v r e).trans (hs 2 3 r e)
  refine View.allAt_cons_unit _ _ _ _ _ (piece_at 0 _ f (fun r e => ?_) _ rfl q r e) ?_
  · exact (gated0 v r e).trans (hs 0 1 r e)
  exact View.allAt_nil _ _

/-- A table of a block of rotations is one of its three layers. -/
theorem rot_at (x : Vec Ideal S3x256x128 .f32) (r : Fin 256) (e : Fin 128) :
    rot0 x (ix3 0 r e) = x (ix3 0 r e) ∧ rot1 x (ix3 0 r e) = x (ix3 1 r e) ∧ rot2 x (ix3 0 r e) = x (ix3 2 r e) := by
  refine ⟨?_, ?_, ?_⟩
  all_goals
    refine View.ld_unit_apply_of (S := S3x256x128) x _ _ _ _ _ fun a => ?_
    match a with
    | 0 => rfl
    | 1 => exact (Nat.zero_add _).symm
    | 2 => exact (Nat.zero_add _).symm

section
variable {F : FTy → Type} [FloatOps F] (m : (ℓ : Loc nD τ sig) → Buf (Elt F) ℓ) (c : Dev nD) (t : Fin cfg0.N)

/-- A block written by pieces that cover it holds what the pieces hold. -/
theorem left_of {sp} {s : Shape} {e : EltTy} (v : View sig .tc sp s e) (f : v.ty.Contents (Elt F)) (L X : List (View.Piece (Elt F) s e)) (hX : L = X)
    (h : ∀ y, ∃ p ∈ L, y ∈ p.1.set) (o : Vec F s e) (ho : o = v.read (Elt F) (v.writes (Elt F) f L)) : o = View.canon X ∧ ∀ y, ∃ p ∈ X, y ∈ p.1.set := by
  subst hX
  exact ⟨ho.trans (View.read_writes_eq_canon v f L h), h⟩

/-! The five blocks as the runs write them. -/

theorem rawA_12 (h0 : t.val % 32 = 0) : (outsA m c t h0).1 = VO0_12.read (Elt F) (VO0_12.writes (Elt F) VO0_12.junk (runA m c t h0).1) := by
  unfold outsA
  with_reducible rfl
theorem rawA_13 (h0 : t.val % 32 = 0) : (outsA m c t h0).2.1 = VO0_13.read (Elt F) (VO0_13.writes (Elt F) VO0_13.junk (runA m c t h0).2.1) := by
  unfold outsA
  with_reducible rfl
theorem rawA_14 (h0 : t.val % 32 = 0) : (outsA m c t h0).2.2.1 = VO0_14.read (Elt F) (VO0_14.writes (Elt F) VO0_14.junk (runA m c t h0).2.2.1) := by
  unfold outsA
  with_reducible rfl
theorem rawA_15 (h0 : t.val % 32 = 0) : (outsA m c t h0).2.2.2.1 = VO0_15.read (Elt F) (VO0_15.writes (Elt F) VO0_15.junk (runA m c t h0).2.2.2.1) := by
  unfold outsA
  with_reducible rfl
theorem rawA_16 (h0 : t.val % 32 = 0) : (outsA m c t h0).2.2.2.2.1 = VO0_16.read (Elt F) (VO0_16.writes (Elt F) VO0_16.junk (runA m c t h0).2.2.2.2.1) := by
  unfold outsA
  with_reducible rfl
theorem rawB_12 (h0 : ¬t.val % 32 = 0) (s : Vec F S8x128 .f32) : (outsB m c t h0 s).1 = VO0_12.read (Elt F) (VO0_12.writes (Elt F) VO0_12.junk (runB m c t h0 s).1) := by
  unfold outsB
  with_reducible rfl
theorem rawB_13 (h0 : ¬t.val % 32 = 0) (s : Vec F S8x128 .f32) : (outsB m c t h0 s).2.1 = VO0_13.read (Elt F) (VO0_13.writes (Elt F) VO0_13.junk (runB m c t h0 s).2.1) := by
  unfold outsB
  with_reducible rfl
theorem rawB_14 (h0 : ¬t.val % 32 = 0) (s : Vec F S8x128 .f32) : (outsB m c t h0 s).2.2.1 = VO0_14.read (Elt F) (VO0_14.writes (Elt F) VO0_14.junk (runB m c t h0 s).2.2.1) := by
  unfold outsB
  with_reducible rfl
theorem rawB_15 (h0 : ¬t.val % 32 = 0) (s : Vec F S8x128 .f32) : (outsB m c t h0 s).2.2.2.1 = VO0_15.read (Elt F) (VO0_15.writes (Elt F) VO0_15.junk (runB m c t h0 s).2.2.2.1) := by
  unfold outsB
  with_reducible rfl
theorem rawB_16 (h0 : ¬t.val % 32 = 0) (s : Vec F S8x128 .f32) : (outsB m c t h0 s).2.2.2.2.1 = VO0_16.read (Elt F) (VO0_16.writes (Elt F) VO0_16.junk (runB m c t h0 s).2.2.2.2.1) := by
  unfold outsB
  with_reducible rfl
end

section
variable (m : (ℓ : Loc nD τ sig) → Buf (Elt Ideal) ℓ) (c : Dev nD) (t : Fin cfg0.N)
/-- The input blocks the projection reads. -/
abbrev bX : FVec Ideal S1x256x1024 .f32 := iblk m c 0 t
@[inherit_doc bX] abbrev bG : FVec Ideal S1x1024 .f32 := iblk m c 3 t
@[inherit_doc bX] abbrev bSc : FVec Ideal S1x1x1024 .f32 := iblk m c 2 t
@[inherit_doc bX] abbrev bSh : FVec Ideal S1x1x1024 .f32 := iblk m c 1 t
@[inherit_doc bX] abbrev bW : FVec Ideal S1024x3200 .bf16 := iblk m c 4 t
@[inherit_doc bX] abbrev bB : FVec Ideal S1x128 .f32 := iblk m c 6 t
@[inherit_doc bX] abbrev bT : FVec Ideal S3x256x128 .f32 := iblk m c 7 t

/-- What the first five of a point's blocks are to be. -/
def Five (o : Left Ideal) : Prop :=
    (o.1 = View.canon (kmList (F := Ideal) (k0_pay5 (F := Ideal) (bX m c t) (bG m c t) (bSc m c t) (bSh m c t) (bW m c t)) (rot0 (bT m c t)) (rot1 (bT m c t)) (rot2 (bT m c t)))
      ∧ ∀ y, ∃ p ∈ kmList (F := Ideal) (k0_pay5 (F := Ideal) (bX m c t) (bG m c t) (bSc m c t) (bSh m c t) (bW m c t)) (rot0 (bT m c t)) (rot1 (bT m c t)) (rot2 (bT m c t)), y ∈ p.1.set)
    ∧ o.2.1 = k0_pay8 (F := Ideal) (k0_pay7 (F := Ideal) (bX m c t) (bG m c t) (bSc m c t) (bSh m c t) (bW m c t))
    ∧ (o.2.2.1 = View.canon (kfList (F := Ideal) (k0_pay6 (F := Ideal) (bX m c t) (bG m c t) (bSc m c t) (bSh m c t) (bW m c t)))
      ∧ ∀ y, ∃ p ∈ kfList (F := Ideal) (k0_pay6 (F := Ideal) (bX m c t) (bG m c t) (bSc m c t) (bSh m c t) (bW m c t)), y ∈ p.1.set)
    ∧ o.2.2.2.1 = k0_pay9 (F := Ideal) (k0_pay3 (F := Ideal) (bX m c t) (bG m c t) (bSc m c t) (bSh m c t) (bW m c t))
    ∧ o.2.2.2.2.1 = k0_pay57 (F := Ideal) (k0_pay56 (k0_pay10 (k0_pay3 (F := Ideal) (bX m c t) (bG m c t) (bSc m c t) (bSh m c t) (bW m c t))) (bB m c t))

theorem zeros : ∀ a : Fin 3, (![0, 0, 0] : Fin 3 → Nat) a = 0 := by decide

theorem fiveA (h0 : t.val % 32 = 0) : Five m c t (outsA m c t h0) := by
  have p := piecesA m c t h0
  refine ⟨?_, ?_, ?_, ?_, ?_⟩
  · exact left_of VO0_12 _ _ _ p.1 (coverA_12 m c t h0) _ (rawA_12 m c t h0)
  · exact (left_of VO0_13 _ _ _ p.2.1 (coverA_13 m c t h0) _ (rawA_13 m c t h0)).1.trans (View.canon_cons_unit_lit _ _ _ zeros)
  · exact left_of VO0_14 _ _ _ p.2.2.1 (coverA_14 m c t h0) _ (rawA_14 m c t h0)
  · exact (left_of VO0_15 _ _ _ p.2.2.2.1 (coverA_15 m c t h0) _ (rawA_15 m c t h0)).1.trans (View.canon_cons_unit_lit _ _ _ zeros)
  · exact (left_of VO0_16 _ _ _ p.2.2.2.2 (coverA_16 m c t h0) _ (rawA_16 m c t h0)).1.trans (View.canon_cons_unit_lit _ _ _ zeros)

theorem fiveB (h0 : ¬t.val % 32 = 0) (s : Vec Ideal S8x128 .f32) : Five m c t (outsB m c t h0 s) := by
  have p := piecesB m c t h0 s
  refine ⟨?_, ?_, ?_, ?_, ?_⟩
  · exact left_of VO0_12 _ _ _ p.1 (coverB_12 m c t h0 s) _ (rawB_12 m c t h0 s)
  · exact (left_of VO0_13 _ _ _ p.2.1 (coverB_13 m c t h0 s) _ (rawB_13 m c t h0 s)).1.trans (View.canon_cons_unit_lit _ _ _ zeros)
  · exact left_of VO0_14 _ _ _ p.2.2.1 (coverB_14 m c t h0 s) _ (rawB_14 m c t h0 s)
  · exact (left_of VO0_15 _ _ _ p.2.2.2.1 (coverB_15 m c t h0 s) _ (rawB_15 m c t h0 s)).1.trans (View.canon_cons_unit_lit _ _ _ zeros)
  · exact (left_of VO0_16 _ _ _ p.2.2.2.2 (coverB_16 m c t h0 s) _ (rawB_16 m c t h0 s)).1.trans (View.canon_cons_unit_lit _ _ _ zeros)

/-- What the five blocks are. -/
theorem outs_eq : Five m c t (outsAt0 m c t.val t.isLt) := by
  by_cases h0 : t.val % 32 = 0
  · rw [outsAt0_A m c t h0]
    exact fiveA m c t h0
  · rw [outsAt0_B m c t h0]
    exact fiveB m c t h0 _

/-- A column of the reference's projection, at the token of row `r`. -/
abbrev rcol (r : Fin 256) (i : Fin 3080) : EReal := Ref.col (aX m c) (aSh m c) (aSc m c) (aG m c) (aW m c) (bt t) (st t r) i

/-- A column of the block's projection whose weights are a column of the reference's. -/
theorem pc_col (r : Fin 256) (j : Fin 3200) (i : Fin 3080) (h : ∀ k, wn (aW m c) (ix2 k j) = aW m c (ix2 k i)) :
    pc (bX m c t) (bG m c t) (bSc m c t) (bSh m c t) (bW m c t) r j = rcol m c t r i := by
  have e0 : (fun k => bX m c t (ix3 0 r k)) = fun k => aX m c (ix3 (bt t) (st t r) k) := funext fun k => blk0 m c t r k
  have e3 : (fun k => bG m c t (ix2 0 k)) = fun k => aG m c (ix1 k) := funext fun k => (blk3 m c t k).trans (row1024_at _ k)
  have e2 : (fun k => bSc m c t (ix3 0 0 k)) = fun k => aSc m c (ix2 (bt t) k) := funext fun k => (blk2 m c t k).trans (mid_at _ _ k)
  have e1 : (fun k => bSh m c t (ix3 0 0 k)) = fun k => aSh m c (ix2 (bt t) k) := funext fun k => (blk1 m c t k).trans (mid_at _ _ k)
  have e4 : (fun k => bW m c t (ix2 k j)) = fun k => aW m c (ix2 k i) := funext fun k => (blk4 m c t k j).trans (h k)
  unfold pc rcol Ref.col
  rw [e0, e1, e2, e3, e4]

/-- A column of the block's projection whose weights are zeros. -/
theorem pc_zero (r : Fin 256) (j : Fin 3200) (h : ∀ k, wn (aW m c) (ix2 k j) = 0) :
    pc (bX m c t) (bG m c t) (bSc m c t) (bSh m c t) (bW m c t) r j = 0 :=
  proj_zero _ _ _ _ _ fun k => (blk4 m c t k j).trans (h k)

/-- The block of values. -/
theorem vm_point (r : Fin 256) (e : Fin 512) :
    (outsAt0 m c t.val t.isLt).2.1 (ix3 0 r e) = Cert.Reference2Ideal.Read.val_main_v24 (F := Ideal) (aX m c) (aSh m c) (aSc m c) (aG m c) (aW m c) (ix3 (bt t) (st t r) e) := by
  rw [(outs_eq m c t).2.1, pay8_at, Ref.vm_at]
  exact pc_col m c t r _ _ fun k => wn_v _ k e

/-- The block of the second values. -/
theorem vf_point (r : Fin 256) (e : Fin 512) :
    (outsAt0 m c t.val t.isLt).2.2.2.1 (ix3 0 r e) = Cert.Reference2Ideal.Read.val_main_v27 (F := Ideal) (aX m c) (aSh m c) (aSc m c) (aG m c) (aW m c) (ix3 (bt t) (st t r) e) := by
  rw [(outs_eq m c t).2.2.2.1, pay9_at, Ref.vf_at]
  exact pc_col m c t r _ _ fun k => wn_g _ k e

/-- The block of log forget gates. -/
theorem logf_point (r : Fin 256) (l : Fin 128) :
    (outsAt0 m c t.val t.isLt).2.2.2.2.1 (ix3 0 r l) = Cert.Reference2Ideal.Read.val_main_v67 (F := Ideal) (aX m c) (aSh m c) (aSc m c) (aG m c) (aW m c) (aB m c) (ix3 (bt t) (st t r) l) := by
  rw [(outs_eq m c t).2.2.2.2, pay57_at, Ref.logf_at]
  by_cases h : l.val < 8
  · rw [if_pos h, dif_pos h]
    have e1 := pc_col m c t r ⟨3072 + l.val, by omega⟩ ⟨3072 + l.val, by omega⟩ fun k => (wn_l _ k l).trans (dif_pos h)
    have e2 : bB m c t (ix2 0 l) = aB m c (ix1 ⟨l.val, h⟩) := (blk6 m c t l).trans ((bias_at _ l).trans (dif_pos h))
    rw [e1, e2]
  · rw [if_neg h, dif_neg h]

/-- The block of rotated keys. -/
theorem km_point (r : Fin 256) (n : Fin 8) (d : Fin 64) :
    (outsAt0 m c t.val t.isLt).1 (ix3 0 r ⟨64 * n.val + d.val, by omega⟩)
      = Cert.Reference2Ideal.Read.val_main_v66 (F := Ideal) (aX m c) (aSh m c) (aSc m c) (aG m c) (aW m c) (ix3 (bt t) (st t r) ⟨64 * n.val + d.val, by omega⟩) := by
  rw [(outs_eq m c t).1.1, Ref.km_at]
  have hk : ∀ (n : Fin 8) (r : Fin 256) (e : Fin 128),
      khv (k0_pay5 (F := Ideal) (bX m c t) (bG m c t) (bSc m c t) (bSh m c t) (bW m c t)) (rot0 (F := Ideal) (bT m c t)) (rot1 (F := Ideal) (bT m c t)) (rot2 (F := Ideal) (bT m c t)) (128 * n.val) (by omega) r e
      = (fun n' (r : Fin 256) e => if e < 64 then (if h : n' < 8 then roped (Ref.key (aX m c) (aSh m c) (aSc m c) (aG m c) (aW m c) (bt t) (st t r) ⟨n', h⟩) (Ref.co (st t r)) (Ref.si (st t r)) e else 0) else 0) n.val r e.val := by
    intro n r e
    have hv : ∀ e : Fin 128, k0_pay5 (F := Ideal) (bX m c t) (bG m c t) (bSc m c t) (bSh m c t) (bW m c t) (ix2 r ⟨128 * n.val + e.val, by omega⟩)
        = if e.val < 64 then Ref.key (aX m c) (aSh m c) (aSc m c) (aG m c) (aW m c) (bt t) (st t r) n e.val else 0 := by
      intro e
      rw [pay5_at]
      by_cases h : e.val < 64
      · rw [if_pos h, Ref.key, dif_pos h]
        exact pc_col m c t r _ _ fun k => (wn_k _ k n e).trans (dif_pos h)
      · rw [if_neg h]
        exact pc_zero m c t r _ fun k => (wn_k _ k n e).trans (dif_neg h)
    have key := rope_lane (fun e => if e < 64 then Ref.key (aX m c) (aSh m c) (aSc m c) (aG m c) (aW m c) (bt t) (st t r) n e else 0)
      (Ref.key (aX m c) (aSh m c) (aSc m c) (aG m c) (aW m c) (bt t) (st t r) n) (Ref.co (st t r)) (Ref.si (st t r)) (fun e _ => rfl) e.val e.isLt
    have r0 : rot0 (F := Ideal) (bT m c t) (ix3 0 r e) = _ := ((rot_at (bT m c t) r e).1).trans ((blk7 m c t 0 r e).trans (tab0 _ e))
    have r1 : rot1 (F := Ideal) (bT m c t) (ix3 0 r e) = _ := ((rot_at (bT m c t) r e).2.1).trans ((blk7 m c t 1 r e).trans (tab1 _ e))
    have r2 : rot2 (F := Ideal) (bT m c t) (ix3 0 r e) = _ := ((rot_at (bT m c t) r e).2.2).trans ((blk7 m c t 2 r e).trans (tab2 _ e))
    unfold khv
    rw [r0, r1, r2, hv e, hv ⟨(e.val + 128 - 120) % 128, by omega⟩, hv ⟨(e.val + 128 - 8) % 128, by omega⟩]
    refine key.trans ?_
    show _ = if e.val < 64 then (if h : n.val < 8 then _ else 0) else 0
    rw [dif_pos n.isLt]
  have hq := km_canon _ _ _ _ (outs_eq m c t).1.2
    (fun n' (r : Fin 256) e => if e < 64 then (if h : n' < 8 then roped (Ref.key (aX m c) (aSh m c) (aSc m c) (aG m c) (aW m c) (bt t) (st t r) ⟨n', h⟩) (Ref.co (st t r)) (Ref.si (st t r)) e else 0) else 0) hk ⟨n.val / 2, by omega⟩ r ⟨64 * (n.val % 2) + d.val, by omega⟩
  have hi : (⟨64 * n.val + d.val, by omega⟩ : Fin 512) = ⟨128 * (n.val / 2) + (64 * (n.val % 2) + d.val), by omega⟩ := Fin.ext (by show 64 * n.val + d.val = 128 * (n.val / 2) + (64 * (n.val % 2) + d.val); omega)
  rw [hi]
  refine hq.trans ((side (fun n' e => if h : n' < 8 then roped (Ref.key (aX m c) (aSh m c) (aSc m c) (aG m c) (aW m c) (bt t) (st t r) ⟨n', h⟩) (Ref.co (st t r)) (Ref.si (st t r)) e else 0) n.val n.isLt d.val d.isLt).trans ?_)
  rw [dif_pos n.isLt]

/-- The block of the second keys. -/
theorem kf_point (r : Fin 256) (n : Fin 8) (d : Fin 64) :
    (outsAt0 m c t.val t.isLt).2.2.1 (ix3 0 r ⟨64 * n.val + d.val, by omega⟩)
      = Cert.Reference2Ideal.Read.val_main_v26 (F := Ideal) (aX m c) (aSh m c) (aSc m c) (aG m c) (aW m c) (ix3 (bt t) (st t r) ⟨64 * n.val + d.val, by omega⟩) := by
  rw [(outs_eq m c t).2.2.1.1, Ref.kf_at]
  have hk : ∀ (n : Fin 8) (r : Fin 256) (e : Fin 128),
      k0_pay6 (F := Ideal) (bX m c t) (bG m c t) (bSc m c t) (bSh m c t) (bW m c t) (ix2 r ⟨128 * n.val + e.val, by omega⟩)
      = (fun n' (r : Fin 256) e => if e < 64 then (if h : n' < 8 ∧ e < 64 then rcol m c t r ⟨2048 + (64 * n' + e), by omega⟩ else 0) else 0) n.val r e.val := by
    intro n r e
    show _ = if e.val < 64 then (if h : n.val < 8 ∧ e.val < 64 then _ else 0) else 0
    rw [pay6_at]
    by_cases h : e.val < 64
    · rw [if_pos h, dif_pos ⟨n.isLt, h⟩]
      exact pc_col m c t r _ _ fun k => (wn_f _ k n e).trans (dif_pos h)
    · rw [if_neg h]
      exact pc_zero m c t r _ fun k => (wn_f _ k n e).trans (dif_neg h)
  have hq := kf_canon _ (outs_eq m c t).2.2.1.2
    (fun n' (r : Fin 256) e => if e < 64 then (if h : n' < 8 ∧ e < 64 then rcol m c t r ⟨2048 + (64 * n' + e), by omega⟩ else 0) else 0) hk ⟨n.val / 2, by omega⟩ r ⟨64 * (n.val % 2) + d.val, by omega⟩
  have hi : (⟨64 * n.val + d.val, by omega⟩ : Fin 512) = ⟨128 * (n.val / 2) + (64 * (n.val % 2) + d.val), by omega⟩ := Fin.ext (by show 64 * n.val + d.val = 128 * (n.val / 2) + (64 * (n.val % 2) + d.val); omega)
  have e1 := hq.trans (side (fun n' e => if h : n' < 8 ∧ e < 64 then rcol m c t r ⟨2048 + (64 * n' + e), by omega⟩ else 0) n.val n.isLt d.val d.isLt)
  rw [dif_pos ⟨n.isLt, d.isLt⟩] at e1
  exact (congrArg (fun i => View.canon (kfList (F := Ideal) (k0_pay6 (F := Ideal) (bX m c t) (bG m c t) (bSc m c t) (bSh m c t) (bW m c t))) (ix3 0 r i)) hi).trans e1
end
end Cert.Proj
-- ==== Proof.ProjWhole.lean ====
module
public import proofs.«01_k».proof.Proof.ProjPoint
public import Idealize.ShloMosaic.Lib.Pipeline.ValueKit
@[expose] public section
/-! # The projection call: its first five arrays

Every entry is written by one grid point, so that the arrays after the run are the reference's results. -/
set_option maxRecDepth 16384
noncomputable section
namespace Cert.Proj
open Cert.Kernel2Ideal Cert.Kernel2Ideal.Gen Idealize.ShloMosaic Idealize.ShloMosaic.TcCoe Idealize.ShloMosaic.Tactic
open Idealize.ShloMosaic.Pipeline (Dat)
variable (m : (ℓ : Loc nD τ sig) → Buf (Elt Ideal) ℓ) (c : Dev nD)

/-- The reference's five results of the call's arguments. -/
abbrev wantKm : Vec Ideal S2x8192x512 .f32 := Cert.Reference2Ideal.Read.val_main_v66 (F := Ideal) (aX m c) (aSh m c) (aSc m c) (aG m c) (aW m c)
@[inherit_doc wantKm] abbrev wantVm : Vec Ideal S2x8192x512 .f32 := Cert.Reference2Ideal.Read.val_main_v24 (F := Ideal) (aX m c) (aSh m c) (aSc m c) (aG m c) (aW m c)
@[inherit_doc wantKm] abbrev wantKf : Vec Ideal S2x8192x512 .f32 := Cert.Reference2Ideal.Read.val_main_v26 (F := Ideal) (aX m c) (aSh m c) (aSc m c) (aG m c) (aW m c)
@[inherit_doc wantKm] abbrev wantVf : Vec Ideal S2x8192x512 .f32 := Cert.Reference2Ideal.Read.val_main_v27 (F := Ideal) (aX m c) (aSh m c) (aSc m c) (aG m c) (aW m c)
@[inherit_doc wantKm] abbrev wantLf : Vec Ideal S2x8192x128 .f32 := Cert.Reference2Ideal.Read.val_main_v67 (F := Ideal) (aX m c) (aSh m c) (aSc m c) (aG m c) (aW m c) (aB m c)

/-- An entry of a block of 512 columns is one of a head's 64. -/
theorem lanes (y : S1x256x512.Idx) : ∃ (r : Fin 256) (n : Fin 8) (d : Fin 64), y = ix3 0 r ⟨64 * n.val + d.val, by omega⟩ := by
  obtain ⟨a, r, e, rfl⟩ : ∃ (a : Fin 1) (r : Fin 256) (e : Fin 512), y = ix3 a r e := ⟨y 0, y 1, y 2, by
    funext k; match k with | 0 => rfl | 1 => rfl | 2 => rfl⟩
  obtain rfl : a = 0 := Fin.fin_one_eq_zero a
  exact ⟨r, ⟨e.val / 64, by omega⟩, ⟨e.val % 64, by omega⟩, congrArg (ix3 0 r) (Fin.ext (by show e.val = 64 * (e.val / 64) + e.val % 64; omega))⟩

theorem array12 : (dats m 0 c).arrAt 12 cfg0.N = wantKm m c := by
  refine Dat.arrAt_eq_of_covers (dats m 0 c) 12 (wantKm m c) (by decide +kernel) (fun t hfl y => ?_)
  have key : ∀ y : S1x256x512.Idx, (outsAt0 m c t.val t.isLt).1 y = wantKm m c ((win0_12.rect t).emb y) := by
    intro y
    obtain ⟨r, n, d, rfl⟩ := lanes y
    exact (km_point m c t r n d).trans (congrArg (wantKm m c) (emb12 t r _).symm)
  blk_simp
  rw [after0_12]
  exact key _

theorem array13 : (dats m 0 c).arrAt 13 cfg0.N = wantVm m c := by
  refine Dat.arrAt_eq_of_covers (dats m 0 c) 13 (wantVm m c) (by decide +kernel) (fun t hfl y => ?_)
  have key : ∀ y : S1x256x512.Idx, (outsAt0 m c t.val t.isLt).2.1 y = wantVm m c ((win0_13.rect t).emb y) := by
    intro y
    obtain ⟨r, n, d, rfl⟩ := lanes y
    exact (vm_point m c t r _).trans (congrArg (wantVm m c) (emb13 t r _).symm)
  blk_simp
  rw [after0_13]
  exact key _

theorem array14 : (dats m 0 c).arrAt 14 cfg0.N = wantKf m c := by
  refine Dat.arrAt_eq_of_covers (dats m 0 c) 14 (wantKf m c) (by decide +kernel) (fun t hfl y => ?_)
  have key : ∀ y : S1x256x512.Idx, (outsAt0 m c t.val t.isLt).2.2.1 y = wantKf m c ((win0_14.rect t).emb y) := by
    intro y
    obtain ⟨r, n, d, rfl⟩ := lanes y
    exact (kf_point m c t r n d).trans (congrArg (wantKf m c) (emb14 t r _).symm)
  blk_simp
  rw [after0_14]
  exact key _

theorem array15 : (dats m 0 c).arrAt 15 cfg0.N = wantVf m c := by
  refine Dat.arrAt_eq_of_covers (dats m 0 c) 15 (wantVf m c) (by decide +kernel) (fun t hfl y => ?_)
  have key : ∀ y : S1x256x512.Idx, (outsAt0 m c t.val t.isLt).2.2.2.1 y = wantVf m c ((win0_15.rect t).emb y) := by
    intro y
    obtain ⟨r, n, d, rfl⟩ := lanes y
    exact (vf_point m c t r _).trans (congrArg (wantVf m c) (emb15 t r _).symm)
  blk_simp
  rw [after0_15]
  exact key _

theorem array16 : (dats m 0 c).arrAt 16 cfg0.N = wantLf m c := by
  refine Dat.arrAt_eq_of_covers (dats m 0 c) 16 (wantLf m c) (by decide +kernel) (fun t hfl y => ?_)
  have key : ∀ y : S1x256x128.Idx, (outsAt0 m c t.val t.isLt).2.2.2.2.1 y = wantLf m c ((win0_16.rect t).emb y) := by
    intro y
    obtain ⟨a, r, e, rfl⟩ : ∃ (a : Fin 1) (r : Fin 256) (e : Fin 128), y = ix3 a r e := ⟨y 0, y 1, y 2, by
      funext k; match k with | 0 => rfl | 1 => rfl | 2 => rfl⟩
    obtain rfl : a = 0 := Fin.fin_one_eq_zero a
    exact (logf_point m c t r e).trans (congrArg (wantLf m c) (emb16 t r _).symm)
  blk_simp
  rw [after0_16]
  exact key _

end Cert.Proj
-- ==== Proof.ProjValue.lean ====
module
public import proofs.«01_k».proof.Proof.ProjRun
public import proofs.«01_k».proof.Proof.ProjWhole
@[expose] public section
/-! # The projection call: its run and its results -/
set_option maxRecDepth 16384
noncomputable section
namespace Cert.Proj
open Cert.Kernel2Ideal Cert.Kernel2Ideal.Gen Idealize.ShloMosaic Idealize.ShloMosaic.TcCoe Idealize.SL.Sem
section
variable {F : FTy → Type} [FloatOps F] (m : (ℓ : Loc nD τ sig) → Buf (Elt F) ℓ)
/-! After the run each array is what the points have written into it. -/

theorem post12 (r : PUnit × MemSt nD τ sig (Elt F)) (h : Pipeline.FramePost cfgs (dats m) 0 (V m) r) (c : Dev nD) :
    r.2.mem ((c : Thread nD τ).loc main_v71_0) = (dats m 0 c).arrAt 12 cfg0.N :=
  (h c).1 12

theorem post13 (r : PUnit × MemSt nD τ sig (Elt F)) (h : Pipeline.FramePost cfgs (dats m) 0 (V m) r) (c : Dev nD) :
    r.2.mem ((c : Thread nD τ).loc main_v71_1) = (dats m 0 c).arrAt 13 cfg0.N :=
  (h c).1 13

theorem post14 (r : PUnit × MemSt nD τ sig (Elt F)) (h : Pipeline.FramePost cfgs (dats m) 0 (V m) r) (c : Dev nD) :
    r.2.mem ((c : Thread nD τ).loc main_v71_2) = (dats m 0 c).arrAt 14 cfg0.N :=
  (h c).1 14

theorem post15 (r : PUnit × MemSt nD τ sig (Elt F)) (h : Pipeline.FramePost cfgs (dats m) 0 (V m) r) (c : Dev nD) :
    r.2.mem ((c : Thread nD τ).loc main_v71_3) = (dats m 0 c).arrAt 15 cfg0.N :=
  (h c).1 15

theorem post16 (r : PUnit × MemSt nD τ sig (Elt F)) (h : Pipeline.FramePost cfgs (dats m) 0 (V m) r) (c : Dev nD) :
    r.2.mem ((c : Thread nD τ).loc main_v71_4) = (dats m 0 c).arrAt 16 cfg0.N :=
  (h c).1 16

end

variable (m : (ℓ : Loc nD τ sig) → Buf (Elt Ideal) ℓ) (ρ : Dev nD → PrngReg)

/-- After the run the five arrays are the reference's results, the arguments what they were. -/
theorem run_values : θ_run defs (onTc (τ := τ) (main (F := Ideal))) ⟨m, fun _ => 0, ρ⟩ (fun r => ∀ c : Dev nD,
      r.2.mem ((c.tc : Thread nD τ).loc main_v71_0) = wantKm m c
      ∧ r.2.mem ((c.tc : Thread nD τ).loc main_v71_1) = wantVm m c
      ∧ r.2.mem ((c.tc : Thread nD τ).loc main_v71_2) = wantKf m c
      ∧ r.2.mem ((c.tc : Thread nD τ).loc main_v71_3) = wantVf m c
      ∧ r.2.mem ((c.tc : Thread nD τ).loc main_v71_4) = wantLf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(post12 m r h.1 c).trans (array12 m c), (post13 m r h.1 c).trans (array13 m c), (post14 m r h.1 c).trans (array14 m c),
    (post15 m r h.1 c).trans (array15 m c), (post16 m r h.1 c).trans (array16 m c), h.2 c⟩)
    (θ_run_and (run_main m ρ) (unchanged m ρ))

end Cert.Proj
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Whole
public import proofs.«01_k».proof.Proof.ProjValue
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.Tactic

/-- The reference terminates, leaves its arguments, and has no counters to leave raised. -/
theorem reference_frame : Cert.quiescent_ReferenceIdeal (hReferenceIdeal := Cert.ReferenceIdeal.Gen.facts) := fun m ρ _ =>
  (θ_run _ _ _).mono (fun r h => ⟨fun c => (h c).2, sem_eq_zero_of_no_sems rfl r.2⟩) (Cert.ReferenceIdeal.Value.run (F := Ideal) m ρ)

/-- The call's result is the reference's. -/
theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hargs
  refine ⟨fun c => Cert.Attn.want m c, ?_, ?_⟩
  · refine (θ_run _ _ _).mono (fun r h c => ?_) (Cert.KernelIdeal.Value.run_blocks (F := Ideal) m ρ)
    obtain ⟨hq, hk, hf⟩ := Cert.Attn.pre m hpre c
    exact ⟨(h c).1.trans (Cert.Attn.array m c hq hk hf), (h c).2⟩
  · refine (θ_run _ _ _).mono (fun r h c => ?_) (Cert.ReferenceIdeal.Value.run (F := Ideal) m' ρ')
    refine ⟨(h c).1.trans ?_, (h c).2⟩
    rw [Cert.ReferenceIdeal.Read.val_main_v32_eq, (hargs c).1, (hargs c).2.1, (hargs c).2.2.1, (hargs c).2.2.2]
    rfl

/-- The projection call on words: it terminates, leaves its arguments, and no counter raised. -/
theorem frame_Kernel2 : Cert.quiescent_Kernel2 (hKernel2 := Cert.Kernel2.Gen.facts) := by
  intro m ρ _
  refine Eq.mp ?_ (Cert.Proj.frame (F := Bits) m ρ)
  sl_kernel_rfl

/-- The projection call on extended reals, likewise. -/
theorem frame_Kernel2Ideal : Cert.quiescent_Kernel2Ideal (hKernel2Ideal := Cert.Kernel2Ideal.Gen.facts) := fun m ρ _ =>
  Cert.Proj.frame (F := Ideal) m ρ

/-- The projection's reference, likewise. -/
theorem frame_Reference2 : Cert.quiescent_Reference2Ideal (hReference2Ideal := Cert.Reference2Ideal.Gen.facts) := fun m ρ _ =>
  (θ_run _ _ _).mono (fun r h => ⟨fun c => (h c).2.2.2.2.2, sem_eq_zero_of_no_sems rfl r.2⟩) (Cert.Reference2Ideal.Value.run (F := Ideal) m ρ)

/-- The projection call's five results are the reference's. -/
theorem value2 : Cert.algebraic_Kernel2Ideal_Reference2Ideal (hKernel2Ideal := Cert.Kernel2Ideal.Gen.facts)
    (hReference2Ideal := Cert.Reference2Ideal.Gen.facts) := by
  intro m ρ m' ρ' _ hargs
  refine ⟨fun c => Cert.Proj.wantKm m c, fun c => Cert.Proj.wantVm m c, fun c => Cert.Proj.wantKf m c, fun c => Cert.Proj.wantVf m c,
    fun c => Cert.Proj.wantLf m c, Cert.Proj.run_values m ρ, ?_⟩
  refine (θ_run _ _ _).mono (fun r h c => ?_) (Cert.Reference2Ideal.Value.run (F := Ideal) m' ρ')
  obtain ⟨h0, h1, h2, h3, h4, h5⟩ := hargs c
  obtain ⟨r0, r1, r2, r3, r4, kept⟩ := h c
  refine ⟨r0.trans ?_, r1.trans ?_, r2.trans ?_, r3.trans ?_, r4.trans ?_, kept⟩
  · rw [Cert.Reference2Ideal.Read.val_main_v66_eq, h0, h1, h2, h3, h4]
  · rw [Cert.Reference2Ideal.Read.val_main_v24_eq, h0, h1, h2, h3, h4]
  · rw [Cert.Reference2Ideal.Read.val_main_v26_eq, h0, h1, h2, h3, h4]
  · rw [Cert.Reference2Ideal.Read.val_main_v27_eq, h0, h1, h2, h3, h4]
  · rw [Cert.Reference2Ideal.Read.val_main_v67_eq, h0, h1, h2, h3, h4, h5]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, frame_Kernel2, frame_Kernel2Ideal, frame_Reference2,
  trivial, value, trivial, value2⟩

end Cert.Proof

end
